-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S1024x2048 : Shape := ⟨2, ![1024, 2048]⟩
abbrev S4x256x2048 : Shape := ⟨3, ![4, 256, 2048]⟩
abbrev S4 : Shape := ⟨1, ![4]⟩
abbrev S_ : Shape := ⟨0, ![]⟩
abbrev S7 : Shape := ⟨1, ![7]⟩
abbrev S12 : Shape := ⟨1, ![12]⟩
abbrev S1 : Shape := ⟨1, ![1]⟩
abbrev S256x2048 : Shape := ⟨2, ![256, 2048]⟩
abbrev S1x256x2048 : Shape := ⟨3, ![1, 256, 2048]⟩
abbrev S256 : Shape := ⟨1, ![256]⟩
abbrev S256x1 : Shape := ⟨2, ![256, 1]⟩
abbrev S1x2048 : Shape := ⟨2, ![1, 2048]⟩

abbrev nBuf : Space → Nat
  | .hbm => 4
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S8192x2048, .f32⟩
  | .local _ .vmem, ⟨0, _⟩ => ⟨S2048, .f32⟩
  | .local _ .vmem, ⟨1, _⟩ => ⟨S1024x2048, .f32⟩
  | .local _ .vmem, ⟨2, _⟩ => ⟨S4x256x2048, .f32⟩
  | .local _ .vmem, ⟨3, _⟩ => ⟨S4x256x2048, .f32⟩
  | .local _ .vmem, ⟨4, _⟩ => ⟨S4x256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_20 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_17 v2
  let c8_i32_19 : BitVec 32 := 8#32
  let v30 : BitVec 32 := Scalar.muli v28 c8_i32_19
  let v31 : BitVec 32 := Scalar.addi c0_i32_20 v30
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_21 : BitVec 32 := 4#32
  let v32 : BitVec 32 := Scalar.muli v5 c4_i32_21
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v34 : BitVec 32 := Scalar.muli v8 c1_i32_22
  let v35 : BitVec 32 := Scalar.addi v33 v34
  v35.toNat
def k0_dev2 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_24 : BitVec 32 := 8#32
  let v36 : BitVec 32 := Scalar.muli v2 c8_i32_24
  let v37 : BitVec 32 := Scalar.addi c0_i32_25 v36
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_26 : BitVec 32 := 4#32
  let v38 : BitVec 32 := Scalar.muli v19 c4_i32_26
  let v39 : BitVec 32 := Scalar.addi v37 v38
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_27 : BitVec 32 := 1#32
  let v40 : BitVec 32 := Scalar.muli v22 c1_i32_27
  let v41 : BitVec 32 := Scalar.addi v39 v40
  v41.toNat
def k0_dev3 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v42 : BitVec 32 := Scalar.muli v2 c8_i32_29
  let v43 : BitVec 32 := Scalar.addi c0_i32_30 v42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_31 : BitVec 32 := 4#32
  let v44 : BitVec 32 := Scalar.muli v24 c4_i32_31
  let v45 : BitVec 32 := Scalar.addi v43 v44
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_32 : BitVec 32 := 1#32
  let v46 : BitVec 32 := Scalar.muli v27 c1_i32_32
  let v47 : BitVec 32 := Scalar.addi v45 v46
  v47.toNat
def k0_off1 (d0 : Dev nD) (c0_i32_33 : BitVec 32) : Fin 3 → Nat :=
  let c0_i32_34 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1024_i32 : BitVec 32 := 1024#32
  let v12 : BitVec 32 := Scalar.muli v11 c1024_i32
  let v48 : BitVec 32 := Scalar.addi v12 c0_i32_33
  let c0_i32_43 : BitVec 32 := 0#32
  ![0, v48.toNat, 0]
def k0_dev4 (d0 : Dev nD) : Nat :=
  let c0_i32_38 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_17 v2
  let c8_i32_37 : BitVec 32 := 8#32
  let v49 : BitVec 32 := Scalar.muli v28 c8_i32_37
  let v50 : BitVec 32 := Scalar.addi c0_i32_38 v49
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v51 : BitVec 32 := Scalar.muli v5 c4_i32_39
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v53 : BitVec 32 := Scalar.muli v8 c1_i32_40
  let v54 : BitVec 32 := Scalar.addi v52 v53
  v54.toNat
def k0_dev5 (d0 : Dev nD) : Nat :=
  let c0_i32_48 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_17 v2
  let c8_i32_47 : BitVec 32 := 8#32
  let v63 : BitVec 32 := Scalar.muli v28 c8_i32_47
  let v64 : BitVec 32 := Scalar.addi c0_i32_48 v63
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v65 : BitVec 32 := Scalar.muli v5 c4_i32_49
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v67 : BitVec 32 := Scalar.muli v8 c1_i32_50
  let v68 : BitVec 32 := Scalar.addi v66 v67
  v68.toNat
def k0_dev6 (d0 : Dev nD) : Nat :=
  let c0_i32_58 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_17 v2
  let c8_i32_57 : BitVec 32 := 8#32
  let v77 : BitVec 32 := Scalar.muli v28 c8_i32_57
  let v78 : BitVec 32 := Scalar.addi c0_i32_58 v77
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_59 : BitVec 32 := 4#32
  let v79 : BitVec 32 := Scalar.muli v5 c4_i32_59
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v81 : BitVec 32 := Scalar.muli v8 c1_i32_60
  let v82 : BitVec 32 := Scalar.addi v80 v81
  v82.toNat
def k0_dev7 (d0 : Dev nD) : Nat :=
  let c0_i32_68 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_17 v2
  let c8_i32_67 : BitVec 32 := 8#32
  let v91 : BitVec 32 := Scalar.muli v28 c8_i32_67
  let v92 : BitVec 32 := Scalar.addi c0_i32_68 v91
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v93 : BitVec 32 := Scalar.muli v5 c4_i32_69
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v95 : BitVec 32 := Scalar.muli v8 c1_i32_70
  let v96 : BitVec 32 := Scalar.addi v94 v95
  v96.toNat
def k0_off2 (d0 : Dev nD) (c0_i32_74 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1024_i32 : BitVec 32 := 1024#32
  let v12 : BitVec 32 := Scalar.muli v11 c1024_i32
  let v104 : BitVec 32 := Scalar.addi v12 c0_i32_74
  let c0_i32_85 : BitVec 32 := 0#32
  ![v104.toNat, 0]
def k0_dev8 (d0 : Dev nD) : Nat :=
  let c0_i32_174 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_173 : BitVec 32 := 8#32
  let v215 : BitVec 32 := Scalar.muli v2 c8_i32_173
  let v216 : BitVec 32 := Scalar.addi c0_i32_174 v215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_175 : BitVec 32 := 4#32
  let v217 : BitVec 32 := Scalar.muli v19 c4_i32_175
  let v218 : BitVec 32 := Scalar.addi v216 v217
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_176 : BitVec 32 := 1#32
  let v219 : BitVec 32 := Scalar.muli v22 c1_i32_176
  let v220 : BitVec 32 := Scalar.addi v218 v219
  v220.toNat
def k0_dev9 (d0 : Dev nD) : Nat :=
  let c0_i32_232 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_231 : BitVec 32 := 8#32
  let v288 : BitVec 32 := Scalar.muli v2 c8_i32_231
  let v289 : BitVec 32 := Scalar.addi c0_i32_232 v288
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_233 : BitVec 32 := 4#32
  let v290 : BitVec 32 := Scalar.muli v24 c4_i32_233
  let v291 : BitVec 32 := Scalar.addi v289 v290
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_234 : BitVec 32 := 1#32
  let v292 : BitVec 32 := Scalar.muli v27 c1_i32_234
  let v293 : BitVec 32 := Scalar.addi v291 v292
  v293.toNat
def k0_dev10 (d0 : Dev nD) : Nat :=
  let c0_i32_290 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_289 : BitVec 32 := 8#32
  let v361 : BitVec 32 := Scalar.muli v2 c8_i32_289
  let v362 : BitVec 32 := Scalar.addi c0_i32_290 v361
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_291 : BitVec 32 := 4#32
  let v363 : BitVec 32 := Scalar.muli v19 c4_i32_291
  let v364 : BitVec 32 := Scalar.addi v362 v363
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_292 : BitVec 32 := 1#32
  let v365 : BitVec 32 := Scalar.muli v22 c1_i32_292
  let v366 : BitVec 32 := Scalar.addi v364 v365
  v366.toNat
def k0_dev11 (d0 : Dev nD) : Nat :=
  let c0_i32_348 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_347 : BitVec 32 := 8#32
  let v434 : BitVec 32 := Scalar.muli v2 c8_i32_347
  let v435 : BitVec 32 := Scalar.addi c0_i32_348 v434
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_349 : BitVec 32 := 4#32
  let v436 : BitVec 32 := Scalar.muli v24 c4_i32_349
  let v437 : BitVec 32 := Scalar.addi v435 v436
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_350 : BitVec 32 := 1#32
  let v438 : BitVec 32 := Scalar.muli v27 c1_i32_350
  let v439 : BitVec 32 := Scalar.addi v437 v438
  v439.toNat
def k0_off3 (d0 : Dev nD) (c1_i32_354 : BitVec 32) (c0_i32_372 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_353 : BitVec 32 := 8#32
  let v444 : BitVec 32 := Scalar.addi v11 c8_i32_353
  let v445 : BitVec 32 := Scalar.subi v444 c1_i32_354
  let c8_i32_355 : BitVec 32 := 8#32
  let v446 : BitVec 32 := Scalar.remsi v445 c8_i32_355
  let c1024_i32_356 : BitVec 32 := 1024#32
  let v447 : BitVec 32 := Scalar.muli v446 c1024_i32_356
  let v464 : BitVec 32 := Scalar.addi v447 c0_i32_372
  let c0_i32_378 : BitVec 32 := 0#32
  ![v464.toNat, 0]
def k0_dev12 (d0 : Dev nD) : Nat :=
  let c0_i32_375 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_374 : BitVec 32 := 8#32
  let v465 : BitVec 32 := Scalar.muli v2 c8_i32_374
  let v466 : BitVec 32 := Scalar.addi c0_i32_375 v465
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_376 : BitVec 32 := 4#32
  let v467 : BitVec 32 := Scalar.muli v19 c4_i32_376
  let v468 : BitVec 32 := Scalar.addi v466 v467
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_377 : BitVec 32 := 1#32
  let v469 : BitVec 32 := Scalar.muli v22 c1_i32_377
  let v470 : BitVec 32 := Scalar.addi v468 v469
  v470.toNat
def k0_dev13 (d0 : Dev nD) : Nat :=
  let c0_i32_394 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_393 : BitVec 32 := 8#32
  let v488 : BitVec 32 := Scalar.muli v2 c8_i32_393
  let v489 : BitVec 32 := Scalar.addi c0_i32_394 v488
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_395 : BitVec 32 := 4#32
  let v490 : BitVec 32 := Scalar.muli v19 c4_i32_395
  let v491 : BitVec 32 := Scalar.addi v489 v490
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_396 : BitVec 32 := 1#32
  let v492 : BitVec 32 := Scalar.muli v22 c1_i32_396
  let v493 : BitVec 32 := Scalar.addi v491 v492
  v493.toNat
def k0_off4 (d0 : Dev nD) (c0_i32_357 : BitVec 32) (c512_i32_410 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v448 : BitVec 32 := Scalar.addi v11 c0_i32_357
  let c1_i32_358 : BitVec 32 := 1#32
  let v449 : BitVec 32 := Scalar.addi v448 c1_i32_358
  let c8_i32_359 : BitVec 32 := 8#32
  let v450 : BitVec 32 := Scalar.remsi v449 c8_i32_359
  let c1024_i32_360 : BitVec 32 := 1024#32
  let v451 : BitVec 32 := Scalar.muli v450 c1024_i32_360
  let v510 : BitVec 32 := Scalar.addi v451 c512_i32_410
  let c0_i32_416 : BitVec 32 := 0#32
  ![v510.toNat, 0]
def k0_dev14 (d0 : Dev nD) : Nat :=
  let c0_i32_413 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_412 : BitVec 32 := 8#32
  let v511 : BitVec 32 := Scalar.muli v2 c8_i32_412
  let v512 : BitVec 32 := Scalar.addi c0_i32_413 v511
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_414 : BitVec 32 := 4#32
  let v513 : BitVec 32 := Scalar.muli v24 c4_i32_414
  let v514 : BitVec 32 := Scalar.addi v512 v513
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_415 : BitVec 32 := 1#32
  let v515 : BitVec 32 := Scalar.muli v27 c1_i32_415
  let v516 : BitVec 32 := Scalar.addi v514 v515
  v516.toNat
def k0_dev15 (d0 : Dev nD) : Nat :=
  let c0_i32_432 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_431 : BitVec 32 := 8#32
  let v534 : BitVec 32 := Scalar.muli v2 c8_i32_431
  let v535 : BitVec 32 := Scalar.addi c0_i32_432 v534
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_433 : BitVec 32 := 4#32
  let v536 : BitVec 32 := Scalar.muli v24 c4_i32_433
  let v537 : BitVec 32 := Scalar.addi v535 v536
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_434 : BitVec 32 := 1#32
  let v538 : BitVec 32 := Scalar.muli v27 c1_i32_434
  let v539 : BitVec 32 := Scalar.addi v537 v538
  v539.toNat
def k0_dev16 (d0 : Dev nD) : Nat :=
  let c0_i32_459 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_458 : BitVec 32 := 8#32
  let v565 : BitVec 32 := Scalar.muli v2 c8_i32_458
  let v566 : BitVec 32 := Scalar.addi c0_i32_459 v565
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_460 : BitVec 32 := 4#32
  let v567 : BitVec 32 := Scalar.muli v19 c4_i32_460
  let v568 : BitVec 32 := Scalar.addi v566 v567
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_461 : BitVec 32 := 1#32
  let v569 : BitVec 32 := Scalar.muli v22 c1_i32_461
  let v570 : BitVec 32 := Scalar.addi v568 v569
  v570.toNat
def k0_dev17 (d0 : Dev nD) : Nat :=
  let c0_i32_478 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_477 : BitVec 32 := 8#32
  let v588 : BitVec 32 := Scalar.muli v2 c8_i32_477
  let v589 : BitVec 32 := Scalar.addi c0_i32_478 v588
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_479 : BitVec 32 := 4#32
  let v590 : BitVec 32 := Scalar.muli v19 c4_i32_479
  let v591 : BitVec 32 := Scalar.addi v589 v590
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_480 : BitVec 32 := 1#32
  let v592 : BitVec 32 := Scalar.muli v22 c1_i32_480
  let v593 : BitVec 32 := Scalar.addi v591 v592
  v593.toNat
def k0_dev18 (d0 : Dev nD) : Nat :=
  let c0_i32_497 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_496 : BitVec 32 := 8#32
  let v611 : BitVec 32 := Scalar.muli v2 c8_i32_496
  let v612 : BitVec 32 := Scalar.addi c0_i32_497 v611
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_498 : BitVec 32 := 4#32
  let v613 : BitVec 32 := Scalar.muli v24 c4_i32_498
  let v614 : BitVec 32 := Scalar.addi v612 v613
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_499 : BitVec 32 := 1#32
  let v615 : BitVec 32 := Scalar.muli v27 c1_i32_499
  let v616 : BitVec 32 := Scalar.addi v614 v615
  v616.toNat
def k0_dev19 (d0 : Dev nD) : Nat :=
  let c0_i32_516 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_515 : BitVec 32 := 8#32
  let v634 : BitVec 32 := Scalar.muli v2 c8_i32_515
  let v635 : BitVec 32 := Scalar.addi c0_i32_516 v634
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_517 : BitVec 32 := 4#32
  let v636 : BitVec 32 := Scalar.muli v24 c4_i32_517
  let v637 : BitVec 32 := Scalar.addi v635 v636
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_518 : BitVec 32 := 1#32
  let v638 : BitVec 32 := Scalar.muli v27 c1_i32_518
  let v639 : BitVec 32 := Scalar.addi v637 v638
  v639.toNat
def k0_dev20 (d0 : Dev nD) : Nat :=
  let c0_i32_543 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_542 : BitVec 32 := 8#32
  let v665 : BitVec 32 := Scalar.muli v2 c8_i32_542
  let v666 : BitVec 32 := Scalar.addi c0_i32_543 v665
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_544 : BitVec 32 := 4#32
  let v667 : BitVec 32 := Scalar.muli v19 c4_i32_544
  let v668 : BitVec 32 := Scalar.addi v666 v667
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_545 : BitVec 32 := 1#32
  let v669 : BitVec 32 := Scalar.muli v22 c1_i32_545
  let v670 : BitVec 32 := Scalar.addi v668 v669
  v670.toNat
def k0_dev21 (d0 : Dev nD) : Nat :=
  let c0_i32_562 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_561 : BitVec 32 := 8#32
  let v688 : BitVec 32 := Scalar.muli v2 c8_i32_561
  let v689 : BitVec 32 := Scalar.addi c0_i32_562 v688
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_563 : BitVec 32 := 4#32
  let v690 : BitVec 32 := Scalar.muli v19 c4_i32_563
  let v691 : BitVec 32 := Scalar.addi v689 v690
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_564 : BitVec 32 := 1#32
  let v692 : BitVec 32 := Scalar.muli v22 c1_i32_564
  let v693 : BitVec 32 := Scalar.addi v691 v692
  v693.toNat
def k0_dev22 (d0 : Dev nD) : Nat :=
  let c0_i32_581 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_580 : BitVec 32 := 8#32
  let v711 : BitVec 32 := Scalar.muli v2 c8_i32_580
  let v712 : BitVec 32 := Scalar.addi c0_i32_581 v711
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_582 : BitVec 32 := 4#32
  let v713 : BitVec 32 := Scalar.muli v24 c4_i32_582
  let v714 : BitVec 32 := Scalar.addi v712 v713
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_583 : BitVec 32 := 1#32
  let v715 : BitVec 32 := Scalar.muli v27 c1_i32_583
  let v716 : BitVec 32 := Scalar.addi v714 v715
  v716.toNat
def k0_dev23 (d0 : Dev nD) : Nat :=
  let c0_i32_600 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_599 : BitVec 32 := 8#32
  let v734 : BitVec 32 := Scalar.muli v2 c8_i32_599
  let v735 : BitVec 32 := Scalar.addi c0_i32_600 v734
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_601 : BitVec 32 := 4#32
  let v736 : BitVec 32 := Scalar.muli v24 c4_i32_601
  let v737 : BitVec 32 := Scalar.addi v735 v736
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_602 : BitVec 32 := 1#32
  let v738 : BitVec 32 := Scalar.muli v27 c1_i32_602
  let v739 : BitVec 32 := Scalar.addi v737 v738
  v739.toNat
def k0_dev24 (d0 : Dev nD) : Nat :=
  let c0_i32_627 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_626 : BitVec 32 := 8#32
  let v765 : BitVec 32 := Scalar.muli v2 c8_i32_626
  let v766 : BitVec 32 := Scalar.addi c0_i32_627 v765
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_628 : BitVec 32 := 4#32
  let v767 : BitVec 32 := Scalar.muli v19 c4_i32_628
  let v768 : BitVec 32 := Scalar.addi v766 v767
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_629 : BitVec 32 := 1#32
  let v769 : BitVec 32 := Scalar.muli v22 c1_i32_629
  let v770 : BitVec 32 := Scalar.addi v768 v769
  v770.toNat
def k0_dev25 (d0 : Dev nD) : Nat :=
  let c0_i32_646 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_645 : BitVec 32 := 8#32
  let v788 : BitVec 32 := Scalar.muli v2 c8_i32_645
  let v789 : BitVec 32 := Scalar.addi c0_i32_646 v788
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_647 : BitVec 32 := 4#32
  let v790 : BitVec 32 := Scalar.muli v19 c4_i32_647
  let v791 : BitVec 32 := Scalar.addi v789 v790
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_648 : BitVec 32 := 1#32
  let v792 : BitVec 32 := Scalar.muli v22 c1_i32_648
  let v793 : BitVec 32 := Scalar.addi v791 v792
  v793.toNat
def k0_dev26 (d0 : Dev nD) : Nat :=
  let c0_i32_665 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_664 : BitVec 32 := 8#32
  let v811 : BitVec 32 := Scalar.muli v2 c8_i32_664
  let v812 : BitVec 32 := Scalar.addi c0_i32_665 v811
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_666 : BitVec 32 := 4#32
  let v813 : BitVec 32 := Scalar.muli v24 c4_i32_666
  let v814 : BitVec 32 := Scalar.addi v812 v813
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_667 : BitVec 32 := 1#32
  let v815 : BitVec 32 := Scalar.muli v27 c1_i32_667
  let v816 : BitVec 32 := Scalar.addi v814 v815
  v816.toNat
def k0_dev27 (d0 : Dev nD) : Nat :=
  let c0_i32_684 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_683 : BitVec 32 := 8#32
  let v834 : BitVec 32 := Scalar.muli v2 c8_i32_683
  let v835 : BitVec 32 := Scalar.addi c0_i32_684 v834
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_685 : BitVec 32 := 4#32
  let v836 : BitVec 32 := Scalar.muli v24 c4_i32_685
  let v837 : BitVec 32 := Scalar.addi v835 v836
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_686 : BitVec 32 := 1#32
  let v838 : BitVec 32 := Scalar.muli v27 c1_i32_686
  let v839 : BitVec 32 := Scalar.addi v837 v838
  v839.toNat
def k0_dev28 (d0 : Dev nD) : Nat :=
  let c0_i32_711 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_710 : BitVec 32 := 8#32
  let v865 : BitVec 32 := Scalar.muli v2 c8_i32_710
  let v866 : BitVec 32 := Scalar.addi c0_i32_711 v865
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_712 : BitVec 32 := 4#32
  let v867 : BitVec 32 := Scalar.muli v19 c4_i32_712
  let v868 : BitVec 32 := Scalar.addi v866 v867
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_713 : BitVec 32 := 1#32
  let v869 : BitVec 32 := Scalar.muli v22 c1_i32_713
  let v870 : BitVec 32 := Scalar.addi v868 v869
  v870.toNat
def k0_dev29 (d0 : Dev nD) : Nat :=
  let c0_i32_730 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_729 : BitVec 32 := 8#32
  let v888 : BitVec 32 := Scalar.muli v2 c8_i32_729
  let v889 : BitVec 32 := Scalar.addi c0_i32_730 v888
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_731 : BitVec 32 := 4#32
  let v890 : BitVec 32 := Scalar.muli v19 c4_i32_731
  let v891 : BitVec 32 := Scalar.addi v889 v890
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_732 : BitVec 32 := 1#32
  let v892 : BitVec 32 := Scalar.muli v22 c1_i32_732
  let v893 : BitVec 32 := Scalar.addi v891 v892
  v893.toNat
def k0_dev30 (d0 : Dev nD) : Nat :=
  let c0_i32_749 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_748 : BitVec 32 := 8#32
  let v911 : BitVec 32 := Scalar.muli v2 c8_i32_748
  let v912 : BitVec 32 := Scalar.addi c0_i32_749 v911
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_750 : BitVec 32 := 4#32
  let v913 : BitVec 32 := Scalar.muli v24 c4_i32_750
  let v914 : BitVec 32 := Scalar.addi v912 v913
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_751 : BitVec 32 := 1#32
  let v915 : BitVec 32 := Scalar.muli v27 c1_i32_751
  let v916 : BitVec 32 := Scalar.addi v914 v915
  v916.toNat
def k0_dev31 (d0 : Dev nD) : Nat :=
  let c0_i32_768 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_767 : BitVec 32 := 8#32
  let v934 : BitVec 32 := Scalar.muli v2 c8_i32_767
  let v935 : BitVec 32 := Scalar.addi c0_i32_768 v934
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_769 : BitVec 32 := 4#32
  let v936 : BitVec 32 := Scalar.muli v24 c4_i32_769
  let v937 : BitVec 32 := Scalar.addi v935 v936
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_770 : BitVec 32 := 1#32
  let v938 : BitVec 32 := Scalar.muli v27 c1_i32_770
  let v939 : BitVec 32 := Scalar.addi v937 v938
  v939.toNat
def k0_dev32 (d0 : Dev nD) : Nat :=
  let c0_i32_795 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_794 : BitVec 32 := 8#32
  let v965 : BitVec 32 := Scalar.muli v2 c8_i32_794
  let v966 : BitVec 32 := Scalar.addi c0_i32_795 v965
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_796 : BitVec 32 := 4#32
  let v967 : BitVec 32 := Scalar.muli v19 c4_i32_796
  let v968 : BitVec 32 := Scalar.addi v966 v967
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_797 : BitVec 32 := 1#32
  let v969 : BitVec 32 := Scalar.muli v22 c1_i32_797
  let v970 : BitVec 32 := Scalar.addi v968 v969
  v970.toNat
def k0_dev33 (d0 : Dev nD) : Nat :=
  let c0_i32_814 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_813 : BitVec 32 := 8#32
  let v988 : BitVec 32 := Scalar.muli v2 c8_i32_813
  let v989 : BitVec 32 := Scalar.addi c0_i32_814 v988
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v13 : BitVec 32 := Scalar.addi v11 c1_i32_2
  let c8_i32_3 : BitVec 32 := 8#32
  let v14 : BitVec 32 := Scalar.remsi v13 c8_i32_3
  let c4_i32_7 : BitVec 32 := 4#32
  let v18 : BitVec 1 := Scalar.cmpi .slt v14 c4_i32_7
  let c0_i32_8 : BitVec 32 := 0#32
  let c1_i32_9 : BitVec 32 := 1#32
  let v19 : BitVec 32 := Scalar.select v18 c0_i32_8 c1_i32_9
  let c4_i32_815 : BitVec 32 := 4#32
  let v990 : BitVec 32 := Scalar.muli v19 c4_i32_815
  let v991 : BitVec 32 := Scalar.addi v989 v990
  let c4_i32_10 : BitVec 32 := 4#32
  let v20 : BitVec 1 := Scalar.cmpi .slt v14 c4_i32_10
  let c7_i32_11 : BitVec 32 := 7#32
  let v21 : BitVec 32 := Scalar.subi c7_i32_11 v14
  let v22 : BitVec 32 := Scalar.select v20 v14 v21
  let c1_i32_816 : BitVec 32 := 1#32
  let v992 : BitVec 32 := Scalar.muli v22 c1_i32_816
  let v993 : BitVec 32 := Scalar.addi v991 v992
  v993.toNat
def k0_dev34 (d0 : Dev nD) : Nat :=
  let c0_i32_833 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_832 : BitVec 32 := 8#32
  let v1011 : BitVec 32 := Scalar.muli v2 c8_i32_832
  let v1012 : BitVec 32 := Scalar.addi c0_i32_833 v1011
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_834 : BitVec 32 := 4#32
  let v1013 : BitVec 32 := Scalar.muli v24 c4_i32_834
  let v1014 : BitVec 32 := Scalar.addi v1012 v1013
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_835 : BitVec 32 := 1#32
  let v1015 : BitVec 32 := Scalar.muli v27 c1_i32_835
  let v1016 : BitVec 32 := Scalar.addi v1014 v1015
  v1016.toNat
def k0_dev35 (d0 : Dev nD) : Nat :=
  let c0_i32_852 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_851 : BitVec 32 := 8#32
  let v1034 : BitVec 32 := Scalar.muli v2 c8_i32_851
  let v1035 : BitVec 32 := Scalar.addi c0_i32_852 v1034
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_4 : BitVec 32 := 1#32
  let v15 : BitVec 32 := Scalar.subi v11 c1_i32_4
  let c8_i32_5 : BitVec 32 := 8#32
  let v16 : BitVec 32 := Scalar.addi v15 c8_i32_5
  let c8_i32_6 : BitVec 32 := 8#32
  let v17 : BitVec 32 := Scalar.remsi v16 c8_i32_6
  let c4_i32_12 : BitVec 32 := 4#32
  let v23 : BitVec 1 := Scalar.cmpi .slt v17 c4_i32_12
  let c0_i32_13 : BitVec 32 := 0#32
  let c1_i32_14 : BitVec 32 := 1#32
  let v24 : BitVec 32 := Scalar.select v23 c0_i32_13 c1_i32_14
  let c4_i32_853 : BitVec 32 := 4#32
  let v1036 : BitVec 32 := Scalar.muli v24 c4_i32_853
  let v1037 : BitVec 32 := Scalar.addi v1035 v1036
  let c4_i32_15 : BitVec 32 := 4#32
  let v25 : BitVec 1 := Scalar.cmpi .slt v17 c4_i32_15
  let c7_i32_16 : BitVec 32 := 7#32
  let v26 : BitVec 32 := Scalar.subi c7_i32_16 v17
  let v27 : BitVec 32 := Scalar.select v25 v17 v26
  let c1_i32_854 : BitVec 32 := 1#32
  let v1038 : BitVec 32 := Scalar.muli v27 c1_i32_854
  let v1039 : BitVec 32 := Scalar.addi v1037 v1038
  v1039.toNat
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x2048 : Shape := ⟨3, ![2, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Same.lean ====
/-
The kernel and its idealization are the same program text: a run of one is a run of the other.
-/
module

public import proofs.«01_k».proof.Proof.Gen.Kernel
public import proofs.«01_k».proof.Proof.Gen.KernelIdeal
public import proofs.«01_k».proof.Proof.Gen.Kernel.Launch
public import proofs.«01_k».proof.Proof.Gen.KernelIdeal.Launch

@[expose] public section

noncomputable section

namespace Cert.Same

open Idealize.ShloMosaic Idealize.SL.Sem

variable {F : FTy → Type} [FloatOps F]

set_option maxRecDepth 40000

/-- The two programs' loop bodies are the same. -/
theorem defs₀_eq : Cert.Kernel.defs₀ (F := F) = Cert.KernelIdeal.defs₀ (F := F) := by
  unfold Cert.Kernel.defs₀ Cert.KernelIdeal.defs₀
  refine congrArg _ ?_
  funext l x
  fin_cases l
  rfl

/-- Their main functions are the same. -/
theorem main_eq : Cert.Kernel.main (F := F) = Cert.KernelIdeal.main (F := F) := rfl

/-- Their function tables, with the staged launch added, are the same. -/
theorem defs_eq : Cert.Kernel.defs (F := F) = Cert.KernelIdeal.defs (F := F) :=
  congrArg (fun d => Pipeline.defs (Cert.KernelIdeal.pcfgs (F := F)) d) defs₀_eq

/-- What every run of the idealization ends in, every run of the kernel ends in, over any reading of the floats. -/
theorem run (m : (ℓ : Loc Cert.Kernel.nD Cert.Kernel.τ Cert.Kernel.sig) → Buf (Elt F) ℓ) (g : Dev Cert.Kernel.nD → PrngReg)
   (Q : PUnit × MemSt Cert.Kernel.nD Cert.Kernel.τ Cert.Kernel.sig (Elt F) → Prop)
   (h : θ_run (Cert.KernelIdeal.defs (F := F)) (onTc (τ := Cert.KernelIdeal.τ) (Cert.KernelIdeal.main (F := F))) ⟨m, fun _ => 0, g⟩ Q) :
   θ_run (Cert.Kernel.defs (F := F)) (onTc (τ := Cert.Kernel.τ) (Cert.Kernel.main (F := F))) ⟨m, fun _ => 0, g⟩ Q := by
  rw [defs_eq]
  exact h

end Cert.Same

end
-- ==== Proof.Ref.lean ====
/-
The reference program's run: one device, a straight line of operations over whole arrays. It ends, its result is the
operations' composition at the arguments, and the arguments end as they were.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Line

open Cert.ReferenceIdeal Cert.ReferenceIdeal.Gen
open Idealize.ShloMosaic Idealize.ShloMosaic.TcCoe Idealize.ShloMosaic.StableHlo Idealize.SL.Sem

variable {F : FTy → Type} [FloatOps F]

/-- The operations, in order. -/
abbrev ops : List (HloOp τ sig (Elt F)) :=
  [ nullary main_cst (constant S_ .f32 0x00000000#32),
    binary main_arg0 main_cst main_v0 (fun x v => Host.reduceAdd x v reducesTo_S2x8192x2048_S8192x2048_d0 h_S_),
    binary main_v0 main_arg1 main_v1 addf,
    binary main_v1 main_v1 main_v2 mulf,
    nullary main_cst_0 (constant S_ .f32 0x00000000#32),
    binary main_v2 main_cst_0 main_v3 (fun x v => Host.reduceAdd x v reducesTo_S8192x2048_S8192_d1 h_S_),
    unary main_v3 main_v4 (broadcastInDim S8192x1 ![0] bcast_S8192_S8192x1_0),
    nullary main_cst_1 (constant S_ .f32 0x45000000#32),
    unary main_cst_1 main_v5 (broadcastInDim S8192x1 ![] bcast_S_S8192x1),
    binary main_v4 main_v5 main_v6 Host.divf,
    nullary main_cst_2 (constant S_ .f32 0x358637BD#32),
    unary main_cst_2 main_v7 (broadcastInDim S8192x1 ![] bcast_S_S8192x1),
    binary main_v6 main_v7 main_v8 addf,
    unary main_v8 main_v9 Host.sqrt,
    unary main_v9 main_v10 (broadcastInDim S8192x2048 ![0, 1] bcast_S8192x1_S8192x2048_0_1),
    binary main_v1 main_v10 main_v11 Host.divf,
    unary main_arg2 main_v12 (broadcastInDim S1x2048 ![1] bcast_S2048_S1x2048_1),
    unary main_v12 main_v13 (broadcastInDim S8192x2048 ![0, 1] bcast_S1x2048_S8192x2048_0_1),
    binary main_v11 main_v13 main_v14 mulf ]

/-- The reference's main function is these operations in sequence. -/
theorem main_ops (c : Dev nD) : main (F := F) c = seq ops := rfl

/-- The two halves added, then the residual. -/
def summed (x : FVec F S2x8192x2048 .f32) (r : FVec F S8192x2048 .f32) : FVec F S8192x2048 .f32 :=
  addf (Host.reduceAdd x (constant S_ .f32 0x00000000#32) reducesTo_S2x8192x2048_S8192x2048_d0 h_S_) r

/-- What the line makes of the three arguments. -/
def value (x : FVec F S2x8192x2048 .f32) (r : FVec F S8192x2048 .f32) (g : FVec F S2048 .f32) : FVec F S8192x2048 .f32 :=
  mulf (Host.divf (summed x r) (broadcastInDim S8192x2048 ![0, 1] bcast_S8192x1_S8192x2048_0_1 (Host.sqrt (addf
      (Host.divf (broadcastInDim S8192x1 ![0] bcast_S8192_S8192x1_0
          (Host.reduceAdd (mulf (summed x r) (summed x r)) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The result after the operations. -/
theorem ends_v14 (V : Valuation τ sig (Elt F)) :
    after ops V (main_v14 : DevRef τ sig)
      = value (V (main_arg0 : DevRef τ sig)) (V (main_arg1 : DevRef τ sig)) (V (main_arg2 : DevRef τ sig)) := by
  after_results
  rfl
/-- The operations leave the first argument, -/
theorem keeps_arg0 (V : Valuation τ sig (Elt F)) : after ops V (main_arg0 : DevRef τ sig) = V (main_arg0 : DevRef τ sig) := by
  after_results
/-- the second -/
theorem keeps_arg1 (V : Valuation τ sig (Elt F)) : after ops V (main_arg1 : DevRef τ sig) = V (main_arg1 : DevRef τ sig) := by
  after_results
/-- and the third. -/
theorem keeps_arg2 (V : Valuation τ sig (Elt F)) : after ops V (main_arg2 : DevRef τ sig) = V (main_arg2 : DevRef τ sig) := by
  after_results

/-- The reference has no scoped buffers, -/
theorem scoped_refs : (Finset.univ.filter fun b : Ref sig .tc => b.isScoped) = ∅ := by decide
/-- nor scoped semaphores. -/
theorem scoped_sems : (Finset.univ.filter fun sm : SemLoc sig => sm.isScoped .tc) = ∅ := by decide

/-- Every operation's buffers are the one core's. -/
theorem ops_bufs : (ops : List (HloOp τ sig (Elt F))).Forall fun op => op.bufs ⊆ tcRefs τ sig :=
  ⟨nullary_bufs_sub .., binary_bufs_sub .., binary_bufs_sub .., binary_bufs_sub .., nullary_bufs_sub .., binary_bufs_sub ..,
    unary_bufs_sub .., nullary_bufs_sub .., unary_bufs_sub .., binary_bufs_sub .., nullary_bufs_sub .., unary_bufs_sub ..,
    binary_bufs_sub .., unary_bufs_sub .., unary_bufs_sub .., binary_bufs_sub .., unary_bufs_sub .., unary_bufs_sub .., binary_bufs_sub ..⟩

/-- From any memory with all counters zero the reference ends with its result at `value` of the arguments, the arguments
    unchanged and every counter zero. -/
theorem run_main (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v14)
          = value (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run defs _ _).mono
    (fun r h => ⟨fun c => ⟨(h c main_v14).trans (ends_v14 _), (h c main_arg0).trans (keeps_arg0 _), (h c main_arg1).trans (keeps_arg1 _),
      (h c main_arg2).trans (keeps_arg2 _)⟩, sem_eq_zero_of_no_sems (by decide) r.2⟩)
    (run_seq scoped_refs scoped_sems defs main (fun _ => ops) main_ops (fun _ => ops_bufs) m ρ)

end Cert.ReferenceIdeal.Line

end
-- ==== Proof.Ideal.Proto.lean ====
/-
The protocol of the kernel: the ring of eight devices in each half of the mesh, the views of the buffers each
transfer moves, the contents they carry, the schedule of rounds of every semaphore and the levels of the waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Memref
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory the kernel starts from. -/
def s₀ : MemSt nD τ sig (Elt F) := ⟨m, fun _ => 0, ρ⟩

abbrev 𝒱₀ : Variants := Variants.none

/-! ## The ring -/

/-- A device's place on the ring of its half of the mesh. -/
def rid (c : Dev nD) : Fin 8 :=
  ⟨(if (c.val / 4) % 2 = 0 then c.val % 4 else 7 - c.val % 4), by split <;> omega⟩

/-- The device of `c`'s half at place `b`. -/
def dvOf (c : Dev nD) (b : Fin 8) : Dev nD :=
  ⟨8 * (c.val / 8) + (if b.val < 4 then b.val else 11 - b.val), by
    have := c.isLt; have := b.isLt; simp only [nD] at *; split <;> omega⟩

/-- The neighbour one place on, the neighbour one place back, the same place of the other half. -/
def rgt (c : Dev nD) : Dev nD := dvOf c ⟨((rid c).val + 1) % 8, Nat.mod_lt _ (by decide)⟩
def lft (c : Dev nD) : Dev nD := dvOf c ⟨((rid c).val + 7) % 8, Nat.mod_lt _ (by decide)⟩
def xp (c : Dev nD) : Dev nD := ⟨(c.val + 8) % 16, Nat.mod_lt _ (by decide)⟩

theorem rid_dvOf (c : Dev nD) (b : Fin 8) : rid (dvOf c b) = b := by revert c b; decide
theorem dvOf_rid (c : Dev nD) : dvOf c (rid c) = c := by revert c; decide
theorem dvOf_dvOf (c : Dev nD) (b b' : Fin 8) : dvOf (dvOf c b) b' = dvOf c b' := by
  have h : (dvOf c b).val / 8 = c.val / 8 := by
    have := c.isLt; have := b.isLt
    simp only [dvOf]; split <;> omega
  unfold dvOf at h ⊢; simp only [h]
theorem dvOf_rgt (c : Dev nD) (b : Fin 8) : dvOf (rgt c) b = dvOf c b := dvOf_dvOf c _ b
theorem dvOf_lft (c : Dev nD) (b : Fin 8) : dvOf (lft c) b = dvOf c b := dvOf_dvOf c _ b
theorem lft_rgt (c : Dev nD) : lft (rgt c) = c := by revert c; decide
theorem rgt_lft (c : Dev nD) : rgt (lft c) = c := by revert c; decide
theorem xp_xp (c : Dev nD) : xp (xp c) = c := by revert c; decide
theorem rid_xp (c : Dev nD) : rid (xp c) = rid c := by revert c; decide

/-- The device a stream sends to, and the device it hears from: streams 0 and 1 go forward, 2 and 3 backward. -/
def dst (s : Fin 4) (c : Dev nD) : Dev nD := if s.val < 2 then rgt c else lft c
def srcd (s : Fin 4) (c : Dev nD) : Dev nD := if s.val < 2 then lft c else rgt c
theorem srcd_dst (s : Fin 4) (c : Dev nD) : srcd s (dst s c) = c := by
  unfold srcd dst; split
  · exact lft_rgt c
  · exact rgt_lft c
theorem dst_srcd (s : Fin 4) (c : Dev nD) : dst s (srcd s c) = c := by
  unfold srcd dst; split
  · exact rgt_lft c
  · exact lft_rgt c
theorem dvOf_dst (s : Fin 4) (c : Dev nD) (b : Fin 8) : dvOf (dst s c) b = dvOf c b := by
  unfold dst; split
  · exact dvOf_rgt c b
  · exact dvOf_lft c b

/-- The block of rows stream `s` sends from `c` on its hop `h`. -/
def blk (s : Fin 4) (c : Dev nD) (h : ℕ) : Fin 8 :=
  ⟨(if s.val < 2 then (rid c).val + 7 * h else (rid c).val + h) % 8, Nat.mod_lt _ (by decide)⟩

theorem blk_zero (s : Fin 4) (c : Dev nD) : blk s c 0 = rid c := by
  apply Fin.ext; have := (rid c).isLt; simp only [blk]; split <;> omega

/-- What arrives on a hop is the block sent on it. -/
theorem blk_dst (s : Fin 4) (c : Dev nD) (h : ℕ) : blk s (dst s c) (h + 1) = blk s c h := by
  apply Fin.ext
  have := (rid c).isLt
  unfold blk dst
  by_cases hs : s.val < 2
  · simp only [hs, if_true, rgt, rid_dvOf]; omega
  · simp only [hs, if_false, lft, rid_dvOf]; omega

/-- The order the quarters are taken in. -/
def ord : Fin 4 → Fin 4 := ![0, 2, 1, 3]

/-! ## The views -/

theorem inbO (b : Fin 8) (s : Fin 4) : ∀ a, (![1024 * b.val + 256 * s.val, 0] : Fin 2 → ℕ) a + S256x2048.size a ≤ S8192x2048.size a :=
  Rect.inb₂ (by have := b.isLt; have := s.isLt; show 1024 * b.val + 256 * s.val + 256 ≤ 8192; omega) (by show 0 + 2048 ≤ 2048; omega)
theorem inbI (b : Fin 8) (s : Fin 4) : ∀ a, (![0, 1024 * b.val + 256 * s.val, 0] : Fin 3 → ℕ) a + S1x256x2048.size a ≤ S1x8192x2048.size a := by
  intro a; have := b.isLt; have := s.isLt
  fin_cases a
  · show 0 + 1 ≤ 1; omega
  · show 1024 * b.val + 256 * s.val + 256 ≤ 8192; omega
  · show 0 + 2048 ≤ 2048; omega
theorem inbP (q : Fin 4) : ∀ a, (![256 * q.val, 0] : Fin 2 → ℕ) a + S256x2048.size a ≤ S1024x2048.size a :=
  Rect.inb₂ (by have := q.isLt; show 256 * q.val + 256 ≤ 1024; omega) (by show 0 + 2048 ≤ 2048; omega)
theorem inbC (q : Fin 4) : ∀ a, (![q.val, 0, 0] : Fin 3 → ℕ) a + S1x256x2048.size a ≤ S4x256x2048.size a := by
  intro a; have := q.isLt
  fin_cases a
  · show q.val + 1 ≤ 4; omega
  · show 0 + 256 ≤ 256; omega
  · show 0 + 2048 ≤ 2048; omega

/-- The rectangles: quarter `s` of block `b` of the result, of `partial`, a quarter of the landing buffer, a chunk. -/
abbrev rO (b : Fin 8) (s : Fin 4) : Rect S8192x2048 := Rect.unit (s := S8192x2048) ![1024 * b.val + 256 * s.val, 0] S256x2048.size (inbO b s)
abbrev rI (b : Fin 8) (s : Fin 4) : Rect S1x8192x2048 := Rect.unit (s := S1x8192x2048) ![0, 1024 * b.val + 256 * s.val, 0] S1x256x2048.size (inbI b s)
abbrev rP (q : Fin 4) : Rect S1024x2048 := Rect.unit (s := S1024x2048) ![256 * q.val, 0] S256x2048.size (inbP q)
abbrev rC (q : Fin 4) : Rect S4x256x2048 := Rect.unit (s := S4x256x2048) ![q.val, 0, 0] S1x256x2048.size (inbC q)

/-- Quarter `s` of block `b` of the result's rows. -/
abbrev oM (b : Fin 8) (s : Fin 4) : Memref sig .tc .hbm S256x2048 .f32 := (Memref.whole main_v1).slice (rO b s) (fun _ => rfl)
/-- The same of `resid`, and of `partial`. -/
abbrev gM (b : Fin 8) (s : Fin 4) : Memref sig .tc .hbm S256x2048 .f32 := (Memref.whole main_arg1).slice (rO b s) (fun _ => rfl)
abbrev aM (b : Fin 8) (s : Fin 4) : Memref sig .tc .hbm S256x2048 .f32 :=
  ((Memref.whole main_arg0).slice (rI b s) (fun _ => rfl)).squeeze S256x2048 squeezes_S1x256x2048_S256x2048
/-- A quarter of the buffer the other half's rows land in. -/
abbrev prM (q : Fin 4) : Memref sig .tc .vmem S256x2048 .f32 := (Memref.whole cc0_scratch0).slice (rP q) (fun _ => rfl)
/-- A chunk of the three chunk buffers. -/
abbrev pcM (q : Fin 4) : Memref sig .tc .vmem S256x2048 .f32 :=
  ((Memref.whole cc0_scratch1).slice (rC q) (fun _ => rfl)).squeeze S256x2048 squeezes_S1x256x2048_S256x2048
abbrev rcM (q : Fin 4) : Memref sig .tc .vmem S256x2048 .f32 :=
  ((Memref.whole cc0_scratch2).slice (rC q) (fun _ => rfl)).squeeze S256x2048 squeezes_S1x256x2048_S256x2048
abbrev ocM (q : Fin 4) : Memref sig .tc .vmem S256x2048 .f32 :=
  ((Memref.whole cc0_scratch3).slice (rC q) (fun _ => rfl)).squeeze S256x2048 squeezes_S1x256x2048_S256x2048

/-- The credit of a transfer of 256 rows, the same for every view. -/
def N : ℕ := (oM 0 0).view.dmaCredit
theorem N_pos : 0 < N := View.dmaCredit_pos _ (by decide)
theorem credO (b : Fin 8) (s : Fin 4) : (oM b s).view.dmaCredit = N := rfl
theorem credP (q : Fin 4) : (prM q).view.dmaCredit = N := rfl
theorem credPc (q : Fin 4) : (pcM q).view.dmaCredit = N := rfl
theorem credRc (q : Fin 4) : (rcM q).view.dmaCredit = N := rfl

/-! ## The contents -/

abbrev Blk (F : FTy → Type) : Type := S256x2048.Idx → Elt F .f32

/-- The block of 256 rows seen with a leading axis of one, and back. -/
def unsq (X : Blk F) : Vec F S1x256x2048 .f32 := fun i => X ((Shape.reshapeEquiv squeezes_S1x256x2048_S256x2048.numel_eq).symm i)
def sqz (v : Vec F S1x256x2048 .f32) : Blk F := fun j => v (Shape.reshapeEquiv squeezes_S1x256x2048_S256x2048.numel_eq j)

omit [FloatOps F] in
theorem sqz_unsq (X : Blk F) : sqz (unsq X) = X := by funext j; simp [sqz, unsq]
omit [FloatOps F] in
theorem unsq_sqz (v : Vec F S1x256x2048 .f32) : unsq (sqz v) = v := by funext j; simp [sqz, unsq]

/-- Device `c`'s rows of `partial` and of `resid` for quarter `q`, and its `gamma`. -/
def pV (c : Dev nD) (q : Fin 4) : Blk F := (aM (rid c) q).view.read (Elt F) (m ((c : Thread nD τ).loc main_arg0))
def rV (c : Dev nD) (q : Fin 4) : Blk F := (gM (rid c) q).view.read (Elt F) (m ((c : Thread nD τ).loc main_arg1))
def gV (c : Dev nD) : Vec F S2048 .f32 := (win0_0.blk (0 : Fin 1)).view.read (Elt F) (m ((c : Thread nD τ).loc main_arg2))

/-- What device `c` computes for quarter `q`. -/
def oW (c : Dev nD) (q : Fin 4) : Vec F S1x256x2048 .f32 :=
  k0_pay1 (unsq (pV m c q)) (pV m (xp c) q) (unsq (rV m c q)) (gV m c)
def oX (c : Dev nD) (q : Fin 4) : Blk F := sqz (oW m c q)
/-- Quarter `s` of block `b` of the result, in `c`'s half of the mesh. -/
def bX (c : Dev nD) (b : Fin 8) (s : Fin 4) : Blk F := oX m (dvOf c b) s

theorem bX_dst (s' : Fin 4) (c : Dev nD) (b : Fin 8) (s : Fin 4) : bX m (dst s' c) b s = bX m c b s := by
  unfold bX; rw [dvOf_dst]
theorem bX_rid (c : Dev nD) (s : Fin 4) : bX m c (rid c) s = oX m c s := by unfold bX; rw [dvOf_rid]

/-! ## Chains of assertions -/

/-- `Φ h ∗ Φ (h + 1) ∗ …`, `n` of them. -/
def rem : ℕ → (ℕ → sProp 𝕄) → ℕ → sProp 𝕄
  | 0, _, _ => iprop(emp)
  | n + 1, Φ, h => iprop(Φ h ∗ rem n Φ (h + 1))

omit [FloatOps F] in
theorem rem_storable (n : ℕ) (Φ : ℕ → sProp 𝕄) [∀ h, BI.Storable (upEmb : UEmb _ 𝕄) (Φ h)] (h : ℕ) :
    BI.Storable (upEmb : UEmb _ 𝕄) (rem n Φ h) := by
  induction n generalizing h with
  | zero => unfold rem; infer_instance
  | succ n ih => have := ih (h + 1); unfold rem; infer_instance
instance (n : ℕ) (Φ : ℕ → sProp 𝕄) [∀ h, BI.Storable (upEmb : UEmb _ 𝕄) (Φ h)] (h : ℕ) :
    BI.Storable (upEmb : UEmb _ 𝕄) (rem n Φ h) := rem_storable n Φ h

/-- A view owned at contents nobody says. -/
abbrev ownsAny (c : Dev nD) {sp : Space} {s : Shape} {e : EltTy} (M : Memref sig .tc sp s e) : sProp 𝕄 :=
  iprop(∃ X, owns (Ix := Unit) (Name := ℕ) (U := UU) (Lvl := ℕ) (Val := Elt F) (c : Thread nD τ) M fullShare X)
/-- A view owned in full at the contents `X`. -/
abbrev ownsF (c : Dev nD) {sp : Space} {s : Shape} {e : EltTy} (M : Memref sig .tc sp s e) (X : s.Idx → Elt F e) : sProp 𝕄 :=
  owns (Ix := Unit) (Name := ℕ) (U := UU) (Lvl := ℕ) (Val := Elt F) (c : Thread nD τ) M fullShare X

/-- The rows of `e`'s result that stream `s` fills from outside, hop by hop. -/
def outs (e : Dev nD) (s : Fin 4) : sProp 𝕄 := rem 7 (fun h => ownsAny (F := F) e (oM (blk s e (h + 1)) s)) 0
/-- The quarters of `e`'s landing buffer. -/
def lands (e : Dev nD) : sProp 𝕄 :=
  iprop(ownsAny (F := F) e (prM 0) ∗ ownsAny (F := F) e (prM 1) ∗ ownsAny (F := F) e (prM 2) ∗ ownsAny (F := F) e (prM 3))

omit [FloatOps F] in
instance outs_storable (e : Dev nD) (s : Fin 4) : BI.Storable (upEmb : UEmb _ 𝕄) (outs (F := F) e s) := by unfold outs; infer_instance
omit [FloatOps F] in
instance lands_storable (e : Dev nD) : BI.Storable (upEmb : UEmb _ 𝕄) (lands (F := F) e) := by unfold lands; infer_instance

/-! ## The semaphores -/

/-- What a semaphore is for: the entry barrier; the exchange's sends and receives; a stream's sends; a stream's
    receive of one hop; a local copy of a quarter (0 `partial`, 1 `resid`, 2 the result); none of these. -/
inductive Kd where
  | bar
  | ps (i : Fin 4)
  | pr (i : Fin 4)
  | ss (s : Fin 4)
  | rr (s : Fin 4) (h : Fin 7)
  | lo (q : Fin 4) (t : Fin 3)
  | no

def psS (i : Fin 4) : DmaSem sig := ⟨1 + i.val, by have := i.isLt; show 1 + i.val < 53; omega⟩
def prS (i : Fin 4) : DmaSem sig := ⟨5 + i.val, by have := i.isLt; show 5 + i.val < 53; omega⟩
def ssS (s : Fin 4) : DmaSem sig := ⟨9 + s.val, by have := s.isLt; show 9 + s.val < 53; omega⟩
def rrS (s : Fin 4) (h : ℕ) : DmaSem sig := ⟨13 + 7 * s.val + h % 7, by have := s.isLt; show 13 + 7 * s.val + h % 7 < 53; omega⟩
def loS (q : Fin 4) (t : Fin 3) : DmaSem sig :=
  ⟨if t.val < 2 then 41 + 2 * q.val + t.val else 49 + q.val, by
    have := q.isLt; show (if t.val < 2 then 41 + 2 * q.val + t.val else 49 + q.val) < 53; split <;> omega⟩

def kdN (n : ℕ) : Kd :=
  if n = 0 then .no else if n < 5 then .ps ⟨(n - 1) % 4, Nat.mod_lt _ (by decide)⟩
  else if n < 9 then .pr ⟨(n - 5) % 4, Nat.mod_lt _ (by decide)⟩ else if n < 13 then .ss ⟨(n - 9) % 4, Nat.mod_lt _ (by decide)⟩
  else if n < 41 then .rr ⟨(n - 13) / 7 % 4, Nat.mod_lt _ (by decide)⟩ ⟨(n - 13) % 7, Nat.mod_lt _ (by decide)⟩
  else if n < 49 then .lo ⟨(n - 41) / 2 % 4, Nat.mod_lt _ (by decide)⟩ ⟨(n - 41) % 2, by omega⟩
  else .lo ⟨(n - 49) % 4, Nat.mod_lt _ (by decide)⟩ 2

def kd : SemLoc sig → Kd
  | .reg _ => .bar
  | .dma d => kdN d.val

theorem kd_bar : kd (.reg barrier0) = .bar := rfl
theorem kd_ps (i : Fin 4) : kd (.dma (psS i)) = .ps i := by fin_cases i <;> rfl
theorem kd_pr (i : Fin 4) : kd (.dma (prS i)) = .pr i := by fin_cases i <;> rfl
theorem kd_ss (s : Fin 4) : kd (.dma (ssS s)) = .ss s := by fin_cases s <;> rfl
theorem kd_rr (s : Fin 4) (h : ℕ) : kd (.dma (rrS s h)) = .rr s ⟨h % 7, Nat.mod_lt _ (by decide)⟩ := by
  have H : ∀ (s : Fin 4) (k : Fin 7), kdN (13 + 7 * s.val + k.val) = .rr s k := by
    intro s k; fin_cases s <;> fin_cases k <;> rfl
  exact H s ⟨h % 7, Nat.mod_lt _ (by decide)⟩
theorem kd_lo (q : Fin 4) (t : Fin 3) : kd (.dma (loS q t)) = .lo q t := by fin_cases q <;> fin_cases t <;> rfl

abbrev barC (c : Dev nD) : GSem nD τ sig := ((c : Thread nD τ), .reg barrier0)
abbrev dC (c : Dev nD) (n : DmaSem sig) : GSem nD τ sig := ((c : Thread nD τ), .dma n)

/-! ## The schedule -/

/-- The duties of a round: the barrier's three, a stream's sends in seven rounds, every other semaphore's one. -/
def dutK : Kd → ℕ → Finset (Fin 3)
  | .bar, r => if r = 0 then Finset.univ else ∅
  | .ss _, r => if r < 7 then {0} else ∅
  | .no, _ => ∅
  | _, r => if r = 0 then {0} else ∅

def amtK : Kd → ℕ
  | .bar => 1
  | _ => N

/-- What a round's units bring their owner. -/
def payK (c : Dev nD) : Kd → ℕ → Fin 3 → sProp 𝕄
  | .bar, _, d =>
    if d = 0 then lands (F := F) (xp c) else if d = 1 then iprop(outs (F := F) (rgt c) 0 ∗ outs (F := F) (rgt c) 1)
    else iprop(outs (F := F) (lft c) 2 ∗ outs (F := F) (lft c) 3)
  | .ps _, _, _ => iprop(emp)
  | .pr i, _, _ => ownsF c (prM (ord i)) (pV m (xp c) (ord i))
  | .ss s, r, _ => ownsF c (oM (blk s c r) s) (bX m c (blk s c r) s)
  | .rr s h, _, _ => ownsF c (oM (blk s c (h.val + 1)) s) (bX m c (blk s c (h.val + 1)) s)
  | .lo q t, _, _ =>
    if t = 0 then ownsF c (pcM q) (pV m c q) else if t = 1 then ownsF c (rcM q) (rV m c q)
    else iprop(ownsF c (oM (rid c) q) (oX m c q) ∗ ownsAny (F := F) c (ocM q))
  | .no, _, _ => iprop(emp)

def Rd : Rounds.Schedule (GSem nD τ sig) (Fin 3) 𝕄 where
  duties g r := if g.1.2 = .tc then dutK (kd g.2) r else ∅
  unitless _ := False
  amount g _ _ := amtK (kd g.2)
  payload g r d := payK m g.1.1 (kd g.2) r d
  amount_pos g _ _ _ := by
    unfold amtK; split
    · exact Nat.one_pos
    · exact N_pos

instance Rd_payload_storable (g : GSem nD τ sig) (r : ℕ) (d : Fin 3) :
    BI.Storable (upEmb : UEmb _ 𝕄) ((Rd (F := F) m).payload g r d) := by
  show BI.Storable upEmb (payK m g.1.1 (kd g.2) r d)
  unfold payK
  (repeat' split) <;> infer_instance

section Tables
variable (c : Dev nD)

theorem duties_eq (sm : SemLoc sig) (r : ℕ) : (Rd (F := F) m).duties ((c : Thread nD τ), sm) r = dutK (kd sm) r := by
  dsimp only [Rd]; exact if_pos rfl
theorem amount_eq (sm : SemLoc sig) (r : ℕ) (d : Fin 3) : (Rd (F := F) m).amount ((c : Thread nD τ), sm) r d = amtK (kd sm) := rfl
theorem payload_eq (sm : SemLoc sig) (r : ℕ) (d : Fin 3) : (Rd (F := F) m).payload ((c : Thread nD τ), sm) r d = payK m c (kd sm) r d := rfl

theorem duties_later (sm : SemLoc sig) (R : ℕ) (h : ∀ r, R ≤ r → dutK (kd sm) r = ∅) :
    ∀ r, R ≤ r → (Rd (F := F) m).duties ((c : Thread nD τ), sm) r = ∅ := fun r hr => by rw [duties_eq]; exact h r hr

theorem expect_one (sm : SemLoc sig) (r : ℕ) (hd : dutK (kd sm) r = {0}) (ha : amtK (kd sm) = N) :
    (Rd (F := F) m).expect ((c : Thread nD τ), sm) r = N := by
  unfold Schedule.expect Schedule.amountOf; rw [duties_eq, hd, Finset.sum_singleton, amount_eq, ha]
theorem expect_bar : (Rd (F := F) m).expect (barC c) 0 = 3 := by
  unfold Schedule.expect Schedule.amountOf; rw [duties_eq]; rfl

theorem rest_one (sm : SemLoc sig) (r : ℕ) (hd : dutK (kd sm) r = {0}) :
    bigSep ((Rd (F := F) m).duties ((c : Thread nD τ), sm) r \ ∅) (fun d => (Rd (F := F) m).payload ((c : Thread nD τ), sm) r d)
      = payK m c (kd sm) r 0 := by
  rw [Finset.sdiff_empty, duties_eq, hd, bigSep_singleton, payload_eq]
theorem rest_bar :
    bigSep ((Rd (F := F) m).duties (barC c) 0 \ ∅) (fun d => (Rd (F := F) m).payload (barC c) 0 d)
      = iprop(lands (F := F) (xp c) ∗ (outs (F := F) (rgt c) 0 ∗ outs (F := F) (rgt c) 1) ∗ (outs (F := F) (lft c) 2 ∗ outs (F := F) (lft c) 3)) := by
  rw [Finset.sdiff_empty, duties_eq, show dutK (kd (.reg barrier0)) 0 = Finset.univ from rfl,
    bigSep_univ_eq_bigSepL [0, 1, 2] (by decide) (by decide), bigSepL_cons_cons, bigSepL_cons_cons, bigSepL_singleton]
  rfl

end Tables

/-! ## Debts and levels -/

/-- A payment owed: the semaphore (0 the barrier, otherwise the transfer semaphore of that number) and the duty. -/
abbrev Due : Type := Fin 53 × Fin 3

def sl (k : Fin 53) : SemLoc sig := if k = 0 then .reg barrier0 else .dma ⟨k.val, k.isLt⟩

/-- Whom `c` pays a duty to. -/
def tgtK (c : Dev nD) : Kd → Fin 3 → Dev nD
  | .bar, d => if d = 0 then xp c else if d = 1 then lft c else rgt c
  | .pr _, _ => xp c
  | .rr s _, _ => dst s c
  | _, _ => c
/-- Who pays `c` a duty. -/
def payerK (c : Dev nD) : Kd → Fin 3 → Dev nD
  | .bar, d => if d = 0 then xp c else if d = 1 then rgt c else lft c
  | .pr _, _ => xp c
  | .rr s _, _ => srcd s c
  | _, _ => c
theorem tgt_payer (k : Kd) (d : Fin 3) (c : Dev nD) : tgtK (payerK c k d) k d = c := by
  cases k <;> simp only [tgtK, payerK]
  · by_cases h0 : d = 0
    · simp [h0, xp_xp]
    · by_cases h1 : d = 1
      · simp [h1, lft_rgt]
      · simp [h0, h1, rgt_lft]
  · exact xp_xp c
  · exact dst_srcd _ c
theorem payer_tgt (k : Kd) (d : Fin 3) (c : Dev nD) : payerK (tgtK c k d) k d = c := by
  cases k <;> simp only [tgtK, payerK]
  · by_cases h0 : d = 0
    · simp [h0, xp_xp]
    · by_cases h1 : d = 1
      · simp [h1, rgt_lft]
      · simp [h0, h1, lft_rgt]
  · exact xp_xp c
  · exact srcd_dst _ c

def owe (c : Dev nD) : List Due → CellTallies nD τ sig Unit
  | [] => 0
  | p :: l => owe c l + tallyAt ((tgtK c (kd (sl p.1)) p.2 : Thread nD τ), sl p.1) () (amtK (kd (sl p.1)))

/-- The level of a wait. -/
def lvK : Kd → ℕ
  | .bar => 1
  | .pr _ => 2
  | .rr _ h => 3 + h.val
  | _ => 0

def L (g : GSem nD τ sig) : Finset Unit := if g.1.2 = .tc then {()} else ∅
def lv (g : GSem nD τ sig) (_ : Unit) : ℕ := lvK (kd g.2)

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {g : GSem nD τ sig} {u : Unit} (l : List Due) (h : 0 < owe c l g u) :
    ∃ p ∈ l, ∃ e : Dev nD, g = ((e : Thread nD τ), sl p.1) := by
  induction l with
  | nil => exact absurd h (Nat.lt_irrefl 0)
  | cons p l ih =>
    unfold owe at h
    rw [Pi.add_apply, Finsupp.add_apply, tallyAt_apply] at h
    by_cases hg : g = ((tgtK c (kd (sl p.1)) p.2 : Thread nD τ), sl p.1)
    · exact ⟨p, List.mem_cons_self, _, hg⟩
    · rw [if_neg (fun h' => hg h'.1), Nat.add_zero] at h
      obtain ⟨p', hp', e, he⟩ := ih h
      exact ⟨p', List.mem_cons_of_mem _ hp', e, he⟩

omit [FloatOps F] in
/-- A device may wait at a level below every level it still owes at. -/
theorem mayWait (c : Dev nD) (sm : SemLoc sig) (l : List Due) (h : ∀ p ∈ l, lvK (kd sm) < lvK (kd (sl p.1))) :
    (levAts L lv : sProp 𝕄) ⊢ MayWait (c : Thread nD τ) sm () (owe c l) :=
  MayOwe.of_cut (L := L) (lev := lv) (lvK (kd sm)) (fun p hp => by rw [Finset.mem_singleton.mp hp, L_tc]; exact Finset.mem_singleton_self _)
    (fun g u hg => by obtain ⟨p, -, e, rfl⟩ := owe_pos l hg; rw [L_tc]; exact Finset.mem_singleton_self _)
    (fun p hp => by rw [Finset.mem_singleton.mp hp]; exact le_rfl)
    (fun g u hg => by obtain ⟨p, hp, e, rfl⟩ := owe_pos l hg; exact h p hp)

end Cert.KernelIdeal.Ring

end
-- ==== Proof.Ideal.Steps.lean ====
/-
One lemma per effect of the kernel's body: what it takes and what it leaves, in the terms of `Proto`.
-/
module

public import proofs.«01_k».proof.Proof.Ideal.Proto

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Records -/

/-- A device's semaphores, the barrier first. -/
def kcell (ck : Dev nD × Fin 53) : GSem nD τ sig := ((ck.1 : Thread nD τ), sl ck.2)

/-- What everyone knows throughout: every semaphore's invariant, that every semaphore's first round is open, the levels. -/
def recs (K : Dev nD × Fin 53 → ℕ) : sProp 𝕄 :=
  iprop((bigSep Finset.univ fun ck : Dev nD × Fin 53 => cellInv ER (Rd m) (K ck) (kcell ck))
    ∗ (bigSep Finset.univ fun ck : Dev nD × Fin 53 => reached ER (kcell ck) 0) ∗ levAts L lv)

instance recs_persistent (K : Dev nD × Fin 53 → ℕ) : BI.Persistent (recs m K) := by unfold recs; infer_instance

variable (K : Dev nD × Fin 53 → ℕ)

theorem sl_dma (q : DmaSem sig) (h : q.val ≠ 0) : sl ⟨q.val, q.isLt⟩ = .dma q := by
  unfold sl
  rw [if_neg (fun h' => h (congrArg Fin.val h'))]

theorem inv_at (ck : Dev nD × Fin 53) :
    (bigSep Finset.univ fun ck : Dev nD × Fin 53 => (cellInv ER (Rd m) (K ck) (kcell ck) : sProp 𝕄)) ⊢ cellInv ER (Rd m) (K ck) (kcell ck) :=
  bigSep_elim (Finset.mem_univ ck)
theorem reached_at (ck : Dev nD × Fin 53) :
    (bigSep Finset.univ fun ck : Dev nD × Fin 53 => (reached ER (kcell ck) 0 : sProp 𝕄)) ⊢ reached ER (kcell ck) 0 :=
  bigSep_elim (Finset.mem_univ ck)
theorem kcell_dma (c : Dev nD) (q : DmaSem sig) (h : q.val ≠ 0) : kcell (c, ⟨q.val, q.isLt⟩) = dC c q := by
  unfold kcell; rw [sl_dma q h]

theorem recs_inv (c : Dev nD) (q : DmaSem sig) (h : q.val ≠ 0) :
    recs m K ⊢ cellInv ER (Rd m) (K (c, ⟨q.val, q.isLt⟩)) (dC c q) := by
  rw [← kcell_dma c q h]
  unfold recs
  iintro ⟨#HI, -, -⟩
  iapply (inv_at m K (c, ⟨q.val, q.isLt⟩)); iexact HI
theorem recs_invB (c : Dev nD) : recs m K ⊢ cellInv ER (Rd m) (K (c, 0)) (barC c) := by
  unfold recs
  iintro ⟨#HI, -, -⟩
  iapply (inv_at m K (c, 0)); iexact HI
theorem recs_reached (c : Dev nD) (q : DmaSem sig) (h : q.val ≠ 0) : recs m K ⊢ reached ER (dC c q) 0 := by
  rw [← kcell_dma c q h]
  unfold recs
  iintro ⟨-, #HI, -⟩
  iapply (reached_at (F := F) (c, ⟨q.val, q.isLt⟩)); iexact HI
theorem recs_reachedB (c : Dev nD) : recs m K ⊢ reached ER (barC c) 0 := by
  unfold recs
  iintro ⟨-, #HI, -⟩
  iapply (reached_at (F := F) (c, 0)); iexact HI
theorem recs_lev : recs m K ⊢ (levAts L lv : sProp 𝕄) := by
  unfold recs
  iintro ⟨-, -, #HI⟩
  iexact HI
set_option maxRecDepth 20000 in
theorem recs_wait (c : Dev nD) (sm : SemLoc sig) (l : List Due) (h : ∀ p ∈ l, lvK (kd sm) < lvK (kd (sl p.1))) :
    recs m K ⊢ (MayWait (c : Thread nD τ) sm () (owe c l) : sProp 𝕄) := by
  have h1 := @mayWait F c sm l h
  have h2 := recs_lev m K
  exact h2.trans h1

/-! ## The core steps -/

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What `c` still owes, whatever it has waited for. -/
def ow (c : Dev nD) (l : List Due) : sProp 𝕄 := iprop(∃ W, owes (c : Thread nD τ) (owe c l) W)

/-- A wait on a transfer semaphore for its open round. -/
theorem wait_core (c : Dev nD) (q : DmaSem sig) (h0 : q.val ≠ 0) (r : ℕ) (hd : dutK (kd (.dma q)) r = {0}) (ha : amtK (kd (.dma q)) = N)
    (l : List Due) (hl : ∀ p ∈ l, lvK (kd (.dma q)) < lvK (kd (sl p.1)))
    {sp sp' : Space} {s' : Shape} {src : Memref sig .tc sp s' .f32} {dst : Memref sig .tc sp' S256x2048 .f32}
    {hsrc : src.view.WordExact} {hdst : dst.view.WordExact} (hN : dst.view.dmaCredit = N)
    {α : Type} {Q : α → sProp 𝕄} {k : PUnit → Prog (TpuEff nD τ sig (Elt F) Λ₀ .tc) α} :
    iprop(recs m K ∗ cred (tallyAt (dC c q) () N) ∗ ow c l ∗ atPos ER (dC c q) r ∅ 0)
      ⊢ iprop(((ow c l ∗ atPos ER (dC c q) (r + 1) ∅ 0 ∗ reached ER (dC c q) (r + 1) ∗ payK m c (kd (.dma q)) r 0) -∗ WP c (k ⟨⟩) Q)
          -∗ WP c (.op (.waitDma2 q src dst hsrc hdst) k) Q) := by
  have hk : 0 + dst.view.dmaCredit = (Rd (F := F) m).expect (dC c q) r := by
    rw [Nat.zero_add]; exact hN.trans (expect_one m c (.dma q) r hd ha).symm
  rw [← hN]
  unfold ow
  iintro ⟨#HR, Hc, ⟨%W, HO⟩, Hat⟩ Hk
  iapply (Rounds.wp_wait_rest_token 𝒱₀ ER (Rd m) (c : Thread nD τ) none (κ := K (c, ⟨q.val, q.isLt⟩))
      (wpE_waitDma2_eq 𝒱₀ (c : Thread nD τ) none Set.univ) (Set.mem_univ _) () (O := owe c l) (W := W) (R := r) (m := 0) (T := ∅)
      hk) $$ [Hc HO Hat]
  · isplitr; · iapply (recs_inv m K c q h0); iexact HR
    isplitl [Hc]; · iexact Hc
    isplitl [HO]; · iexact HO
    isplitr; · iapply (recs_wait m K c (.dma q) l hl); iexact HR
    iexact Hat
  iintro ⟨HO, Hat, Hre, Hpay⟩
  iapply Hk
  isplitl [HO]; · iexists _; iexact HO
  isplitl [Hat]; · iexact Hat
  isplitl [Hre]; · iexact Hre
  iapply (Entails.of_eq (rest_one m c (.dma q) r hd)); iexact Hpay

/-- A remote copy. -/
theorem send_core (c n : Dev nD) (qs qr : DmaSem sig) (h0s : qs.val ≠ 0) (h0r : qr.val ≠ 0) (rs : ℕ)
    (hds : dutK (kd (.dma qs)) rs = {0}) (hdr : dutK (kd (.dma qr)) 0 = {0}) (has : amtK (kd (.dma qs)) = N) (har : amtK (kd (.dma qr)) = N)
    (l₀ l : List Due) (hl : owe c l₀ = owe c l + tallyAt (dC n qr) () N)
    {sp sp' : Space} {src : Memref sig .tc sp S256x2048 .f32} {dst : Memref sig (Dev.tc n : Thread nD τ).2.kind sp' S256x2048 .f32}
    {hsc : dst.view.ref.isScScratch = false} {hsrc : src.view.WordExact} {hdst : dst.view.WordExact}
    {hsem : DmaTarget.Typed sp (.dma qr) (.remote (Dev.tc n : Thread nD τ) dst (.dma qs) hsc)} (hN : dst.view.dmaCredit = N)
    {q : PosShare TreeShare} (X : Blk F)
    (hp₁ : (owns (c : Thread nD τ) src q X : sProp 𝕄) ⊢ payK m c (kd (.dma qs)) rs 0)
    (hp₂ : (owns (n : Thread nD τ) dst fullShare X : sProp 𝕄) ⊢ payK m n (kd (.dma qr)) 0 0)
    {α : Type} {Q : α → sProp 𝕄} {k : PUnit → Prog (TpuEff nD τ sig (Elt F) Λ₀ .tc) α} :
    iprop(recs m K ∗ owns (c : Thread nD τ) src q X ∗ (∃ Y, owns (n : Thread nD τ) dst fullShare Y) ∗ ow c l₀
        ∗ dutyTok ER (dC c qs) rs 0 ∗ reached ER (dC c qs) rs ∗ dutyTok ER (dC n qr) 0 0)
      ⊢ iprop(((cred (tallyAt (dC c qs) () N) ∗ ow c l) -∗ WP c (k ⟨⟩) Q)
          -∗ WP c (.op (.enqueueDma src (.remote (Dev.tc n : Thread nD τ) dst (.dma qs) hsc) (.dma qr) hsrc hdst hsem) k) Q) := by
  unfold ow
  iintro ⟨#HR, Hs, ⟨%Y, Hd⟩, ⟨%W, HO⟩, Ht, #Hre, Htr⟩ Hk
  unfold owns
  icases Hs with ⟨%fs, %hfs, Hs⟩
  icases Hd with ⟨%fd, %hfd, Hd⟩
  iapply (Rounds.wp_send_pointsTo 𝒱₀ ER (Rd m) (c : Thread nD τ) none (κ₁ := K (c, ⟨qs.val, qs.isLt⟩)) (κ₂ := K (n, ⟨qr.val, qr.isLt⟩))
    (q := q) (fs := fs) (r₁ := rs) (r₂ := 0) (d₁ := (0 : Fin 3)) (d₂ := (0 : Fin 3)) (fd := fd)
    (by rw [duties_eq, hds]; exact Finset.mem_singleton_self _) (by rw [duties_eq, hdr]; exact Finset.mem_singleton_self _)
    () () N (show dst.view.amount (.dma qr) = N from hN) (by rw [amount_eq, has]) (by rw [amount_eq, har]) (owe c l) hl (W := W)
    (by
      rw [payload_eq]; refine BIBase.Entails.trans ?_ hp₁
      rw [← hfs]; exact owns_intro (c : Thread nD τ) src q fs)
    (by
      rw [payload_eq]; refine BIBase.Entails.trans ?_ hp₂
      refine (owns_intro (n : Thread nD τ) dst fullShare _).trans ?_
      rw [View.read_write_univ, hfs])) $$ [Hs Hd HO Ht Htr]
  · isplitr; · iapply (recs_inv m K c qs h0s); iexact HR
    isplitr; · iapply (recs_inv m K n qr h0r); iexact HR
    isplitl [Hs]; · iexact Hs
    isplitl [Hd]; · iexact Hd
    isplitl [HO]; · iexact HO
    isplitl [Ht]; · iexact Ht
    isplitr; · iexact Hre
    isplitl [Htr]; · iexact Htr
    iapply (recs_reached m K n qr h0r); iexact HR
  iintro ⟨Hc, HO⟩
  iapply Hk
  isplitl [Hc]; · iexact Hc
  iexists _; iexact HO

/-- A local copy. -/
theorem copy_core (c : Dev nD) (qs : DmaSem sig) (h0 : qs.val ≠ 0) (hd : dutK (kd (.dma qs)) 0 = {0}) (ha : amtK (kd (.dma qs)) = N)
    {sp sp' : Space} {src : Memref sig .tc sp S256x2048 .f32} {dst : Memref sig .tc sp' S256x2048 .f32}
    {hsrc : src.view.WordExact} {hdst : dst.view.WordExact} {hsem : DmaTarget.Typed (nD := nD) (τ := τ) (p := .tc) sp (.dma qs) (.here dst)} (hN : dst.view.dmaCredit = N)
    {q : PosShare TreeShare} (X : Blk F)
    (hp : iprop(owns (c : Thread nD τ) dst fullShare X ∗ owns (c : Thread nD τ) src q X) ⊢ payK m c (kd (.dma qs)) 0 0)
    {α : Type} {Q : α → sProp 𝕄} {k : PUnit → Prog (TpuEff nD τ sig (Elt F) Λ₀ .tc) α} :
    iprop(recs m K ∗ owns (c : Thread nD τ) src q X ∗ (∃ Y, owns (c : Thread nD τ) dst fullShare Y) ∗ dutyTok ER (dC c qs) 0 0)
      ⊢ iprop((cred (tallyAt (dC c qs) () N) -∗ WP c (k ⟨⟩) Q)
          -∗ WP c (.op (.enqueueDma src (.here dst) (.dma qs) hsrc hdst hsem) k) Q) := by
  iintro ⟨#HR, Hs, ⟨%Y, Hd⟩, Ht⟩ Hk
  unfold owns
  icases Hs with ⟨%fs, %hfs, Hs⟩
  icases Hd with ⟨%fd, %hfd, Hd⟩
  iapply (Rounds.wp_copy_pointsTo 𝒱₀ ER (Rd m) (c : Thread nD τ) none (κ := K (c, ⟨qs.val, qs.isLt⟩))
    (q := q) (fs := fs) (r := 0) (d := (0 : Fin 3)) (fd := fd)
    (by rw [duties_eq, hd]; exact Finset.mem_singleton_self _) () N (show dst.view.amount (.dma qs) = N from hN) (by rw [amount_eq, ha])
    (by
      rw [payload_eq]; refine BIBase.Entails.trans ?_ hp
      refine Laws.sep_mono ((owns_intro (c : Thread nD τ) dst fullShare _).trans ?_) ?_
      · rw [View.read_write_univ, hfs]
      · rw [← hfs]; exact owns_intro (c : Thread nD τ) src q fs)) $$ [Hs Hd Ht]
  · isplitr; · iapply (recs_inv m K c qs h0); iexact HR
    isplitl [Hs]; · iexact Hs
    isplitl [Hd]; · iexact Hd
    isplitl [Ht]; · iexact Ht
    iapply (recs_reached m K c qs h0); iexact HR
  iexact Hk

/-- A signal of one unit to the barrier of `n`. -/
theorem signal_core (c n : Dev nD) (d : Fin 3) (l₀ l : List Due) (hl : owe c l₀ = owe c l + tallyAt (barC n) () 1)
    {α : Type} {Q : α → sProp 𝕄} {k : PUnit → Prog (TpuEff nD τ sig (Elt F) Λ₀ .tc) α} :
    iprop(recs m K ∗ ow c l₀ ∗ dutyTok ER (barC n) 0 d ∗ payK m n .bar 0 d)
      ⊢ iprop((ow c l -∗ WP c (k ⟨⟩) Q) -∗ WP c (.op (.semSignal (n : Thread nD τ) (barrier0 : Sem sig) 1) k) Q) := by
  rw [show payK m n .bar 0 d = (Rd m).payload (barC n) 0 d from rfl]
  unfold ow
  iintro ⟨#HR, ⟨%W, HO⟩, Ht, Hp⟩ Hk
  iapply (Rounds.wp_signal 𝒱₀ ER (Rd m) (c : Thread nD τ) none (dst := (n : Thread nD τ)) (κ := K (n, 0)) (sem := barrier0) (r := 0)
      (d := d) (by rw [duties_eq]; exact Finset.mem_univ _) (k' := 1) rfl () (owe c l) hl (W := W)) $$ [HO Ht Hp]
  · isplitr; · iapply (recs_invB m K n); iexact HR
    isplitl [HO]; · iexact HO
    isplitl [Ht]; · iexact Ht
    isplitl [Hp]; · iexact Hp
    iapply (recs_reachedB m K n); iexact HR
  iintro HO
  iapply Hk
  iexists _; iexact HO

/-- The wait for the barrier's three units: what the three others handed over. -/
theorem barrier_core (c : Dev nD) (l : List Due) (hl : ∀ p ∈ l, 1 < lvK (kd (sl p.1)))
    {α : Type} {Q : α → sProp 𝕄} {k : PUnit → Prog (TpuEff nD τ sig (Elt F) Λ₀ .tc) α} :
    iprop(recs m K ∗ cred (tallyAt (barC c) () 3) ∗ ow c l ∗ atPos ER (barC c) 0 ∅ 0)
      ⊢ iprop(((ow c l ∗ atPos ER (barC c) 1 ∅ 0
            ∗ lands (F := F) (xp c) ∗ (outs (F := F) (rgt c) 0 ∗ outs (F := F) (rgt c) 1) ∗ (outs (F := F) (lft c) 2 ∗ outs (F := F) (lft c) 3)) -∗ WP c (k ⟨⟩) Q)
          -∗ WP c (.op (.semWait (barrier0 : Sem sig) 3) k) Q) := by
  have hk : 0 + 3 = (Rd (F := F) m).expect (barC c) 0 := (expect_bar m c).symm
  unfold ow
  iintro ⟨#HR, Hc, ⟨%W, HO⟩, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := owe c l) (W := W) (R := 0) (m := 0) (T := ∅)
      hk) $$ [Hc HO Hat]
  · isplitr; · iapply (recs_invB m K c); iexact HR
    isplitl [Hc]; · iexact Hc
    isplitl [HO]; · iexact HO
    isplitr; · iapply (recs_wait m K c (.reg barrier0) l hl); iexact HR
    iexact Hat
  iintro ⟨HO, Hat, -, Hpay⟩
  iapply Hk
  isplitl [HO]; · iexists _; iexact HO
  isplitl [Hat]; · iexact Hat
  iapply (Entails.of_eq (rest_bar m c)); iexact Hpay

end Cert.KernelIdeal.Ring

end
-- ==== Proof.Ideal.Moves.lean ====
/-
The steps of the body in the terms of the protocol: the entry handshake, the exchange between the halves, the local
copies, the loads and stores, the hops of a stream.
-/
module

public import proofs.«01_k».proof.Proof.Ideal.Steps

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

/-! ## Neighbours, offsets -/

theorem dvOf_val (c : Dev nD) (b : Fin 8) : (dvOf c b).val
    = 8 * (c.val / 8) + 4 * (if b.val < 4 then 0 else 1) + (if b.val < 4 then b.val else 7 - b.val) := by
  have := b.isLt
  simp only [dvOf]; split <;> omega
theorem rgt_val (c : Dev nD) : (rgt c).val = 8 * (c.val / 8) + 4 * (if (((rid c).val + 1) % 8) < 4 then 0 else 1)
    + (if (((rid c).val + 1) % 8) < 4 then (((rid c).val + 1) % 8) else 7 - (((rid c).val + 1) % 8)) :=
  dvOf_val c ⟨((rid c).val + 1) % 8, _⟩
theorem lft_val (c : Dev nD) : (lft c).val = 8 * (c.val / 8) + 4 * (if (((rid c).val + 7) % 8) < 4 then 0 else 1)
    + (if (((rid c).val + 7) % 8) < 4 then (((rid c).val + 7) % 8) else 7 - (((rid c).val + 7) % 8)) :=
  dvOf_val c ⟨((rid c).val + 7) % 8, _⟩
theorem xp_val (c : Dev nD) : (xp c).val = (4 * ((c.val / 4) % 2) + (c.val % 4) + 8) - 8 * (c.val / 8) := by
  have : c.val < 16 := c.isLt
  simp only [xp]; omega

theorem dv1 (c : Dev nD) : (⟨k0_dev1 c, k0_dev1_lt c⟩ : Dev nD) = xp c := Fin.ext ((k0_dev1_eq c).trans (xp_val c).symm)
theorem dv2 (c : Dev nD) : (⟨k0_dev2 c, k0_dev2_lt c⟩ : Dev nD) = rgt c := Fin.ext ((k0_dev2_eq c).trans (rgt_val c).symm)
theorem dv3 (c : Dev nD) : (⟨k0_dev3 c, k0_dev3_lt c⟩ : Dev nD) = lft c := Fin.ext ((k0_dev3_eq c).trans (lft_val c).symm)
theorem dv4 (c : Dev nD) : (⟨k0_dev4 c, k0_dev4_lt c⟩ : Dev nD) = xp c := Fin.ext ((k0_dev4_eq c).trans (xp_val c).symm)
theorem dv5 (c : Dev nD) : (⟨k0_dev5 c, k0_dev5_lt c⟩ : Dev nD) = xp c := Fin.ext ((k0_dev5_eq c).trans (xp_val c).symm)
theorem dv6 (c : Dev nD) : (⟨k0_dev6 c, k0_dev6_lt c⟩ : Dev nD) = xp c := Fin.ext ((k0_dev6_eq c).trans (xp_val c).symm)
theorem dv7 (c : Dev nD) : (⟨k0_dev7 c, k0_dev7_lt c⟩ : Dev nD) = xp c := Fin.ext ((k0_dev7_eq c).trans (xp_val c).symm)
theorem dv8 (c : Dev nD) : (⟨k0_dev8 c, k0_dev8_lt c⟩ : Dev nD) = rgt c := Fin.ext ((k0_dev8_eq c).trans (rgt_val c).symm)
theorem dv9 (c : Dev nD) : (⟨k0_dev9 c, k0_dev9_lt c⟩ : Dev nD) = lft c := Fin.ext ((k0_dev9_eq c).trans (lft_val c).symm)
theorem dv10 (c : Dev nD) : (⟨k0_dev10 c, k0_dev10_lt c⟩ : Dev nD) = rgt c := Fin.ext ((k0_dev10_eq c).trans (rgt_val c).symm)
theorem dv11 (c : Dev nD) : (⟨k0_dev11 c, k0_dev11_lt c⟩ : Dev nD) = lft c := Fin.ext ((k0_dev11_eq c).trans (lft_val c).symm)
theorem dv12 (c : Dev nD) : (⟨k0_dev12 c, k0_dev12_lt c⟩ : Dev nD) = rgt c := Fin.ext ((k0_dev12_eq c).trans (rgt_val c).symm)
theorem dv13 (c : Dev nD) : (⟨k0_dev13 c, k0_dev13_lt c⟩ : Dev nD) = rgt c := Fin.ext ((k0_dev13_eq c).trans (rgt_val c).symm)
theorem dv14 (c : Dev nD) : (⟨k0_dev14 c, k0_dev14_lt c⟩ : Dev nD) = lft c := Fin.ext ((k0_dev14_eq c).trans (lft_val c).symm)
theorem dv15 (c : Dev nD) : (⟨k0_dev15 c, k0_dev15_lt c⟩ : Dev nD) = lft c := Fin.ext ((k0_dev15_eq c).trans (lft_val c).symm)
theorem dv16 (c : Dev nD) : (⟨k0_dev16 c, k0_dev16_lt c⟩ : Dev nD) = rgt c := Fin.ext ((k0_dev16_eq c).trans (rgt_val c).symm)
theorem dv17 (c : Dev nD) : (⟨k0_dev17 c, k0_dev17_lt c⟩ : Dev nD) = rgt c := Fin.ext ((k0_dev17_eq c).trans (rgt_val c).symm)
theorem dv18 (c : Dev nD) : (⟨k0_dev18 c, k0_dev18_lt c⟩ : Dev nD) = lft c := Fin.ext ((k0_dev18_eq c).trans (lft_val c).symm)
theorem dv19 (c : Dev nD) : (⟨k0_dev19 c, k0_dev19_lt c⟩ : Dev nD) = lft c := Fin.ext ((k0_dev19_eq c).trans (lft_val c).symm)
theorem dv20 (c : Dev nD) : (⟨k0_dev20 c, k0_dev20_lt c⟩ : Dev nD) = rgt c := Fin.ext ((k0_dev20_eq c).trans (rgt_val c).symm)
theorem dv21 (c : Dev nD) : (⟨k0_dev21 c, k0_dev21_lt c⟩ : Dev nD) = rgt c := Fin.ext ((k0_dev21_eq c).trans (rgt_val c).symm)
theorem dv22 (c : Dev nD) : (⟨k0_dev22 c, k0_dev22_lt c⟩ : Dev nD) = lft c := Fin.ext ((k0_dev22_eq c).trans (lft_val c).symm)
theorem dv23 (c : Dev nD) : (⟨k0_dev23 c, k0_dev23_lt c⟩ : Dev nD) = lft c := Fin.ext ((k0_dev23_eq c).trans (lft_val c).symm)
theorem dv24 (c : Dev nD) : (⟨k0_dev24 c, k0_dev24_lt c⟩ : Dev nD) = rgt c := Fin.ext ((k0_dev24_eq c).trans (rgt_val c).symm)
theorem dv25 (c : Dev nD) : (⟨k0_dev25 c, k0_dev25_lt c⟩ : Dev nD) = rgt c := Fin.ext ((k0_dev25_eq c).trans (rgt_val c).symm)
theorem dv26 (c : Dev nD) : (⟨k0_dev26 c, k0_dev26_lt c⟩ : Dev nD) = lft c := Fin.ext ((k0_dev26_eq c).trans (lft_val c).symm)
theorem dv27 (c : Dev nD) : (⟨k0_dev27 c, k0_dev27_lt c⟩ : Dev nD) = lft c := Fin.ext ((k0_dev27_eq c).trans (lft_val c).symm)
theorem dv28 (c : Dev nD) : (⟨k0_dev28 c, k0_dev28_lt c⟩ : Dev nD) = rgt c := Fin.ext ((k0_dev28_eq c).trans (rgt_val c).symm)
theorem dv29 (c : Dev nD) : (⟨k0_dev29 c, k0_dev29_lt c⟩ : Dev nD) = rgt c := Fin.ext ((k0_dev29_eq c).trans (rgt_val c).symm)
theorem dv30 (c : Dev nD) : (⟨k0_dev30 c, k0_dev30_lt c⟩ : Dev nD) = lft c := Fin.ext ((k0_dev30_eq c).trans (lft_val c).symm)
theorem dv31 (c : Dev nD) : (⟨k0_dev31 c, k0_dev31_lt c⟩ : Dev nD) = lft c := Fin.ext ((k0_dev31_eq c).trans (lft_val c).symm)
theorem dv32 (c : Dev nD) : (⟨k0_dev32 c, k0_dev32_lt c⟩ : Dev nD) = rgt c := Fin.ext ((k0_dev32_eq c).trans (rgt_val c).symm)
theorem dv33 (c : Dev nD) : (⟨k0_dev33 c, k0_dev33_lt c⟩ : Dev nD) = rgt c := Fin.ext ((k0_dev33_eq c).trans (rgt_val c).symm)
theorem dv34 (c : Dev nD) : (⟨k0_dev34 c, k0_dev34_lt c⟩ : Dev nD) = lft c := Fin.ext ((k0_dev34_eq c).trans (lft_val c).symm)
theorem dv35 (c : Dev nD) : (⟨k0_dev35 c, k0_dev35_lt c⟩ : Dev nD) = lft c := Fin.ext ((k0_dev35_eq c).trans (lft_val c).symm)

theorem off1 (c : Dev nD) (q : Fin 4) : k0_off1 c (BitVec.ofNat 32 (256 * q.val)) = ![0, 1024 * (rid c).val + 256 * q.val, 0] := k0_off1_eq c q
theorem off2 (c : Dev nD) (q : Fin 4) : k0_off2 c (BitVec.ofNat 32 (256 * q.val)) = ![1024 * (rid c).val + 256 * q.val, 0] := k0_off2_eq c q
/-- The rows a forward stream sends on hop `h + 1`. -/
theorem off3 (c : Dev nD) (h : Fin 6) (j : Fin 2) (s : Fin 4) (hs : s.val = j.val) :
    k0_off3 c (BitVec.ofNat 32 (1 + h.val)) (BitVec.ofNat 32 (256 * j.val)) = ![1024 * (blk s c (h.val + 1)).val + 256 * s.val, 0] := by
  rw [k0_off3_eq c h j, hs]
  have h1 : (((rid c).val + 7) - h.val) % 8 = (blk s c (h.val + 1)).val := by
    have := (rid c).isLt; have := h.isLt; have := j.isLt
    simp only [blk, hs]; rw [if_pos (by omega)]; omega
  rw [← h1]; rfl
/-- The rows a backward stream sends on hop `h + 1`. -/
theorem off4 (c : Dev nD) (h : Fin 6) (j : Fin 2) (s : Fin 4) (hs : s.val = 2 + j.val) :
    k0_off4 c (BitVec.ofNat 32 h.val) (BitVec.ofNat 32 (512 + 256 * j.val)) = ![1024 * (blk s c (h.val + 1)).val + 256 * s.val, 0] := by
  rw [k0_off4_eq c h j, hs]
  have h1 : ((rid c).val + h.val + 1) % 8 = (blk s c (h.val + 1)).val := by
    simp only [blk, hs]; rw [if_neg (by omega)]; congr 1
  rw [← h1]
  have h2 : 1024 * (((rid c).val + h.val + 1) % 8) + 256 * j.val + 512 = 1024 * (((rid c).val + h.val + 1) % 8) + 256 * (2 + j.val) := by omega
  exact congrArg (fun n : ℕ => (![n, 0] : Fin 2 → ℕ)) h2

/-! ## Debts -/

abbrev dB (d : Fin 3) : Due := (0, d)
abbrev dP (i : Fin 4) : Due := (⟨(prS i).val, (prS i).isLt⟩, 0)
abbrev dR (s : Fin 4) (h : ℕ) : Due := (⟨(rrS s h).val, (rrS s h).isLt⟩, 0)

/-- Everything a device owes, in the order it pays. -/
def L0 : List Due :=
  [dB 0, dB 2, dB 1, dP 0, dP 1, dP 2, dP 3, dR 0 0, dR 2 0, dR 1 0, dR 3 0,
   dR 0 1, dR 1 1, dR 2 1, dR 3 1, dR 0 2, dR 1 2, dR 2 2, dR 3 2, dR 0 3, dR 1 3, dR 2 3, dR 3 3,
   dR 0 4, dR 1 4, dR 2 4, dR 3 4, dR 0 5, dR 1 5, dR 2 5, dR 3 5, dR 0 6, dR 1 6, dR 2 6, dR 3 6]
/-- What is left after the first `n` payments. -/
def due (n : ℕ) : List Due := L0.drop n

theorem prS_ne (i : Fin 4) : (prS i).val ≠ 0 := by show 5 + i.val ≠ 0; omega
theorem psS_ne (i : Fin 4) : (psS i).val ≠ 0 := by show 1 + i.val ≠ 0; omega
theorem ssS_ne (s : Fin 4) : (ssS s).val ≠ 0 := by show 9 + s.val ≠ 0; omega
theorem rrS_ne (s : Fin 4) (h : ℕ) : (rrS s h).val ≠ 0 := by show 13 + 7 * s.val + h % 7 ≠ 0; omega
theorem loS_ne (q : Fin 4) (t : Fin 3) : (loS q t).val ≠ 0 := by
  show (if t.val < 2 then 41 + 2 * q.val + t.val else 49 + q.val) ≠ 0; split <;> omega

theorem amt_of {x k : Kd} (e : x = k) (h : k ≠ .bar) : amtK x = N := by
  subst e; unfold amtK; split
  · exact absurd rfl h
  · rfl
theorem tgt_of (c : Dev nD) {x k : Kd} (e : x = k) (d : Fin 3) : tgtK c x d = tgtK c k d := by rw [e]

theorem owe_dma (c : Dev nD) (q : DmaSem sig) (h0 : q.val ≠ 0) (ha : amtK (kd (.dma q)) = N) (d : Fin 3) (l : List Due) :
    owe c ((⟨q.val, q.isLt⟩, d) :: l) = owe c l + tallyAt (dC (tgtK c (kd (.dma q)) d) q) () N := by
  show owe c l + tallyAt ((tgtK c (kd (sl ⟨q.val, q.isLt⟩)) d : Thread nD τ), sl ⟨q.val, q.isLt⟩) () (amtK (kd (sl ⟨q.val, q.isLt⟩))) = _
  rw [sl_dma q h0, ha]
theorem owe_dP (c : Dev nD) (i : Fin 4) (l : List Due) : owe c (dP i :: l) = owe c l + tallyAt (dC (xp c) (prS i)) () N := by
  have e := owe_dma c (prS i) (prS_ne i) (amt_of (kd_pr i) nofun) 0 l
  rw [tgt_of c (kd_pr i) 0] at e
  exact e
theorem owe_dR (c : Dev nD) (s : Fin 4) (h : ℕ) (l : List Due) : owe c (dR s h :: l) = owe c l + tallyAt (dC (dst s c) (rrS s h)) () N := by
  have e := owe_dma c (rrS s h) (rrS_ne s h) (amt_of (kd_rr s h) nofun) 0 l
  rw [tgt_of c (kd_rr s h) 0] at e
  exact e
theorem owe_dB (c : Dev nD) (d : Fin 3) (l : List Due) : owe c (dB d :: l) = owe c l + tallyAt (barC (tgtK c .bar d)) () 1 := rfl

theorem pay_ps (c : Dev nD) (i : Fin 4) : payK m c (.ps i) 0 0 = iprop(emp) := rfl
theorem pay_pr (c : Dev nD) (i : Fin 4) : payK m c (.pr i) 0 0 = ownsF c (prM (ord i)) (pV m (xp c) (ord i)) := rfl
theorem pay_lo0 (c : Dev nD) (q : Fin 4) : payK m c (.lo q 0) 0 0 = ownsF c (pcM q) (pV m c q) := rfl
theorem pay_lo1 (c : Dev nD) (q : Fin 4) : payK m c (.lo q 1) 0 0 = ownsF c (rcM q) (rV m c q) := rfl
theorem pay_lo2 (c : Dev nD) (q : Fin 4) :
    payK m c (.lo q 2) 0 0 = iprop(ownsF c (oM (rid c) q) (oX m c q) ∗ ownsAny (F := F) c (ocM q)) := rfl
theorem credA {off inb} : (((Memref.whole main_arg0).slice (Rect.unit (s := S1x8192x2048) off S1x256x2048.size inb) (fun _ => rfl)).squeeze S256x2048 squeezes_S1x256x2048_S256x2048).view.dmaCredit = N := rfl
theorem credPr {off inb} : ((Memref.whole cc0_scratch0).slice (Rect.unit (s := S1024x2048) off S256x2048.size inb) (fun _ => rfl)).view.dmaCredit = N := rfl
theorem credC1 {off inb} : (((Memref.whole cc0_scratch1).slice (Rect.unit (s := S4x256x2048) off S1x256x2048.size inb) (fun _ => rfl)).squeeze S256x2048 squeezes_S1x256x2048_S256x2048).view.dmaCredit = N := rfl
theorem credC2 {off inb} : (((Memref.whole cc0_scratch2).slice (Rect.unit (s := S4x256x2048) off S1x256x2048.size inb) (fun _ => rfl)).squeeze S256x2048 squeezes_S1x256x2048_S256x2048).view.dmaCredit = N := rfl
theorem credOut {off inb} : ((Memref.whole main_v1).slice (Rect.unit (s := S8192x2048) off S256x2048.size inb) (fun _ => rfl)).view.dmaCredit = N := rfl

/-! ## The entry handshake -/

section Moves
variable (c : Dev nD)

theorem signal0 (n : Dev nD) (hn : n = xp c) (l₀ l : List Due) (hl : l₀ = dB 0 :: l)
    {α : Type} {Q : α → sProp 𝕄} {k : PUnit → Prog (TpuEff nD τ sig (Elt F) Λ₀ .tc) α} :
    iprop(recs m K ∗ ow (F := F) c l₀ ∗ dutyTok ER (barC (xp c)) 0 (0 : Fin 3) ∗ lands (F := F) c)
      ⊢ iprop((ow (F := F) c l -∗ WP c (k ⟨⟩) Q) -∗ WP c (.op (.semSignal (n : Thread nD τ) (barrier0 : Sem sig) 1) k) Q) := by
  subst hn
  have h := signal_core (Q := Q) (k := k) m K c (xp c) 0 l₀ l (by rw [hl]; exact owe_dB c 0 l)
  have e : payK m (xp c) .bar 0 0 = lands (F := F) c := by
    show lands (F := F) (xp (xp c)) = _
    rw [xp_xp]
  rw [e] at h; exact h
theorem signal1 (n : Dev nD) (hn : n = rgt c) (l₀ l : List Due) (hl : l₀ = dB 2 :: l)
    {α : Type} {Q : α → sProp 𝕄} {k : PUnit → Prog (TpuEff nD τ sig (Elt F) Λ₀ .tc) α} :
    iprop(recs m K ∗ ow (F := F) c l₀ ∗ dutyTok ER (barC (rgt c)) 0 (2 : Fin 3) ∗ (outs (F := F) c 2 ∗ outs (F := F) c 3))
      ⊢ iprop((ow (F := F) c l -∗ WP c (k ⟨⟩) Q) -∗ WP c (.op (.semSignal (n : Thread nD τ) (barrier0 : Sem sig) 1) k) Q) := by
  subst hn
  have h := signal_core (Q := Q) (k := k) m K c (rgt c) 2 l₀ l (by rw [hl]; exact owe_dB c 2 l)
  have e : payK m (rgt c) .bar 0 2 = iprop(outs (F := F) c 2 ∗ outs (F := F) c 3) := by
    show iprop(outs (F := F) (lft (rgt c)) 2 ∗ outs (F := F) (lft (rgt c)) 3) = _
    rw [lft_rgt]
  rw [e] at h; exact h
theorem signal2 (n : Dev nD) (hn : n = lft c) (l₀ l : List Due) (hl : l₀ = dB 1 :: l)
    {α : Type} {Q : α → sProp 𝕄} {k : PUnit → Prog (TpuEff nD τ sig (Elt F) Λ₀ .tc) α} :
    iprop(recs m K ∗ ow (F := F) c l₀ ∗ dutyTok ER (barC (lft c)) 0 (1 : Fin 3) ∗ (outs (F := F) c 0 ∗ outs (F := F) c 1))
      ⊢ iprop((ow (F := F) c l -∗ WP c (k ⟨⟩) Q) -∗ WP c (.op (.semSignal (n : Thread nD τ) (barrier0 : Sem sig) 1) k) Q) := by
  subst hn
  have h := signal_core (Q := Q) (k := k) m K c (lft c) 1 l₀ l (by rw [hl]; exact owe_dB c 1 l)
  have e : payK m (lft c) .bar 0 1 = iprop(outs (F := F) c 0 ∗ outs (F := F) c 1) := by
    show iprop(outs (F := F) (rgt (lft c)) 0 ∗ outs (F := F) (rgt (lft c)) 1) = _
    rw [rgt_lft]
  rw [e] at h; exact h

/-! ## The exchange -/

theorem exch_send (i q : Fin 4) (hq : ord i = q) (n : Dev nD) (hn : n = xp c) (l₀ l : List Due) (hl : l₀ = dP i :: l) (sh : PosShare TreeShare)
    {off off' : _} (ho : off = ![0, 1024 * (rid c).val + 256 * q.val, 0]) (ho' : off' = ![256 * q.val, 0]) {inb inb' : _}
    {hsc : _} {hsrc : _} {hdst : _} {hsem : _} {α : Type} {Q : α → sProp 𝕄} {k : PUnit → Prog (TpuEff nD τ sig (Elt F) Λ₀ .tc) α} :
    iprop(recs m K ∗ owns (c : Thread nD τ) (aM (rid c) q) sh (pV m c q) ∗ ownsAny (F := F) (xp c) (prM q) ∗ ow (F := F) c l₀
        ∗ dutyTok ER (dC c (psS i)) 0 (0 : Fin 3) ∗ dutyTok ER (dC (xp c) (prS i)) 0 (0 : Fin 3))
      ⊢ iprop(((cred (tallyAt (dC c (psS i)) () N) ∗ ow (F := F) c l) -∗ WP c (k ⟨⟩) Q)
          -∗ WP c (.op (.enqueueDma (((Memref.whole main_arg0).slice (Rect.unit (s := S1x8192x2048) off S1x256x2048.size inb) (fun _ => rfl)).squeeze S256x2048 squeezes_S1x256x2048_S256x2048)
              (.remote (Dev.tc n : Thread nD τ) ((Memref.whole cc0_scratch0).slice (Rect.unit (s := S1024x2048) off' S256x2048.size inb') (fun _ => rfl)) (.dma (psS i)) hsc)
              (.dma (prS i)) hsrc hdst hsem) k) Q) := by
  subst hn ho ho' hq
  iintro ⟨#HR, Hs, Hd, HO, Ht, Htr⟩ Hk
  iapply (send_core m K c (xp c) (psS i) (prS i) (psS_ne i) (prS_ne i) 0 (by rw [kd_ps]; rfl) (by rw [kd_pr]; rfl) (amt_of (kd_ps i) nofun) (amt_of (kd_pr i) nofun)
    l₀ l (by rw [hl]; exact owe_dP c i l) (credP (ord i)) (pV m c (ord i)) (q := sh)
    (by rw [kd_ps, pay_ps]; iintro -; iempintro)
    (by rw [kd_pr, pay_pr, xp_xp])) $$ [Hs Hd HO Ht Htr]
  · isplitr; · iexact HR
    isplitl [Hs]; · iexact Hs
    isplitl [Hd]; · iexact Hd
    isplitl [HO]; · iexact HO
    isplitl [Ht]; · iexact Ht
    isplitr; · iapply (recs_reached m K c (psS i) (psS_ne i)); iexact HR
    iexact Htr
  iexact Hk

theorem wait_ps (i : Fin 4) (l : List Due) (hl : ∀ p ∈ l, 0 < lvK (kd (sl p.1)))
    {off : _} {inb : _} {sp : Space} {s' : Shape} {src : Memref sig .tc sp s' .f32} {hsrc : _} {hdst : _} {α : Type} {Q : α → sProp 𝕄} {k : PUnit → Prog (TpuEff nD τ sig (Elt F) Λ₀ .tc) α} :
    iprop(recs m K ∗ cred (tallyAt (dC c (psS i)) () N) ∗ ow (F := F) c l ∗ atPos ER (dC c (psS i)) 0 ∅ 0)
      ⊢ iprop(((ow (F := F) c l ∗ atPos ER (dC c (psS i)) 1 ∅ 0) -∗ WP c (k ⟨⟩) Q)
          -∗ WP c (.op (.waitDma2 (psS i) src (((Memref.whole main_arg0).slice (Rect.unit (s := S1x8192x2048) off S1x256x2048.size inb) (fun _ => rfl)).squeeze S256x2048 squeezes_S1x256x2048_S256x2048) hsrc hdst) k) Q) := by
  iintro ⟨#HR, Hc, HO, Ha⟩ Hk
  iapply (wait_core m K c (psS i) (psS_ne i) 0 (by rw [kd_ps]; rfl) (amt_of (kd_ps i) nofun) l (by rw [kd_ps]; exact hl) credA) $$ [Hc HO Ha]
  · isplitr; · iexact HR
    isplitl [Hc]; · iexact Hc
    isplitl [HO]; · iexact HO
    iexact Ha
  iintro ⟨HO, Ha, -, -⟩
  iapply Hk
  isplitl [HO]; · iexact HO
  iexact Ha

theorem wait_pr (i q : Fin 4) (hq : ord i = q) (l : List Due) (hl : ∀ p ∈ l, 2 < lvK (kd (sl p.1)))
    {off : _} {inb : _} {sp : Space} {s' : Shape} {src : Memref sig .tc sp s' .f32} {hsrc : _} {hdst : _} {α : Type} {Q : α → sProp 𝕄} {k : PUnit → Prog (TpuEff nD τ sig (Elt F) Λ₀ .tc) α} :
    iprop(recs m K ∗ cred (tallyAt (dC c (prS i)) () N) ∗ ow (F := F) c l ∗ atPos ER (dC c (prS i)) 0 ∅ 0)
      ⊢ iprop(((ow (F := F) c l ∗ atPos ER (dC c (prS i)) 1 ∅ 0 ∗ ownsF c (prM q) (pV m (xp c) q)) -∗ WP c (k ⟨⟩) Q)
          -∗ WP c (.op (.waitDma2 (prS i) src ((Memref.whole cc0_scratch0).slice (Rect.unit (s := S1024x2048) off S256x2048.size inb) (fun _ => rfl)) hsrc hdst) k) Q) := by
  subst hq
  iintro ⟨#HR, Hc, HO, Ha⟩ Hk
  iapply (wait_core m K c (prS i) (prS_ne i) 0 (by rw [kd_pr]; rfl) (amt_of (kd_pr i) nofun) l (by rw [kd_pr]; exact hl) credPr) $$ [Hc HO Ha]
  · isplitr; · iexact HR
    isplitl [Hc]; · iexact Hc
    isplitl [HO]; · iexact HO
    iexact Ha
  rw [kd_pr, pay_pr]
  iintro ⟨HO, Ha, -, Hp⟩
  iapply Hk
  isplitl [HO]; · iexact HO
  isplitl [Ha]; · iexact Ha
  iexact Hp

/-! ## The local copies -/

theorem copy_p (q : Fin 4) (sh : PosShare TreeShare) {off off' : _} (ho : off = ![0, 1024 * (rid c).val + 256 * q.val, 0]) (ho' : off' = ![q.val, 0, 0])
    {inb inb' : _} {hsrc : _} {hdst : _} {hsem : _} {α : Type} {Q : α → sProp 𝕄} {k : PUnit → Prog (TpuEff nD τ sig (Elt F) Λ₀ .tc) α} :
    iprop(recs m K ∗ owns (c : Thread nD τ) (aM (rid c) q) sh (pV m c q) ∗ ownsAny (F := F) c (pcM q) ∗ dutyTok ER (dC c (loS q 0)) 0 (0 : Fin 3))
      ⊢ iprop((cred (tallyAt (dC c (loS q 0)) () N) -∗ WP c (k ⟨⟩) Q)
          -∗ WP c (.op (.enqueueDma (((Memref.whole main_arg0).slice (Rect.unit (s := S1x8192x2048) off S1x256x2048.size inb) (fun _ => rfl)).squeeze S256x2048 squeezes_S1x256x2048_S256x2048)
              (.here (((Memref.whole cc0_scratch1).slice (Rect.unit (s := S4x256x2048) off' S1x256x2048.size inb') (fun _ => rfl)).squeeze S256x2048 squeezes_S1x256x2048_S256x2048))
              (.dma (loS q 0)) hsrc hdst hsem) k) Q) := by
  subst ho ho'
  iintro ⟨#HR, Hs, Hd, Ht⟩ Hk
  iapply (copy_core m K c (loS q 0) (loS_ne q 0) (by rw [kd_lo]; rfl) (amt_of (kd_lo q 0) nofun) (credPc q) (pV m c q) (q := sh)
    (by rw [kd_lo, pay_lo0]; iintro ⟨H, -⟩; iexact H)) $$ [Hs Hd Ht]
  · isplitr; · iexact HR
    isplitl [Hs]; · iexact Hs
    isplitl [Hd]; · iexact Hd
    iexact Ht
  iexact Hk

theorem copy_r (q : Fin 4) (sh : PosShare TreeShare) {off off' : _} (ho : off = ![1024 * (rid c).val + 256 * q.val, 0]) (ho' : off' = ![q.val, 0, 0])
    {inb inb' : _} {hsrc : _} {hdst : _} {hsem : _} {α : Type} {Q : α → sProp 𝕄} {k : PUnit → Prog (TpuEff nD τ sig (Elt F) Λ₀ .tc) α} :
    iprop(recs m K ∗ owns (c : Thread nD τ) (gM (rid c) q) sh (rV m c q) ∗ ownsAny (F := F) c (rcM q) ∗ dutyTok ER (dC c (loS q 1)) 0 (0 : Fin 3))
      ⊢ iprop((cred (tallyAt (dC c (loS q 1)) () N) -∗ WP c (k ⟨⟩) Q)
          -∗ WP c (.op (.enqueueDma ((Memref.whole main_arg1).slice (Rect.unit (s := S8192x2048) off S256x2048.size inb) (fun _ => rfl))
              (.here (((Memref.whole cc0_scratch2).slice (Rect.unit (s := S4x256x2048) off' S1x256x2048.size inb') (fun _ => rfl)).squeeze S256x2048 squeezes_S1x256x2048_S256x2048))
              (.dma (loS q 1)) hsrc hdst hsem) k) Q) := by
  subst ho ho'
  iintro ⟨#HR, Hs, Hd, Ht⟩ Hk
  iapply (copy_core m K c (loS q 1) (loS_ne q 1) (by rw [kd_lo]; rfl) (amt_of (kd_lo q 1) nofun) (credRc q) (rV m c q) (q := sh)
    (by rw [kd_lo, pay_lo1]; iintro ⟨H, -⟩; iexact H)) $$ [Hs Hd Ht]
  · isplitr; · iexact HR
    isplitl [Hs]; · iexact Hs
    isplitl [Hd]; · iexact Hd
    iexact Ht
  iexact Hk

theorem copy_o (q : Fin 4) {off off' : _} (ho : off = ![q.val, 0, 0]) (ho' : off' = ![1024 * (rid c).val + 256 * q.val, 0])
    {inb inb' : _} {hsrc : _} {hdst : _} {hsem : _} {α : Type} {Q : α → sProp 𝕄} {k : PUnit → Prog (TpuEff nD τ sig (Elt F) Λ₀ .tc) α} :
    iprop(recs m K ∗ ownsF c (ocM q) (oX m c q) ∗ ownsAny (F := F) c (oM (rid c) q) ∗ dutyTok ER (dC c (loS q 2)) 0 (0 : Fin 3))
      ⊢ iprop((cred (tallyAt (dC c (loS q 2)) () N) -∗ WP c (k ⟨⟩) Q)
          -∗ WP c (.op (.enqueueDma (((Memref.whole cc0_scratch3).slice (Rect.unit (s := S4x256x2048) off S1x256x2048.size inb) (fun _ => rfl)).squeeze S256x2048 squeezes_S1x256x2048_S256x2048)
              (.here ((Memref.whole main_v1).slice (Rect.unit (s := S8192x2048) off' S256x2048.size inb') (fun _ => rfl)))
              (.dma (loS q 2)) hsrc hdst hsem) k) Q) := by
  subst ho ho'
  iintro ⟨#HR, Hs, Hd, Ht⟩ Hk
  iapply (copy_core m K c (loS q 2) (loS_ne q 2) (by rw [kd_lo]; rfl) (amt_of (kd_lo q 2) nofun) (credO (rid c) q) (oX m c q) (q := fullShare)
    (by
      rw [kd_lo, pay_lo2]
      iintro ⟨H, Hs⟩
      isplitl [H]; · iexact H
      iexists _; iexact Hs)) $$ [Hs Hd Ht]
  · isplitr; · iexact HR
    isplitl [Hs]; · iexact Hs
    isplitl [Hd]; · iexact Hd
    iexact Ht
  iexact Hk

/-- The wait for a local copy of a quarter: its payload. -/
theorem wait_lo (q : Fin 4) (t : Fin 3) (l : List Due) (hl : ∀ p ∈ l, 0 < lvK (kd (sl p.1)))
    {sp sp' : Space} {s' : Shape} {src : Memref sig .tc sp s' .f32} {dst : Memref sig .tc sp' S256x2048 .f32} (hN : dst.view.dmaCredit = N)
    {hsrc : _} {hdst : _} {α : Type} {Q : α → sProp 𝕄} {k : PUnit → Prog (TpuEff nD τ sig (Elt F) Λ₀ .tc) α} :
    iprop(recs m K ∗ cred (tallyAt (dC c (loS q t)) () N) ∗ ow (F := F) c l ∗ atPos ER (dC c (loS q t)) 0 ∅ 0)
      ⊢ iprop(((ow (F := F) c l ∗ atPos ER (dC c (loS q t)) 1 ∅ 0 ∗ payK m c (.lo q t) 0 0) -∗ WP c (k ⟨⟩) Q)
          -∗ WP c (.op (.waitDma2 (loS q t) src dst hsrc hdst) k) Q) := by
  iintro ⟨#HR, Hc, HO, Ha⟩ Hk
  iapply (wait_core m K c (loS q t) (loS_ne q t) 0 (by rw [kd_lo]; rfl) (amt_of (kd_lo q t) nofun) l (by rw [kd_lo]; exact hl) hN) $$ [Hc HO Ha]
  · isplitr; · iexact HR
    isplitl [Hc]; · iexact Hc
    isplitl [HO]; · iexact HO
    iexact Ha
  rw [kd_lo]
  iintro ⟨HO, Ha, -, Hp⟩
  iapply Hk
  isplitl [HO]; · iexact HO
  isplitl [Ha]; · iexact Ha
  iexact Hp

theorem wait_p (q : Fin 4) (l : List Due) (hl : ∀ p ∈ l, 0 < lvK (kd (sl p.1)))
    {off : _} {inb : _} {sp : Space} {s' : Shape} {src : Memref sig .tc sp s' .f32} {hsrc : _} {hdst : _} {α : Type} {Q : α → sProp 𝕄} {k : PUnit → Prog (TpuEff nD τ sig (Elt F) Λ₀ .tc) α} :
    iprop(recs m K ∗ cred (tallyAt (dC c (loS q 0)) () N) ∗ ow (F := F) c l ∗ atPos ER (dC c (loS q 0)) 0 ∅ 0)
      ⊢ iprop(((ow (F := F) c l ∗ atPos ER (dC c (loS q 0)) 1 ∅ 0 ∗ ownsF c (pcM q) (pV m c q)) -∗ WP c (k ⟨⟩) Q)
          -∗ WP c (.op (.waitDma2 (loS q 0) src (((Memref.whole cc0_scratch1).slice (Rect.unit (s := S4x256x2048) off S1x256x2048.size inb) (fun _ => rfl)).squeeze S256x2048 squeezes_S1x256x2048_S256x2048) hsrc hdst) k) Q) := by
  have h := wait_lo (src := src) (hsrc := hsrc) (hdst := hdst) (Q := Q) (k := k) m K c q 0 l hl credC1
  rw [pay_lo0] at h
  exact h
theorem wait_r (q : Fin 4) (l : List Due) (hl : ∀ p ∈ l, 0 < lvK (kd (sl p.1)))
    {off : _} {inb : _} {sp : Space} {s' : Shape} {src : Memref sig .tc sp s' .f32} {hsrc : _} {hdst : _} {α : Type} {Q : α → sProp 𝕄} {k : PUnit → Prog (TpuEff nD τ sig (Elt F) Λ₀ .tc) α} :
    iprop(recs m K ∗ cred (tallyAt (dC c (loS q 1)) () N) ∗ ow (F := F) c l ∗ atPos ER (dC c (loS q 1)) 0 ∅ 0)
      ⊢ iprop(((ow (F := F) c l ∗ atPos ER (dC c (loS q 1)) 1 ∅ 0 ∗ ownsF c (rcM q) (rV m c q)) -∗ WP c (k ⟨⟩) Q)
          -∗ WP c (.op (.waitDma2 (loS q 1) src (((Memref.whole cc0_scratch2).slice (Rect.unit (s := S4x256x2048) off S1x256x2048.size inb) (fun _ => rfl)).squeeze S256x2048 squeezes_S1x256x2048_S256x2048) hsrc hdst) k) Q) := by
  have h := wait_lo (src := src) (hsrc := hsrc) (hdst := hdst) (Q := Q) (k := k) m K c q 1 l hl credC2
  rw [pay_lo1] at h
  exact h
theorem wait_o (q : Fin 4) (l : List Due) (hl : ∀ p ∈ l, 0 < lvK (kd (sl p.1)))
    {off : _} {inb : _} {sp : Space} {s' : Shape} {src : Memref sig .tc sp s' .f32} {hsrc : _} {hdst : _} {α : Type} {Q : α → sProp 𝕄} {k : PUnit → Prog (TpuEff nD τ sig (Elt F) Λ₀ .tc) α} :
    iprop(recs m K ∗ cred (tallyAt (dC c (loS q 2)) () N) ∗ ow (F := F) c l ∗ atPos ER (dC c (loS q 2)) 0 ∅ 0)
      ⊢ iprop(((ow (F := F) c l ∗ atPos ER (dC c (loS q 2)) 1 ∅ 0 ∗ ownsF c (oM (rid c) q) (oX m c q) ∗ ownsAny (F := F) c (ocM q)) -∗ WP c (k ⟨⟩) Q)
          -∗ WP c (.op (.waitDma2 (loS q 2) src ((Memref.whole main_v1).slice (Rect.unit (s := S8192x2048) off S256x2048.size inb) (fun _ => rfl)) hsrc hdst) k) Q) := by
  have h := wait_lo (src := src) (hsrc := hsrc) (hdst := hdst) (Q := Q) (k := k) m K c q 2 l hl credOut
  rw [pay_lo2] at h
  exact h

end Moves

end Cert.KernelIdeal.Ring

end
-- ==== Proof.Ideal.Hops.lean ====
/-
A stream of the ring: its states between its steps, and the steps.
-/
module

public import proofs.«01_k».proof.Proof.Ideal.Moves

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

/-- `Ψ 0 ∗ … ∗ Ψ (n - 1)`. -/
def don : ℕ → (ℕ → sProp 𝕄) → sProp 𝕄
  | 0, _ => iprop(emp)
  | n + 1, Ψ => iprop(don n Ψ ∗ Ψ n)

section Hops
variable (c : Dev nD) (s : Fin 4)

/-- What the hop `h` of a stream starts from, besides the rows it sends: the rows it fills on the next device, the
    two duties it discharges, and the position and the credit for what arrives. -/
def toks (h : ℕ) : sProp 𝕄 :=
  iprop(dutyTok ER (dC c (ssS s)) h (0 : Fin 3) ∗ dutyTok ER (dC (dst s c) (rrS s h)) 0 (0 : Fin 3)
    ∗ atPos ER (dC c (rrS s h)) 0 ∅ 0 ∗ cred (tallyAt (dC c (rrS s h)) () N))
def fl (h : ℕ) : sProp 𝕄 := iprop(ownsAny (F := F) (dst s c) (oM (blk s (dst s c) (h + 1)) s) ∗ toks (F := F) c s h)
/-- What the hop `h` of a stream leaves. -/
def dn (h : ℕ) : sProp 𝕄 := iprop(ownsF c (oM (blk s c h) s) (bX m c (blk s c h) s) ∗ atPos ER (dC c (rrS s h)) 1 ∅ 0)

/-- A stream before its hop `h`, but for the rows it sends; with them; in flight; when the send is complete. -/
def Str (h : ℕ) : sProp 𝕄 :=
  iprop(reached ER (dC c (ssS s)) h ∗ atPos ER (dC c (ssS s)) h ∅ 0 ∗ rem (7 - h) (fl (F := F) c s) h ∗ don h (dn m c s))
def Rdy (h : ℕ) : sProp 𝕄 := iprop(ownsF c (oM (blk s c h) s) (bX m c (blk s c h) s) ∗ Str m c s h)
def Fly (h : ℕ) : sProp 𝕄 :=
  iprop(cred (tallyAt (dC c (ssS s)) () N) ∗ atPos ER (dC c (ssS s)) h ∅ 0
    ∗ (atPos ER (dC c (rrS s h)) 0 ∅ 0 ∗ cred (tallyAt (dC c (rrS s h)) () N)) ∗ rem (7 - (h + 1)) (fl (F := F) c s) (h + 1) ∗ don h (dn m c s))
def Mid (h : ℕ) : sProp 𝕄 :=
  iprop(ownsF c (oM (blk s c h) s) (bX m c (blk s c h) s) ∗ reached ER (dC c (ssS s)) (h + 1) ∗ atPos ER (dC c (ssS s)) (h + 1) ∅ 0
    ∗ (atPos ER (dC c (rrS s h)) 0 ∅ 0 ∗ cred (tallyAt (dC c (rrS s h)) () N)) ∗ rem (7 - (h + 1)) (fl (F := F) c s) (h + 1) ∗ don h (dn m c s))

theorem rem_take (h : ℕ) (hh : h < 7) (Φ : ℕ → sProp 𝕄) : rem (7 - h) Φ h ⊢ iprop(Φ h ∗ rem (7 - (h + 1)) Φ (h + 1)) := by
  rw [show 7 - h = (7 - (h + 1)) + 1 by omega]
  exact .rfl

theorem pay_ss (h : ℕ) : payK m c (.ss s) h 0 = ownsF c (oM (blk s c h) s) (bX m c (blk s c h) s) := rfl
theorem pay_rr (h : Fin 7) : payK m c (.rr s h) 0 0 = ownsF c (oM (blk s c (h.val + 1)) s) (bX m c (blk s c (h.val + 1)) s) := rfl
theorem dut_ss (h : ℕ) (hh : h < 7) : dutK (.ss s) h = {0} := if_pos hh
theorem dut_rr (h : Fin 7) : dutK (.rr s h) 0 = {0} := rfl

theorem hop_send (h : ℕ) (hh : h < 7) (n : Dev nD) (hn : n = dst s c) (l₀ l : List Due) (hl : l₀ = dR s h :: l)
    {qs qr : DmaSem sig} (hqs : qs = ssS s) (hqr : qr = rrS s h)
    {off : _} (ho : off = ![1024 * (blk s c h).val + 256 * s.val, 0]) {inb inb' : _}
    {hsc : _} {hsrc : _} {hdst : _} {hsem : _} {α : Type} {Q : α → sProp 𝕄} {k : PUnit → Prog (TpuEff nD τ sig (Elt F) Λ₀ .tc) α} :
    iprop(recs m K ∗ Rdy m c s h ∗ ow (F := F) c l₀)
      ⊢ iprop(((Fly m c s h ∗ ow (F := F) c l) -∗ WP c (k ⟨⟩) Q)
          -∗ WP c (.op (.enqueueDma ((Memref.whole main_v1).slice (Rect.unit (s := S8192x2048) off S256x2048.size inb) (fun _ => rfl)) (.remote (Dev.tc n : Thread nD τ) ((Memref.whole main_v1).slice (Rect.unit (s := S8192x2048) off S256x2048.size inb') (fun _ => rfl)) (.dma qs) hsc) (.dma qr) hsrc hdst hsem) k) Q) := by
  subst hn ho hqs hqr
  have hm : h % 7 = h := Nat.mod_eq_of_lt hh
  unfold Rdy Str Fly
  iintro ⟨#HR, ⟨Hrow, Hre, Hat, Hrem, Hdon⟩, HO⟩ Hk
  ihave Hrem := (rem_take h hh (fl (F := F) c s)) $$ Hrem
  unfold fl toks
  icases Hrem with ⟨⟨Hd, Ht, Htr, Hra, Hrc⟩, Hrem⟩
  iapply (send_core m K c (dst s c) (ssS s) (rrS s h) (ssS_ne s) (rrS_ne s h) h (by rw [kd_ss]; exact dut_ss s h hh) (by rw [kd_rr]; exact dut_rr s _)
    (amt_of (kd_ss s) nofun) (amt_of (kd_rr s h) nofun) l₀ l (by rw [hl]; exact owe_dR c s h l) (credO (blk s c h) s) (bX m c (blk s c h) s) (q := fullShare)
    (by rw [kd_ss, pay_ss])
    (by
      rw [kd_rr, pay_rr]
      rw [show ((⟨h % 7, Nat.mod_lt _ (by decide)⟩ : Fin 7).val + 1) = h + 1 by simp only [hm]]
      rw [blk_dst, bX_dst])) $$ [Hrow Hre Hd Ht Htr HO]
  · isplitr; · iexact HR
    isplitl [Hrow]; · iexact Hrow
    isplitl [Hd]; · rw [blk_dst]; iexact Hd
    isplitl [HO]; · iexact HO
    isplitl [Ht]; · iexact Ht
    isplitl [Hre]; · iexact Hre
    iexact Htr
  iintro ⟨Hc, HO⟩
  iapply Hk
  isplitr [HO]
  · isplitl [Hc]; · iexact Hc
    isplitl [Hat]; · iexact Hat
    isplitl [Hra Hrc]
    · isplitl [Hra]; · iexact Hra
      iexact Hrc
    isplitl [Hrem]; · iexact Hrem
    iexact Hdon
  iexact HO

theorem hop_waitS (h : ℕ) (hh : h < 7) (l : List Due) (hl : ∀ p ∈ l, 0 < lvK (kd (sl p.1))) {qs : DmaSem sig} (hqs : qs = ssS s)
    {off : _} {inb : _} {sp : Space} {s' : Shape} {src : Memref sig .tc sp s' .f32} {hsrc : _} {hdst : _} {α : Type} {Q : α → sProp 𝕄} {k : PUnit → Prog (TpuEff nD τ sig (Elt F) Λ₀ .tc) α} :
    iprop(recs m K ∗ Fly m c s h ∗ ow (F := F) c l)
      ⊢ iprop(((Mid m c s h ∗ ow (F := F) c l) -∗ WP c (k ⟨⟩) Q) -∗ WP c (.op (.waitDma2 qs src ((Memref.whole main_v1).slice (Rect.unit (s := S8192x2048) off S256x2048.size inb) (fun _ => rfl)) hsrc hdst) k) Q) := by
  subst hqs
  unfold Fly Mid
  iintro ⟨#HR, ⟨Hc, Hat, Hrr, Hrem, Hdon⟩, HO⟩ Hk
  iapply (wait_core m K c (ssS s) (ssS_ne s) h (by rw [kd_ss]; exact dut_ss s h hh) (amt_of (kd_ss s) nofun) l (by rw [kd_ss]; exact hl) credOut) $$ [Hc HO Hat]
  · isplitr; · iexact HR
    isplitl [Hc]; · iexact Hc
    isplitl [HO]; · iexact HO
    iexact Hat
  rw [kd_ss, pay_ss]
  iintro ⟨HO, Hat, Hre, Hrow⟩
  iapply Hk
  isplitr [HO]
  · isplitl [Hrow]; · iexact Hrow
    isplitl [Hre]; · iexact Hre
    isplitl [Hat]; · iexact Hat
    isplitl [Hrr]; · iexact Hrr
    isplitl [Hrem]; · iexact Hrem
    iexact Hdon
  iexact HO

theorem hop_waitR (h : ℕ) (hh : h < 7) (l : List Due) (hl : ∀ p ∈ l, 3 + h < lvK (kd (sl p.1))) {qr : DmaSem sig} (hqr : qr = rrS s h)
    {off : _} {inb : _} {sp : Space} {s' : Shape} {src : Memref sig .tc sp s' .f32} {hsrc : _} {hdst : _} {α : Type} {Q : α → sProp 𝕄} {k : PUnit → Prog (TpuEff nD τ sig (Elt F) Λ₀ .tc) α} :
    iprop(recs m K ∗ Mid m c s h ∗ ow (F := F) c l)
      ⊢ iprop(((Rdy m c s (h + 1) ∗ ow (F := F) c l) -∗ WP c (k ⟨⟩) Q) -∗ WP c (.op (.waitDma2 qr src ((Memref.whole main_v1).slice (Rect.unit (s := S8192x2048) off S256x2048.size inb) (fun _ => rfl)) hsrc hdst) k) Q) := by
  subst hqr
  have hm : h % 7 = h := Nat.mod_eq_of_lt hh
  unfold Mid Rdy Str
  iintro ⟨#HR, ⟨Hrow, Hre, Hat, ⟨Hra, Hrc⟩, Hrem, Hdon⟩, HO⟩ Hk
  iapply (wait_core m K c (rrS s h) (rrS_ne s h) 0 (by rw [kd_rr]; exact dut_rr s _) (amt_of (kd_rr s h) nofun) l
    (by
      rw [kd_rr]
      intro p hp
      have h1 : lvK (.rr s ⟨h % 7, Nat.mod_lt _ (by decide)⟩) = 3 + h % 7 := rfl
      rw [h1, hm]; exact hl p hp) credOut) $$ [Hrc HO Hra]
  · isplitr; · iexact HR
    isplitl [Hrc]; · iexact Hrc
    isplitl [HO]; · iexact HO
    iexact Hra
  rw [kd_rr, pay_rr]
  rw [show ((⟨h % 7, Nat.mod_lt _ (by decide)⟩ : Fin 7).val + 1) = h + 1 by simp only [hm]]
  iintro ⟨HO, Hra, -, Hnew⟩
  iapply Hk
  isplitr [HO]
  · isplitl [Hnew]; · iexact Hnew
    isplitl [Hre]; · iexact Hre
    isplitl [Hat]; · iexact Hat
    isplitl [Hrem]; · iexact Hrem
    rw [show don (h + 1) (dn m c s) = iprop(don h (dn m c s) ∗ dn m c s h) from rfl]
    isplitl [Hdon]; · iexact Hdon
    unfold dn
    isplitl [Hrow]; · iexact Hrow
    iexact Hra
  iexact HO

/-! ## The start of a stream -/

/-- A stream before the entry handshake: the next device's rows are still missing. -/
def Seed : sProp 𝕄 := iprop(reached ER (dC c (ssS s)) 0 ∗ atPos ER (dC c (ssS s)) 0 ∅ 0 ∗ rem 7 (toks (F := F) c s) 0)

omit [FloatOps F] in
theorem rem_join (n : ℕ) (Φ Ψ : ℕ → sProp 𝕄) (h : ℕ) : iprop(rem n Φ h ∗ rem n Ψ h) ⊢ rem n (fun h => iprop(Φ h ∗ Ψ h)) h := by
  induction n generalizing h with
  | zero => unfold rem; iintro ⟨-, -⟩; iempintro
  | succ n ih =>
    unfold rem
    iintro ⟨⟨Ha, Hb⟩, Hc, Hd⟩
    isplitl [Ha Hc]
    · isplitl [Ha]; · iexact Ha
      iexact Hc
    iapply (ih (h + 1))
    isplitl [Hb]; · iexact Hb
    iexact Hd

theorem seed_str : iprop(Seed (F := F) c s ∗ outs (F := F) (dst s c) s) ⊢ Str m c s 0 := by
  unfold Seed Str outs
  iintro ⟨⟨Hr, Ha, Ht⟩, Ho⟩
  isplitl [Hr]; · iexact Hr
  isplitl [Ha]; · iexact Ha
  isplitl [Ht Ho]
  · iapply (rem_join 7 (fun h => ownsAny (F := F) (dst s c) (oM (blk s (dst s c) (h + 1)) s)) (toks (F := F) c s) 0)
    isplitl [Ho]; · iexact Ho
    iexact Ht
  · unfold don; iempintro
/-- The quarter computed here is the first a stream sends. -/
theorem str_rdy : iprop(ownsF c (oM (rid c) s) (oX m c s) ∗ Str m c s 0) ⊢ Rdy m c s 0 := by
  unfold Rdy
  rw [blk_zero, bX_rid]
end Hops

end Cert.KernelIdeal.Ring

end
-- ==== Proof.Ideal.Access.lean ====
/-
The loads and stores of the body.
-/
module

public import proofs.«01_k».proof.Proof.Ideal.Moves

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

section Access
variable (c : Dev nD)

/-- A load of a chunk: its rows, with a leading axis of one. -/
theorem load_chunk (M : Memref sig .tc .vmem S4x256x2048 .f32) (q : Fin 4) (X : Blk F) {off : _} (ho : off = ![q.val, 0, 0]) {inb : _} {hl : _}
    {α : Type} {Q : α → sProp 𝕄} {k : (S1x256x2048.Idx → Elt F .f32) → Prog (TpuEff nD τ sig (Elt F) Λ₀ .tc) α} :
    ownsF c ((M.slice (rC q) (fun _ => rfl)).squeeze S256x2048 squeezes_S1x256x2048_S256x2048) X
      ⊢ iprop((ownsF c ((M.slice (rC q) (fun _ => rfl)).squeeze S256x2048 squeezes_S1x256x2048_S256x2048) X -∗ WP c (k (unsq X)) Q)
          -∗ WP c (.op (.load M (Rect.unit (s := S4x256x2048) off S1x256x2048.size inb).toLoadRect hl) k) Q) := by
  subst ho
  unfold ownsF owns
  iintro ⟨%f, %hf, H⟩ Hk
  have hv : M.view.readAt (Elt F) (rC q).toLoadRect f = unsq X := by
    rw [← hf]
    funext i
    exact congrArg ((M.view.slice (rC q)).read (Elt F) f) (Equiv.apply_symm_apply (Shape.reshapeEquiv squeezes_S1x256x2048_S256x2048.numel_eq) i).symm
  iapply (wp_load 𝒱₀ (c : Thread nD τ) none Set.univ (m := M) (r := (rC q).toLoadRect) (S := ((M.slice (rC q) (fun _ => rfl)).squeeze S256x2048 squeezes_S1x256x2048_S256x2048).view.set)
    ((View.set_reshape (M.view.slice (rC q)) squeezes_S1x256x2048_S256x2048.numel_eq).trans (View.set_slice M.view (rC q))).ge) $$ H
  iintro H
  rw [hv]
  iapply Hk
  iexists f
  isplitr; · ipureintro; exact hf
  iexact H

/-- The same of a chunk at contents nobody says. -/
theorem load_dead (M : Memref sig .tc .vmem S4x256x2048 .f32) (q : Fin 4) {off : _} (ho : off = ![q.val, 0, 0]) {inb : _} {hl : _}
    {α : Type} {Q : α → sProp 𝕄} {p : Prog (TpuEff nD τ sig (Elt F) Λ₀ .tc) α} :
    ownsAny (F := F) c ((M.slice (rC q) (fun _ => rfl)).squeeze S256x2048 squeezes_S1x256x2048_S256x2048)
      ⊢ iprop((ownsAny (F := F) c ((M.slice (rC q) (fun _ => rfl)).squeeze S256x2048 squeezes_S1x256x2048_S256x2048) -∗ WP c p Q)
          -∗ WP c (.op (.load M (Rect.unit (s := S4x256x2048) off S1x256x2048.size inb).toLoadRect hl) (fun _ => p)) Q) := by
  iintro ⟨%X, H⟩ Hk
  iapply (load_chunk c M q X ho) $$ H
  iintro H
  iapply Hk
  iexists X; iexact H

/-- A store of a chunk. -/
theorem store_chunk (M : Memref sig .tc .vmem S4x256x2048 .f32) (q : Fin 4) {w : Vec F S1x256x2048 .f32} {off : _} (ho : off = ![q.val, 0, 0]) {inb : _} {hx : _} {hm : _}
    {α : Type} {Q : α → sProp 𝕄} {k : PUnit → Prog (TpuEff nD τ sig (Elt F) Λ₀ .tc) α} :
    ownsAny (F := F) c ((M.slice (rC q) (fun _ => rfl)).squeeze S256x2048 squeezes_S1x256x2048_S256x2048)
      ⊢ iprop((ownsF c ((M.slice (rC q) (fun _ => rfl)).squeeze S256x2048 squeezes_S1x256x2048_S256x2048) (sqz w) -∗ WP c (k ⟨⟩) Q)
          -∗ WP c (.op (.store M (Rect.unit (s := S4x256x2048) off S1x256x2048.size inb) w Finset.univ hx hm) k) Q) := by
  subst ho
  unfold ownsAny ownsF owns
  iintro ⟨%X, %f, -, H⟩ Hk
  iapply (wp_store 𝒱₀ (c : Thread nD τ) none Set.univ (m := M) (r := rC q) (w := w) (Mk := Finset.univ) (S := ((M.slice (rC q) (fun _ => rfl)).squeeze S256x2048 squeezes_S1x256x2048_S256x2048).view.set)
    (View.set_reshape (M.view.slice (rC q)) squeezes_S1x256x2048_S256x2048.numel_eq).ge) $$ H
  iintro H
  iapply Hk
  iexists _
  isplitr
  rotate_left
  · iexact H
  · ipureintro
    funext j
    exact congrFun (View.read_write_univ (v := M.view.slice (rC q)) f w) _

/-- A load of a quarter of the landing buffer. -/
theorem load_peer (q : Fin 4) (X : Blk F) {off : _} (ho : off = ![256 * q.val, 0]) {inb : _} {hl : _}
    {α : Type} {Q : α → sProp 𝕄} {k : (S256x2048.Idx → Elt F .f32) → Prog (TpuEff nD τ sig (Elt F) Λ₀ .tc) α} :
    ownsF c (prM q) X
      ⊢ iprop((ownsF c (prM q) X -∗ WP c (k X) Q)
          -∗ WP c (.op (.load (Memref.whole cc0_scratch0 : Memref sig .tc .vmem S1024x2048 .f32) (Rect.unit (s := S1024x2048) off S256x2048.size inb).toLoadRect hl) k) Q) := by
  subst ho
  unfold ownsF owns
  iintro ⟨%f, %hf, H⟩ Hk
  subst hf
  iapply (wp_load 𝒱₀ (c : Thread nD τ) none Set.univ (m := (Memref.whole cc0_scratch0 : Memref sig .tc .vmem S1024x2048 .f32)) (r := (rP q).toLoadRect) (S := (prM q).view.set)
    (View.set_slice (Memref.whole cc0_scratch0 : Memref sig .tc .vmem S1024x2048 .f32).view (rP q)).ge) $$ H
  iintro H
  iapply Hk
  iexists f
  isplitr; · ipureintro; rfl
  iexact H

/-- A load of `gamma`. -/
theorem load_g (X : Vec F S2048 .f32) {off : _} (ho : off = ![0]) {inb : _} {hl : _}
    {α : Type} {Q : α → sProp 𝕄} {k : (S2048.Idx → Elt F .f32) → Prog (TpuEff nD τ sig (Elt F) Λ₀ .tc) α} :
    ownsF c (Memref.whole cc0_stg0_0 : Memref sig .tc .vmem S2048 .f32) X
      ⊢ iprop((ownsF c (Memref.whole cc0_stg0_0 : Memref sig .tc .vmem S2048 .f32) X -∗ WP c (k X) Q)
          -∗ WP c (.op (.load (Memref.whole cc0_stg0_0 : Memref sig .tc .vmem S2048 .f32) (Rect.unit (s := S2048) off S2048.size inb).toLoadRect hl) k) Q) := by
  unfold ownsF owns
  iintro ⟨%f, %hf, H⟩ Hk
  have hv : (Memref.whole cc0_stg0_0 : Memref sig .tc .vmem S2048 .f32).view.readAt (Elt F) (Rect.unit (s := S2048) off S2048.size inb).toLoadRect f = X := by
    rw [← hf]
    exact Memref.readAt_unit_zero (Elt F) cc0_stg0_0 (by rw [ho]; funext a; fin_cases a; rfl) inb f
  iapply (wp_load 𝒱₀ (c : Thread nD τ) none Set.univ (m := (Memref.whole cc0_stg0_0 : Memref sig .tc .vmem S2048 .f32))
    (S := (Memref.whole cc0_stg0_0 : Memref sig .tc .vmem S2048 .f32).view.set)
    (by
      intro i _
      have e : (Memref.whole cc0_stg0_0 : Memref sig .tc .vmem S2048 .f32).view.set = Finset.univ := View.set_whole _
      rw [e]; exact Finset.mem_univ _)) $$ H
  iintro H
  rw [hv]
  iapply Hk
  iexists f
  isplitr; · ipureintro; exact hf
  iexact H

end Access

end Cert.KernelIdeal.Ring

end
-- ==== Proof.Ideal.Sems.lean ====
/-
The semaphores of the body by their places in the protocol.
-/
module

public import proofs.«01_k».proof.Proof.Ideal.Hops
public import proofs.«01_k».proof.Proof.Ideal.Access

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

theorem sw_ps0 : ((cc0_scratch4.slice (Rect.unit (s := S4) ![0] S1.size inb_S4_S1_0)).squeeze S_ squeezes_S1_S_).sem = psS 0 := rfl
theorem sw_pr0 : ((cc0_scratch5.slice (Rect.unit (s := S4) ![0] S1.size inb_S4_S1_0)).squeeze S_ squeezes_S1_S_).sem = prS 0 := rfl
theorem sw_ps1 : ((cc0_scratch4.slice (Rect.unit (s := S4) ![1] S1.size inb_S4_S1_1)).squeeze S_ squeezes_S1_S_).sem = psS 1 := rfl
theorem sw_pr1 : ((cc0_scratch5.slice (Rect.unit (s := S4) ![1] S1.size inb_S4_S1_1)).squeeze S_ squeezes_S1_S_).sem = prS 1 := rfl
theorem sw_ps2 : ((cc0_scratch4.slice (Rect.unit (s := S4) ![2] S1.size inb_S4_S1_2)).squeeze S_ squeezes_S1_S_).sem = psS 2 := rfl
theorem sw_pr2 : ((cc0_scratch5.slice (Rect.unit (s := S4) ![2] S1.size inb_S4_S1_2)).squeeze S_ squeezes_S1_S_).sem = prS 2 := rfl
theorem sw_ps3 : ((cc0_scratch4.slice (Rect.unit (s := S4) ![3] S1.size inb_S4_S1_3)).squeeze S_ squeezes_S1_S_).sem = psS 3 := rfl
theorem sw_pr3 : ((cc0_scratch5.slice (Rect.unit (s := S4) ![3] S1.size inb_S4_S1_3)).squeeze S_ squeezes_S1_S_).sem = prS 3 := rfl
theorem sw_ss0 : (cc0_scratch6 : DmaSems sig S_).sem = ssS 0 := rfl
theorem sw_rr00 : ((cc0_scratch10.slice (Rect.unit (s := S7) ![0] S1.size inb_S7_S1_0)).squeeze S_ squeezes_S1_S_).sem = rrS 0 0 := rfl
theorem sw_rr01 : ((cc0_scratch10.slice (Rect.unit (s := S7) ![1] S1.size inb_S7_S1_1)).squeeze S_ squeezes_S1_S_).sem = rrS 0 1 := rfl
theorem sw_rr02 : ((cc0_scratch10.slice (Rect.unit (s := S7) ![2] S1.size inb_S7_S1_2)).squeeze S_ squeezes_S1_S_).sem = rrS 0 2 := rfl
theorem sw_rr03 : ((cc0_scratch10.slice (Rect.unit (s := S7) ![3] S1.size inb_S7_S1_3)).squeeze S_ squeezes_S1_S_).sem = rrS 0 3 := rfl
theorem sw_rr04 : ((cc0_scratch10.slice (Rect.unit (s := S7) ![4] S1.size inb_S7_S1_4)).squeeze S_ squeezes_S1_S_).sem = rrS 0 4 := rfl
theorem sw_rr05 : ((cc0_scratch10.slice (Rect.unit (s := S7) ![5] S1.size inb_S7_S1_5)).squeeze S_ squeezes_S1_S_).sem = rrS 0 5 := rfl
theorem sw_rr06 : ((cc0_scratch10.slice (Rect.unit (s := S7) ![6] S1.size inb_S7_S1_6)).squeeze S_ squeezes_S1_S_).sem = rrS 0 6 := rfl
theorem sw_ss1 : (cc0_scratch7 : DmaSems sig S_).sem = ssS 1 := rfl
theorem sw_rr10 : ((cc0_scratch11.slice (Rect.unit (s := S7) ![0] S1.size inb_S7_S1_0)).squeeze S_ squeezes_S1_S_).sem = rrS 1 0 := rfl
theorem sw_rr11 : ((cc0_scratch11.slice (Rect.unit (s := S7) ![1] S1.size inb_S7_S1_1)).squeeze S_ squeezes_S1_S_).sem = rrS 1 1 := rfl
theorem sw_rr12 : ((cc0_scratch11.slice (Rect.unit (s := S7) ![2] S1.size inb_S7_S1_2)).squeeze S_ squeezes_S1_S_).sem = rrS 1 2 := rfl
theorem sw_rr13 : ((cc0_scratch11.slice (Rect.unit (s := S7) ![3] S1.size inb_S7_S1_3)).squeeze S_ squeezes_S1_S_).sem = rrS 1 3 := rfl
theorem sw_rr14 : ((cc0_scratch11.slice (Rect.unit (s := S7) ![4] S1.size inb_S7_S1_4)).squeeze S_ squeezes_S1_S_).sem = rrS 1 4 := rfl
theorem sw_rr15 : ((cc0_scratch11.slice (Rect.unit (s := S7) ![5] S1.size inb_S7_S1_5)).squeeze S_ squeezes_S1_S_).sem = rrS 1 5 := rfl
theorem sw_rr16 : ((cc0_scratch11.slice (Rect.unit (s := S7) ![6] S1.size inb_S7_S1_6)).squeeze S_ squeezes_S1_S_).sem = rrS 1 6 := rfl
theorem sw_ss2 : (cc0_scratch8 : DmaSems sig S_).sem = ssS 2 := rfl
theorem sw_rr20 : ((cc0_scratch12.slice (Rect.unit (s := S7) ![0] S1.size inb_S7_S1_0)).squeeze S_ squeezes_S1_S_).sem = rrS 2 0 := rfl
theorem sw_rr21 : ((cc0_scratch12.slice (Rect.unit (s := S7) ![1] S1.size inb_S7_S1_1)).squeeze S_ squeezes_S1_S_).sem = rrS 2 1 := rfl
theorem sw_rr22 : ((cc0_scratch12.slice (Rect.unit (s := S7) ![2] S1.size inb_S7_S1_2)).squeeze S_ squeezes_S1_S_).sem = rrS 2 2 := rfl
theorem sw_rr23 : ((cc0_scratch12.slice (Rect.unit (s := S7) ![3] S1.size inb_S7_S1_3)).squeeze S_ squeezes_S1_S_).sem = rrS 2 3 := rfl
theorem sw_rr24 : ((cc0_scratch12.slice (Rect.unit (s := S7) ![4] S1.size inb_S7_S1_4)).squeeze S_ squeezes_S1_S_).sem = rrS 2 4 := rfl
theorem sw_rr25 : ((cc0_scratch12.slice (Rect.unit (s := S7) ![5] S1.size inb_S7_S1_5)).squeeze S_ squeezes_S1_S_).sem = rrS 2 5 := rfl
theorem sw_rr26 : ((cc0_scratch12.slice (Rect.unit (s := S7) ![6] S1.size inb_S7_S1_6)).squeeze S_ squeezes_S1_S_).sem = rrS 2 6 := rfl
theorem sw_ss3 : (cc0_scratch9 : DmaSems sig S_).sem = ssS 3 := rfl
theorem sw_rr30 : ((cc0_scratch13.slice (Rect.unit (s := S7) ![0] S1.size inb_S7_S1_0)).squeeze S_ squeezes_S1_S_).sem = rrS 3 0 := rfl
theorem sw_rr31 : ((cc0_scratch13.slice (Rect.unit (s := S7) ![1] S1.size inb_S7_S1_1)).squeeze S_ squeezes_S1_S_).sem = rrS 3 1 := rfl
theorem sw_rr32 : ((cc0_scratch13.slice (Rect.unit (s := S7) ![2] S1.size inb_S7_S1_2)).squeeze S_ squeezes_S1_S_).sem = rrS 3 2 := rfl
theorem sw_rr33 : ((cc0_scratch13.slice (Rect.unit (s := S7) ![3] S1.size inb_S7_S1_3)).squeeze S_ squeezes_S1_S_).sem = rrS 3 3 := rfl
theorem sw_rr34 : ((cc0_scratch13.slice (Rect.unit (s := S7) ![4] S1.size inb_S7_S1_4)).squeeze S_ squeezes_S1_S_).sem = rrS 3 4 := rfl
theorem sw_rr35 : ((cc0_scratch13.slice (Rect.unit (s := S7) ![5] S1.size inb_S7_S1_5)).squeeze S_ squeezes_S1_S_).sem = rrS 3 5 := rfl
theorem sw_rr36 : ((cc0_scratch13.slice (Rect.unit (s := S7) ![6] S1.size inb_S7_S1_6)).squeeze S_ squeezes_S1_S_).sem = rrS 3 6 := rfl
theorem sw_lo0 : ((cc0_scratch14.slice (Rect.unit (s := S12) ![0] S1.size inb_S12_S1_0)).squeeze S_ squeezes_S1_S_).sem = loS 0 0 := rfl
theorem sw_lo1 : ((cc0_scratch14.slice (Rect.unit (s := S12) ![1] S1.size inb_S12_S1_1)).squeeze S_ squeezes_S1_S_).sem = loS 0 1 := rfl
theorem sw_lo2 : ((cc0_scratch14.slice (Rect.unit (s := S12) ![2] S1.size inb_S12_S1_2)).squeeze S_ squeezes_S1_S_).sem = loS 1 0 := rfl
theorem sw_lo3 : ((cc0_scratch14.slice (Rect.unit (s := S12) ![3] S1.size inb_S12_S1_3)).squeeze S_ squeezes_S1_S_).sem = loS 1 1 := rfl
theorem sw_lo4 : ((cc0_scratch14.slice (Rect.unit (s := S12) ![4] S1.size inb_S12_S1_4)).squeeze S_ squeezes_S1_S_).sem = loS 2 0 := rfl
theorem sw_lo5 : ((cc0_scratch14.slice (Rect.unit (s := S12) ![5] S1.size inb_S12_S1_5)).squeeze S_ squeezes_S1_S_).sem = loS 2 1 := rfl
theorem sw_lo6 : ((cc0_scratch14.slice (Rect.unit (s := S12) ![6] S1.size inb_S12_S1_6)).squeeze S_ squeezes_S1_S_).sem = loS 3 0 := rfl
theorem sw_lo7 : ((cc0_scratch14.slice (Rect.unit (s := S12) ![7] S1.size inb_S12_S1_7)).squeeze S_ squeezes_S1_S_).sem = loS 3 1 := rfl
theorem sw_lo8 : ((cc0_scratch14.slice (Rect.unit (s := S12) ![8] S1.size inb_S12_S1_8)).squeeze S_ squeezes_S1_S_).sem = loS 0 2 := rfl
theorem sw_lo9 : ((cc0_scratch14.slice (Rect.unit (s := S12) ![9] S1.size inb_S12_S1_9)).squeeze S_ squeezes_S1_S_).sem = loS 1 2 := rfl
theorem sw_lo10 : ((cc0_scratch14.slice (Rect.unit (s := S12) ![10] S1.size inb_S12_S1_10)).squeeze S_ squeezes_S1_S_).sem = loS 2 2 := rfl
theorem sw_lo11 : ((cc0_scratch14.slice (Rect.unit (s := S12) ![11] S1.size inb_S12_S1_11)).squeeze S_ squeezes_S1_S_).sem = loS 3 2 := rfl
theorem sw_bar : (SemArray.scalar (sig.barrier 0 rfl) : Sems sig S_).sem = (barrier0 : Sem sig) := rfl

/-- The end of a part. -/
theorem ret_wp (c : Dev nD) {α : Type} {Q : α → sProp 𝕄} {a : α} : Q a ⊢ WP (F := F) c (.ret a) Q := by
  unfold WP
  rw [wp_ret]
  iintro H
  imodintro
  iexact H

/-- The shares the copies out of `partial` and `resid` read at: a chain of halves of the right half. -/
def shR : ℕ → PosShare TreeShare
  | 0 => fullShare.right
  | n + 1 => (shR n).right
def shr (n : ℕ) : PosShare TreeShare := (shR n).left

end Cert.KernelIdeal.Ring

end
-- ==== Proof.Ideal.PartsA.lean ====
/-
The parts of the body, each from what it uses to what it leaves.
-/
module

public import proofs.«01_k».proof.Proof.Ideal.Sems

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

section Parts
variable (c : Dev nD)

/-- Part 2 of the body. -/
theorem part2 (v2 : BitVec 32) (v5 : BitVec 32) (v8 : BitVec 32) (v12 : BitVec 32) (v19 : BitVec 32) (v22 : BitVec 32) (v24 : BitVec 32) (v27 : BitVec 32) (v28 : BitVec 32) (v30 : BitVec 32) (c0_i32_20 : BitVec 32) {Q : (PUnit) → sProp 𝕄} :
    iprop(recs m K ∗ ow (F := F) c (due 0) ∗ dutyTok ER (barC (xp c)) 0 (0 : Fin 3) ∗ lands (F := F) c ∗ dutyTok ER (barC (rgt c)) 0 (2 : Fin 3) ∗ outs (F := F) c 2 ∗ outs (F := F) c 3 ∗ dutyTok ER (barC (lft c)) 0 (1 : Fin 3) ∗ outs (F := F) c 0 ∗ outs (F := F) c 1 ∗ cred (tallyAt (barC c) () 3) ∗ atPos ER (barC c) 0 ∅ 0)
      ⊢ iprop(((ow (F := F) c (due 3) ∗ atPos ER (barC c) 1 ∅ 0 ∗ lands (F := F) (xp c) ∗ outs (F := F) (rgt c) 0 ∗ outs (F := F) (rgt c) 1 ∗ outs (F := F) (lft c) 2 ∗ outs (F := F) (lft c) 3) -∗ Q ⟨⟩)
          -∗ WP c (k0_part2 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v5 v8 v12 v19 v22 v24 v27 v28 (SemArray.scalar (sig.barrier 0 rfl)) v30 c0_i32_20) Q) := by
  rw [k0_part2_eq_skeleton]; unfold k0_part2_skel
  simp only [semSignalWord, semWaitWord, Prog.lift, Prog.bind_op, Prog.bind_ret, Prog.pure_eq_ret, sw_bar]
  iintro ⟨#HR, HO, Htb0, Hld, Htb1, Hou2, Hou3, Htb2, Hou0, Hou1, Hcb, Hab⟩ Hk
  iapply (signal0 m K c _ (dv1 c) (due 0) (due 1) rfl) $$ [HO Htb0 Hld]
  · isplitr; · iexact HR
    isplitl [HO]; · iexact HO
    isplitl [Htb0]; · iexact Htb0
    iexact Hld
  iintro HO
  iapply (signal1 m K c _ (dv2 c) (due 1) (due 2) rfl) $$ [HO Htb1 Hou2 Hou3]
  · isplitr; · iexact HR
    isplitl [HO]; · iexact HO
    isplitl [Htb1]; · iexact Htb1
    isplitl [Hou2]; · iexact Hou2
    iexact Hou3
  iintro HO
  iapply (signal2 m K c _ (dv3 c) (due 2) (due 3) rfl) $$ [HO Htb2 Hou0 Hou1]
  · isplitr; · iexact HR
    isplitl [HO]; · iexact HO
    isplitl [Htb2]; · iexact Htb2
    isplitl [Hou0]; · iexact Hou0
    iexact Hou1
  iintro HO
  iapply (barrier_core m K c (due 3) (by decide)) $$ [Hcb HO Hab]
  · isplitr; · iexact HR
    isplitl [Hcb]; · iexact Hcb
    isplitl [HO]; · iexact HO
    iexact Hab
  iintro ⟨HO, Hab, Hlx, ⟨Hnu0, Hnu1⟩, ⟨Hnu2, Hnu3⟩⟩
  iapply (ret_wp c)
  iapply Hk
  isplitl [HO]; · iexact HO
  isplitl [Hab]; · iexact Hab
  isplitl [Hlx]; · iexact Hlx
  isplitl [Hnu0]; · iexact Hnu0
  isplitl [Hnu1]; · iexact Hnu1
  isplitl [Hnu2]; · iexact Hnu2
  iexact Hnu3

/-- Part 3 of the body. -/
theorem part3 (v5 : BitVec 32) (v8 : BitVec 32) (v12 : BitVec 32) (v28 : BitVec 32) {Q : (BitVec 32) → sProp 𝕄} :
    iprop(recs m K ∗ owns (c : Thread nD τ) (aM (rid c) 0) (shr 0) (pV m c 0) ∗ ownsAny (F := F) (xp c) (prM 0) ∗ ow (F := F) c (due 3) ∗ dutyTok ER (dC c (psS 0)) 0 (0 : Fin 3) ∗ dutyTok ER (dC (xp c) (prS 0)) 0 (0 : Fin 3) ∗ owns (c : Thread nD τ) (aM (rid c) 2) (shr 2) (pV m c 2) ∗ ownsAny (F := F) (xp c) (prM 2) ∗ dutyTok ER (dC c (psS 1)) 0 (0 : Fin 3) ∗ dutyTok ER (dC (xp c) (prS 1)) 0 (0 : Fin 3) ∗ owns (c : Thread nD τ) (aM (rid c) 1) (shr 1) (pV m c 1) ∗ ownsAny (F := F) (xp c) (prM 1) ∗ dutyTok ER (dC c (psS 2)) 0 (0 : Fin 3) ∗ dutyTok ER (dC (xp c) (prS 2)) 0 (0 : Fin 3))
      ⊢ iprop((∀ r, (cred (tallyAt (dC c (psS 0)) () N) ∗ cred (tallyAt (dC c (psS 1)) () N) ∗ cred (tallyAt (dC c (psS 2)) () N) ∗ ow (F := F) c (due 6)) -∗ Q r)
          -∗ WP c (k0_part3 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v5 v8 v12 v28) Q) := by
  rw [k0_part3_eq_skeleton]; unfold k0_part3_skel
  simp only [semSignalWord, semWaitWord, Prog.lift, Prog.bind_op, Prog.bind_ret, Prog.pure_eq_ret, sw_pr0, sw_pr1, sw_pr2, sw_ps0, sw_ps1, sw_ps2]
  iintro ⟨#HR, HaX0, Hlx0, HO, Htps0, Htpr0, HaX2, Hlx2, Htps1, Htpr1, HaX1, Hlx1, Htps2, Htpr2⟩ Hk
  iapply (exch_send m K c 0 0 rfl _ (dv4 c) (due 3) (due 4) rfl (shr 0) (show k0_off1 c 0#32 = _ from off1 c 0) (show ![0, 0] = ![256 * ((0 : Fin 4) : ℕ), 0] from rfl)) $$ [HaX0 Hlx0 HO Htps0 Htpr0]
  · isplitr; · iexact HR
    isplitl [HaX0]; · iexact HaX0
    isplitl [Hlx0]; · iexact Hlx0
    isplitl [HO]; · iexact HO
    isplitl [Htps0]; · iexact Htps0
    iexact Htpr0
  iintro ⟨Hcps0, HO⟩
  iapply (exch_send m K c 1 2 rfl _ (dv5 c) (due 4) (due 5) rfl (shr 2) (show k0_off1 c 512#32 = _ from off1 c 2) (show ![512, 0] = ![256 * ((2 : Fin 4) : ℕ), 0] from rfl)) $$ [HaX2 Hlx2 HO Htps1 Htpr1]
  · isplitr; · iexact HR
    isplitl [HaX2]; · iexact HaX2
    isplitl [Hlx2]; · iexact Hlx2
    isplitl [HO]; · iexact HO
    isplitl [Htps1]; · iexact Htps1
    iexact Htpr1
  iintro ⟨Hcps1, HO⟩
  iapply (exch_send m K c 2 1 rfl _ (dv6 c) (due 5) (due 6) rfl (shr 1) (show k0_off1 c 256#32 = _ from off1 c 1) (show ![256, 0] = ![256 * ((1 : Fin 4) : ℕ), 0] from rfl)) $$ [HaX1 Hlx1 HO Htps2 Htpr2]
  · isplitr; · iexact HR
    isplitl [HaX1]; · iexact HaX1
    isplitl [Hlx1]; · iexact Hlx1
    isplitl [HO]; · iexact HO
    isplitl [Htps2]; · iexact Htps2
    iexact Htpr2
  iintro ⟨Hcps2, HO⟩
  iapply (ret_wp c)
  iapply Hk
  isplitl [Hcps0]; · iexact Hcps0
  isplitl [Hcps1]; · iexact Hcps1
  isplitl [Hcps2]; · iexact Hcps2
  iexact HO

/-- Part 4 of the body. -/
theorem part4 (v5 : BitVec 32) (v8 : BitVec 32) (v12 : BitVec 32) (v91 : BitVec 32) {Q : (PUnit) → sProp 𝕄} :
    iprop(recs m K ∗ owns (c : Thread nD τ) (aM (rid c) 3) (shr 3) (pV m c 3) ∗ ownsAny (F := F) (xp c) (prM 3) ∗ ow (F := F) c (due 6) ∗ dutyTok ER (dC c (psS 3)) 0 (0 : Fin 3) ∗ dutyTok ER (dC (xp c) (prS 3)) 0 (0 : Fin 3) ∗ owns (c : Thread nD τ) (aM (rid c) 0) (shr 4) (pV m c 0) ∗ ownsAny (F := F) c (pcM 0) ∗ dutyTok ER (dC c (loS 0 0)) 0 (0 : Fin 3) ∗ owns (c : Thread nD τ) (gM (rid c) 0) (shr 0) (rV m c 0) ∗ ownsAny (F := F) c (rcM 0) ∗ dutyTok ER (dC c (loS 0 1)) 0 (0 : Fin 3) ∗ owns (c : Thread nD τ) (aM (rid c) 1) (shr 5) (pV m c 1) ∗ ownsAny (F := F) c (pcM 1) ∗ dutyTok ER (dC c (loS 1 0)) 0 (0 : Fin 3))
      ⊢ iprop(((cred (tallyAt (dC c (psS 3)) () N) ∗ ow (F := F) c (due 7) ∗ cred (tallyAt (dC c (loS 0 0)) () N) ∗ cred (tallyAt (dC c (loS 0 1)) () N) ∗ cred (tallyAt (dC c (loS 1 0)) () N)) -∗ Q ⟨⟩)
          -∗ WP c (k0_part4 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v5 v8 v12 v91) Q) := by
  rw [k0_part4_eq_skeleton]; unfold k0_part4_skel
  simp only [semSignalWord, semWaitWord, Prog.lift, Prog.bind_op, Prog.bind_ret, Prog.pure_eq_ret, sw_lo0, sw_lo1, sw_lo2, sw_pr3, sw_ps3]
  iintro ⟨#HR, HaX3, Hlx3, HO, Htps3, Htpr3, HaP0, Hpc0, Htlo00, HgR0, Hrc0, Htlo01, HaP1, Hpc1, Htlo10⟩ Hk
  iapply (exch_send m K c 3 3 rfl _ (dv7 c) (due 6) (due 7) rfl (shr 3) (show k0_off1 c 768#32 = _ from off1 c 3) (show ![768, 0] = ![256 * ((3 : Fin 4) : ℕ), 0] from rfl)) $$ [HaX3 Hlx3 HO Htps3 Htpr3]
  · isplitr; · iexact HR
    isplitl [HaX3]; · iexact HaX3
    isplitl [Hlx3]; · iexact Hlx3
    isplitl [HO]; · iexact HO
    isplitl [Htps3]; · iexact Htps3
    iexact Htpr3
  iintro ⟨Hcps3, HO⟩
  iapply (copy_p m K c 0 (shr 4) (show k0_off1 c 0#32 = _ from off1 c 0) (show ![0, 0, 0] = ![((0 : Fin 4) : ℕ), 0, 0] from rfl)) $$ [HaP0 Hpc0 Htlo00]
  · isplitr; · iexact HR
    isplitl [HaP0]; · iexact HaP0
    isplitl [Hpc0]; · iexact Hpc0
    iexact Htlo00
  iintro Hclo00
  iapply (copy_r m K c 0 (shr 0) (show k0_off2 c 0#32 = _ from off2 c 0) (show ![0, 0, 0] = ![((0 : Fin 4) : ℕ), 0, 0] from rfl)) $$ [HgR0 Hrc0 Htlo01]
  · isplitr; · iexact HR
    isplitl [HgR0]; · iexact HgR0
    isplitl [Hrc0]; · iexact Hrc0
    iexact Htlo01
  iintro Hclo01
  iapply (copy_p m K c 1 (shr 5) (show k0_off1 c 256#32 = _ from off1 c 1) (show ![1, 0, 0] = ![((1 : Fin 4) : ℕ), 0, 0] from rfl)) $$ [HaP1 Hpc1 Htlo10]
  · isplitr; · iexact HR
    isplitl [HaP1]; · iexact HaP1
    isplitl [Hpc1]; · iexact Hpc1
    iexact Htlo10
  iintro Hclo10
  iapply (ret_wp c)
  iapply Hk
  isplitl [Hcps3]; · iexact Hcps3
  isplitl [HO]; · iexact HO
  isplitl [Hclo00]; · iexact Hclo00
  isplitl [Hclo01]; · iexact Hclo01
  iexact Hclo10

/-- Part 5 of the body. -/
theorem part5 (v12 : BitVec 32) {Q : (PUnit) → sProp 𝕄} :
    iprop(recs m K ∗ owns (c : Thread nD τ) (gM (rid c) 1) (shr 1) (rV m c 1) ∗ ownsAny (F := F) c (rcM 1) ∗ dutyTok ER (dC c (loS 1 1)) 0 (0 : Fin 3) ∗ owns (c : Thread nD τ) (aM (rid c) 2) (shr 6) (pV m c 2) ∗ ownsAny (F := F) c (pcM 2) ∗ dutyTok ER (dC c (loS 2 0)) 0 (0 : Fin 3) ∗ owns (c : Thread nD τ) (gM (rid c) 2) (shr 2) (rV m c 2) ∗ ownsAny (F := F) c (rcM 2) ∗ dutyTok ER (dC c (loS 2 1)) 0 (0 : Fin 3) ∗ owns (c : Thread nD τ) (aM (rid c) 3) (shr 7) (pV m c 3) ∗ ownsAny (F := F) c (pcM 3) ∗ dutyTok ER (dC c (loS 3 0)) 0 (0 : Fin 3))
      ⊢ iprop(((cred (tallyAt (dC c (loS 1 1)) () N) ∗ cred (tallyAt (dC c (loS 2 0)) () N) ∗ cred (tallyAt (dC c (loS 2 1)) () N) ∗ cred (tallyAt (dC c (loS 3 0)) () N)) -∗ Q ⟨⟩)
          -∗ WP c (k0_part5 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v12) Q) := by
  rw [k0_part5_eq_skeleton]; unfold k0_part5_skel
  simp only [semSignalWord, semWaitWord, Prog.lift, Prog.bind_op, Prog.bind_ret, Prog.pure_eq_ret, sw_lo3, sw_lo4, sw_lo5, sw_lo6]
  iintro ⟨#HR, HgR1, Hrc1, Htlo11, HaP2, Hpc2, Htlo20, HgR2, Hrc2, Htlo21, HaP3, Hpc3, Htlo30⟩ Hk
  iapply (copy_r m K c 1 (shr 1) (show k0_off2 c 256#32 = _ from off2 c 1) (show ![1, 0, 0] = ![((1 : Fin 4) : ℕ), 0, 0] from rfl)) $$ [HgR1 Hrc1 Htlo11]
  · isplitr; · iexact HR
    isplitl [HgR1]; · iexact HgR1
    isplitl [Hrc1]; · iexact Hrc1
    iexact Htlo11
  iintro Hclo11
  iapply (copy_p m K c 2 (shr 6) (show k0_off1 c 512#32 = _ from off1 c 2) (show ![2, 0, 0] = ![((2 : Fin 4) : ℕ), 0, 0] from rfl)) $$ [HaP2 Hpc2 Htlo20]
  · isplitr; · iexact HR
    isplitl [HaP2]; · iexact HaP2
    isplitl [Hpc2]; · iexact Hpc2
    iexact Htlo20
  iintro Hclo20
  iapply (copy_r m K c 2 (shr 2) (show k0_off2 c 512#32 = _ from off2 c 2) (show ![2, 0, 0] = ![((2 : Fin 4) : ℕ), 0, 0] from rfl)) $$ [HgR2 Hrc2 Htlo21]
  · isplitr; · iexact HR
    isplitl [HgR2]; · iexact HgR2
    isplitl [Hrc2]; · iexact Hrc2
    iexact Htlo21
  iintro Hclo21
  iapply (copy_p m K c 3 (shr 7) (show k0_off1 c 768#32 = _ from off1 c 3) (show ![3, 0, 0] = ![((3 : Fin 4) : ℕ), 0, 0] from rfl)) $$ [HaP3 Hpc3 Htlo30]
  · isplitr; · iexact HR
    isplitl [HaP3]; · iexact HaP3
    isplitl [Hpc3]; · iexact Hpc3
    iexact Htlo30
  iintro Hclo30
  iapply (ret_wp c)
  iapply Hk
  isplitl [Hclo11]; · iexact Hclo11
  isplitl [Hclo20]; · iexact Hclo20
  isplitl [Hclo21]; · iexact Hclo21
  iexact Hclo30

/-- Part 6 of the body. -/
theorem part6 (v5 : BitVec 32) (v8 : BitVec 32) (v28 : BitVec 32) {Q : (PUnit) → sProp 𝕄} :
    iprop(recs m K ∗ owns (c : Thread nD τ) (gM (rid c) 3) (shr 3) (rV m c 3) ∗ ownsAny (F := F) c (rcM 3) ∗ dutyTok ER (dC c (loS 3 1)) 0 (0 : Fin 3) ∗ cred (tallyAt (dC c (psS 0)) () N) ∗ ow (F := F) c (due 7) ∗ atPos ER (dC c (psS 0)) 0 ∅ 0 ∗ cred (tallyAt (dC c (prS 0)) () N) ∗ atPos ER (dC c (prS 0)) 0 ∅ 0 ∗ cred (tallyAt (dC c (loS 0 0)) () N) ∗ atPos ER (dC c (loS 0 0)) 0 ∅ 0)
      ⊢ iprop(((cred (tallyAt (dC c (loS 3 1)) () N) ∗ atPos ER (dC c (psS 0)) 1 ∅ 0 ∗ atPos ER (dC c (prS 0)) 1 ∅ 0 ∗ ownsF c (prM 0) (pV m (xp c) 0) ∗ ow (F := F) c (due 7) ∗ atPos ER (dC c (loS 0 0)) 1 ∅ 0 ∗ ownsF c (pcM 0) (pV m c 0)) -∗ Q ⟨⟩)
          -∗ WP c (k0_part6 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v5 v8 v28) Q) := by
  rw [k0_part6_eq_skeleton]; unfold k0_part6_skel
  simp only [semSignalWord, semWaitWord, Prog.lift, Prog.bind_op, Prog.bind_ret, Prog.pure_eq_ret, sw_lo0, sw_lo7, sw_pr0, sw_ps0]
  iintro ⟨#HR, HgR3, Hrc3, Htlo31, Hcps0, HO, Haps0, Hcpr0, Hapr0, Hclo00, Halo00⟩ Hk
  iapply (copy_r m K c 3 (shr 3) (show k0_off2 c 768#32 = _ from off2 c 3) (show ![3, 0, 0] = ![((3 : Fin 4) : ℕ), 0, 0] from rfl)) $$ [HgR3 Hrc3 Htlo31]
  · isplitr; · iexact HR
    isplitl [HgR3]; · iexact HgR3
    isplitl [Hrc3]; · iexact Hrc3
    iexact Htlo31
  iintro Hclo31
  iapply (wait_ps m K c 0 (due 7) (by decide)) $$ [Hcps0 HO Haps0]
  · isplitr; · iexact HR
    isplitl [Hcps0]; · iexact Hcps0
    isplitl [HO]; · iexact HO
    iexact Haps0
  iintro ⟨HO, Haps0⟩
  iapply (wait_pr m K c 0 0 rfl (due 7) (by decide)) $$ [Hcpr0 HO Hapr0]
  · isplitr; · iexact HR
    isplitl [Hcpr0]; · iexact Hcpr0
    isplitl [HO]; · iexact HO
    iexact Hapr0
  iintro ⟨HO, Hapr0, Hpr0⟩
  iapply (wait_p m K c 0 (due 7) (by decide)) $$ [Hclo00 HO Halo00]
  · isplitr; · iexact HR
    isplitl [Hclo00]; · iexact Hclo00
    isplitl [HO]; · iexact HO
    iexact Halo00
  iintro ⟨HO, Halo00, Hpc0⟩
  iapply (ret_wp c)
  iapply Hk
  isplitl [Hclo31]; · iexact Hclo31
  isplitl [Haps0]; · iexact Haps0
  isplitl [Hapr0]; · iexact Hapr0
  isplitl [Hpr0]; · iexact Hpr0
  isplitl [HO]; · iexact HO
  isplitl [Halo00]; · iexact Halo00
  iexact Hpc0

/-- Part 7 of the body. -/
theorem part7  {Q : (PUnit) → sProp 𝕄} :
    iprop(recs m K ∗ cred (tallyAt (dC c (loS 0 1)) () N) ∗ ow (F := F) c (due 7) ∗ atPos ER (dC c (loS 0 1)) 0 ∅ 0 ∗ ownsF c (pcM 0) (pV m c 0) ∗ ownsF c (prM 0) (pV m (xp c) 0) ∗ ownsF c (Memref.whole cc0_stg0_0 : Memref sig .tc .vmem S2048 .f32) (gV m c) ∗ ownsAny (F := F) c (ocM 0) ∗ ownsAny (F := F) c (oM (rid c) 0) ∗ dutyTok ER (dC c (loS 0 2)) 0 (0 : Fin 3))
      ⊢ iprop(((ow (F := F) c (due 7) ∗ atPos ER (dC c (loS 0 1)) 1 ∅ 0 ∗ ownsF c (pcM 0) (pV m c 0) ∗ ownsF c (prM 0) (pV m (xp c) 0) ∗ ownsF c (rcM 0) (rV m c 0) ∗ ownsF c (Memref.whole cc0_stg0_0 : Memref sig .tc .vmem S2048 .f32) (gV m c) ∗ cred (tallyAt (dC c (loS 0 2)) () N)) -∗ Q ⟨⟩)
          -∗ WP c (k0_part7 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c ) Q) := by
  rw [k0_part7_eq_skeleton]; unfold k0_part7_skel
  simp only [semSignalWord, semWaitWord, Prog.lift, Prog.bind_op, Prog.bind_ret, Prog.pure_eq_ret, sw_lo1, sw_lo8]
  iintro ⟨#HR, Hclo01, HO, Halo01, Hpc0, Hpr0, Hg, Hoc0, Hor0, Htlo02⟩ Hk
  iapply (wait_r m K c 0 (due 7) (by decide)) $$ [Hclo01 HO Halo01]
  · isplitr; · iexact HR
    isplitl [Hclo01]; · iexact Hclo01
    isplitl [HO]; · iexact HO
    iexact Halo01
  iintro ⟨HO, Halo01, Hrc0⟩
  iapply (load_chunk c (Memref.whole cc0_scratch1) 0 (pV m c 0) (show ![0, 0, 0] = ![((0 : Fin 4) : ℕ), 0, 0] from rfl)) $$ Hpc0
  iintro Hpc0
  iapply (load_peer c 0 (pV m (xp c) 0) (show ![0, 0] = ![256 * ((0 : Fin 4) : ℕ), 0] from rfl)) $$ Hpr0
  iintro Hpr0
  iapply (load_chunk c (Memref.whole cc0_scratch2) 0 (rV m c 0) (show ![0, 0, 0] = ![((0 : Fin 4) : ℕ), 0, 0] from rfl)) $$ Hrc0
  iintro Hrc0
  iapply (load_g c (gV m c) rfl) $$ Hg
  iintro Hg
  iapply (load_dead c (Memref.whole cc0_scratch3) 0 (show ![0, 0, 0] = ![((0 : Fin 4) : ℕ), 0, 0] from rfl)) $$ Hoc0
  iintro Hoc0
  iapply (store_chunk c (Memref.whole cc0_scratch3) 0 (show ![0, 0, 0] = ![((0 : Fin 4) : ℕ), 0, 0] from rfl)) $$ Hoc0
  iintro Hoc0
  iapply (copy_o m K c 0 (show ![0, 0, 0] = ![((0 : Fin 4) : ℕ), 0, 0] from rfl) (show k0_off2 c 0#32 = _ from off2 c 0)) $$ [Hoc0 Hor0 Htlo02]
  · isplitr; · iexact HR
    isplitl [Hoc0]; · iexact Hoc0
    isplitl [Hor0]; · iexact Hor0
    iexact Htlo02
  iintro Hclo02
  iapply (ret_wp c)
  iapply Hk
  isplitl [HO]; · iexact HO
  isplitl [Halo01]; · iexact Halo01
  isplitl [Hpc0]; · iexact Hpc0
  isplitl [Hpr0]; · iexact Hpr0
  isplitl [Hrc0]; · iexact Hrc0
  isplitl [Hg]; · iexact Hg
  iexact Hclo02

/-- Part 8 of the body. -/
theorem part8 (v2 : BitVec 32) (v5 : BitVec 32) (v8 : BitVec 32) (v12 : BitVec 32) (v19 : BitVec 32) (v22 : BitVec 32) (v28 : BitVec 32) {Q : (PUnit) → sProp 𝕄} :
    iprop(recs m K ∗ cred (tallyAt (dC c (loS 0 2)) () N) ∗ ow (F := F) c (due 7) ∗ atPos ER (dC c (loS 0 2)) 0 ∅ 0 ∗ Str m c 0 0 ∗ cred (tallyAt (dC c (psS 1)) () N) ∗ atPos ER (dC c (psS 1)) 0 ∅ 0 ∗ cred (tallyAt (dC c (prS 1)) () N) ∗ atPos ER (dC c (prS 1)) 0 ∅ 0)
      ⊢ iprop(((atPos ER (dC c (loS 0 2)) 1 ∅ 0 ∗ ownsAny (F := F) c (ocM 0) ∗ Fly m c 0 0 ∗ atPos ER (dC c (psS 1)) 1 ∅ 0 ∗ ow (F := F) c (due 8) ∗ atPos ER (dC c (prS 1)) 1 ∅ 0 ∗ ownsF c (prM 2) (pV m (xp c) 2)) -∗ Q ⟨⟩)
          -∗ WP c (k0_part8 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v5 v8 v12 v19 v22 v28) Q) := by
  rw [k0_part8_eq_skeleton]; unfold k0_part8_skel
  simp only [semSignalWord, semWaitWord, Prog.lift, Prog.bind_op, Prog.bind_ret, Prog.pure_eq_ret, sw_lo8, sw_pr1, sw_ps1, sw_rr00, sw_ss0]
  iintro ⟨#HR, Hclo02, HO, Halo02, Hst0, Hcps1, Haps1, Hcpr1, Hapr1⟩ Hk
  iapply (wait_o m K c 0 (due 7) (by decide)) $$ [Hclo02 HO Halo02]
  · isplitr; · iexact HR
    isplitl [Hclo02]; · iexact Hclo02
    isplitl [HO]; · iexact HO
    iexact Halo02
  iintro ⟨HO, Halo02, Hor0, Hoc0⟩
  ihave Hst0 := (str_rdy m c 0) $$ [Hor0 Hst0]
  · isplitl [Hor0]; · iexact Hor0
    iexact Hst0
  iapply (hop_send m K c 0 0 (by decide) _ (dv8 c) (due 7) (due 8) rfl rfl rfl ((show k0_off2 c 0#32 = _ from off2 c 0).trans (by rw [blk_zero]))) $$ [Hst0 HO]
  · isplitr; · iexact HR
    isplitl [Hst0]; · iexact Hst0
    iexact HO
  iintro ⟨Hst0, HO⟩
  iapply (wait_ps m K c 1 (due 8) (by decide)) $$ [Hcps1 HO Haps1]
  · isplitr; · iexact HR
    isplitl [Hcps1]; · iexact Hcps1
    isplitl [HO]; · iexact HO
    iexact Haps1
  iintro ⟨HO, Haps1⟩
  iapply (wait_pr m K c 1 2 rfl (due 8) (by decide)) $$ [Hcpr1 HO Hapr1]
  · isplitr; · iexact HR
    isplitl [Hcpr1]; · iexact Hcpr1
    isplitl [HO]; · iexact HO
    iexact Hapr1
  iintro ⟨HO, Hapr1, Hpr2⟩
  iapply (ret_wp c)
  iapply Hk
  isplitl [Halo02]; · iexact Halo02
  isplitl [Hoc0]; · iexact Hoc0
  isplitl [Hst0]; · iexact Hst0
  isplitl [Haps1]; · iexact Haps1
  isplitl [HO]; · iexact HO
  isplitl [Hapr1]; · iexact Hapr1
  iexact Hpr2

end Parts

end Cert.KernelIdeal.Ring

end
-- ==== Proof.Ideal.PartsB.lean ====
/-
The parts of the body, each from what it uses to what it leaves.
-/
module

public import proofs.«01_k».proof.Proof.Ideal.Sems

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

section Parts
variable (c : Dev nD)

/-- Part 9 of the body. -/
theorem part9  {Q : (FVec F S256x2048 .f32) → sProp 𝕄} :
    iprop(recs m K ∗ cred (tallyAt (dC c (loS 2 0)) () N) ∗ ow (F := F) c (due 8) ∗ atPos ER (dC c (loS 2 0)) 0 ∅ 0 ∗ cred (tallyAt (dC c (loS 2 1)) () N) ∗ atPos ER (dC c (loS 2 1)) 0 ∅ 0 ∗ ownsF c (prM 2) (pV m (xp c) 2) ∗ ownsF c (Memref.whole cc0_stg0_0 : Memref sig .tc .vmem S2048 .f32) (gV m c))
      ⊢ iprop(((atPos ER (dC c (loS 2 0)) 1 ∅ 0 ∗ ow (F := F) c (due 8) ∗ atPos ER (dC c (loS 2 1)) 1 ∅ 0 ∗ ownsF c (pcM 2) (pV m c 2) ∗ ownsF c (prM 2) (pV m (xp c) 2) ∗ ownsF c (rcM 2) (rV m c 2) ∗ ownsF c (Memref.whole cc0_stg0_0 : Memref sig .tc .vmem S2048 .f32) (gV m c)) -∗ Q (k0_pay2 (unsq (pV m c 2)) (pV m (xp c) 2) (unsq (rV m c 2)) (gV m c)))
          -∗ WP c (k0_part9 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c ) Q) := by
  rw [k0_part9_eq_skeleton]; unfold k0_part9_skel
  simp only [semSignalWord, semWaitWord, Prog.lift, Prog.bind_op, Prog.bind_ret, Prog.pure_eq_ret, sw_lo4, sw_lo5]
  iintro ⟨#HR, Hclo20, HO, Halo20, Hclo21, Halo21, Hpr2, Hg⟩ Hk
  iapply (wait_p m K c 2 (due 8) (by decide)) $$ [Hclo20 HO Halo20]
  · isplitr; · iexact HR
    isplitl [Hclo20]; · iexact Hclo20
    isplitl [HO]; · iexact HO
    iexact Halo20
  iintro ⟨HO, Halo20, Hpc2⟩
  iapply (wait_r m K c 2 (due 8) (by decide)) $$ [Hclo21 HO Halo21]
  · isplitr; · iexact HR
    isplitl [Hclo21]; · iexact Hclo21
    isplitl [HO]; · iexact HO
    iexact Halo21
  iintro ⟨HO, Halo21, Hrc2⟩
  iapply (load_chunk c (Memref.whole cc0_scratch1) 2 (pV m c 2) (show ![2, 0, 0] = ![((2 : Fin 4) : ℕ), 0, 0] from rfl)) $$ Hpc2
  iintro Hpc2
  iapply (load_peer c 2 (pV m (xp c) 2) (show ![512, 0] = ![256 * ((2 : Fin 4) : ℕ), 0] from rfl)) $$ Hpr2
  iintro Hpr2
  iapply (load_chunk c (Memref.whole cc0_scratch2) 2 (rV m c 2) (show ![2, 0, 0] = ![((2 : Fin 4) : ℕ), 0, 0] from rfl)) $$ Hrc2
  iintro Hrc2
  iapply (load_g c (gV m c) rfl) $$ Hg
  iintro Hg
  iapply (ret_wp c)
  iapply Hk
  isplitl [Halo20]; · iexact Halo20
  isplitl [HO]; · iexact HO
  isplitl [Halo21]; · iexact Halo21
  isplitl [Hpc2]; · iexact Hpc2
  isplitl [Hpr2]; · iexact Hpr2
  isplitl [Hrc2]; · iexact Hrc2
  iexact Hg

/-- Part 10 of the body. -/
theorem part10 (v2 : BitVec 32) (v12 : BitVec 32) (v24 : BitVec 32) (v27 : BitVec 32)  {Q : (PUnit) → sProp 𝕄} :
    iprop(recs m K ∗ ownsAny (F := F) c (ocM 2) ∗ ownsAny (F := F) c (oM (rid c) 2) ∗ dutyTok ER (dC c (loS 2 2)) 0 (0 : Fin 3) ∗ ow (F := F) c (due 8) ∗ atPos ER (dC c (loS 2 2)) 0 ∅ 0 ∗ Str m c 2 0 ∗ cred (tallyAt (dC c (psS 2)) () N) ∗ atPos ER (dC c (psS 2)) 0 ∅ 0)
      ⊢ iprop(((atPos ER (dC c (loS 2 2)) 1 ∅ 0 ∗ ownsAny (F := F) c (ocM 2) ∗ Fly m c 2 0 ∗ ow (F := F) c (due 9) ∗ atPos ER (dC c (psS 2)) 1 ∅ 0) -∗ Q ⟨⟩)
          -∗ WP c (k0_part10 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v12 v24 v27 (k0_pay2 (unsq (pV m c 2)) (pV m (xp c) 2) (unsq (rV m c 2)) (gV m c))) Q) := by
  rw [k0_part10_eq_skeleton]; unfold k0_part10_skel
  simp only [semSignalWord, semWaitWord, Prog.lift, Prog.bind_op, Prog.bind_ret, Prog.pure_eq_ret, sw_lo10, sw_ps2, sw_rr20, sw_ss2]
  iintro ⟨#HR, Hoc2, Hor2, Htlo22, HO, Halo22, Hst2, Hcps2, Haps2⟩ Hk
  iapply (load_dead c (Memref.whole cc0_scratch3) 2 (show ![2, 0, 0] = ![((2 : Fin 4) : ℕ), 0, 0] from rfl)) $$ Hoc2
  iintro Hoc2
  iapply (store_chunk c (Memref.whole cc0_scratch3) 2 (show ![2, 0, 0] = ![((2 : Fin 4) : ℕ), 0, 0] from rfl)) $$ Hoc2
  iintro Hoc2
  iapply (copy_o m K c 2 (show ![2, 0, 0] = ![((2 : Fin 4) : ℕ), 0, 0] from rfl) (show k0_off2 c 512#32 = _ from off2 c 2)) $$ [Hoc2 Hor2 Htlo22]
  · isplitr; · iexact HR
    isplitl [Hoc2]; · iexact Hoc2
    isplitl [Hor2]; · iexact Hor2
    iexact Htlo22
  iintro Hclo22
  iapply (wait_o m K c 2 (due 8) (by decide)) $$ [Hclo22 HO Halo22]
  · isplitr; · iexact HR
    isplitl [Hclo22]; · iexact Hclo22
    isplitl [HO]; · iexact HO
    iexact Halo22
  iintro ⟨HO, Halo22, Hor2, Hoc2⟩
  ihave Hst2 := (str_rdy m c 2) $$ [Hor2 Hst2]
  · isplitl [Hor2]; · iexact Hor2
    iexact Hst2
  iapply (hop_send m K c 2 0 (by decide) _ (dv9 c) (due 8) (due 9) rfl rfl rfl ((show k0_off2 c 512#32 = _ from off2 c 2).trans (by rw [blk_zero]))) $$ [Hst2 HO]
  · isplitr; · iexact HR
    isplitl [Hst2]; · iexact Hst2
    iexact HO
  iintro ⟨Hst2, HO⟩
  iapply (wait_ps m K c 2 (due 9) (by decide)) $$ [Hcps2 HO Haps2]
  · isplitr; · iexact HR
    isplitl [Hcps2]; · iexact Hcps2
    isplitl [HO]; · iexact HO
    iexact Haps2
  iintro ⟨HO, Haps2⟩
  iapply (ret_wp c)
  iapply Hk
  isplitl [Halo22]; · iexact Halo22
  isplitl [Hoc2]; · iexact Hoc2
  isplitl [Hst2]; · iexact Hst2
  isplitl [HO]; · iexact HO
  iexact Haps2

/-- Part 11 of the body. -/
theorem part11 (v5 : BitVec 32) (v8 : BitVec 32) (v28 : BitVec 32) {Q : (Σ' (v328 : FVec F S256x2048 .f32), FVec F S256x2048 .f32) → sProp 𝕄} :
    iprop(recs m K ∗ cred (tallyAt (dC c (prS 2)) () N) ∗ ow (F := F) c (due 9) ∗ atPos ER (dC c (prS 2)) 0 ∅ 0 ∗ cred (tallyAt (dC c (loS 1 0)) () N) ∗ atPos ER (dC c (loS 1 0)) 0 ∅ 0 ∗ cred (tallyAt (dC c (loS 1 1)) () N) ∗ atPos ER (dC c (loS 1 1)) 0 ∅ 0)
      ⊢ iprop(((atPos ER (dC c (prS 2)) 1 ∅ 0 ∗ atPos ER (dC c (loS 1 0)) 1 ∅ 0 ∗ ow (F := F) c (due 9) ∗ atPos ER (dC c (loS 1 1)) 1 ∅ 0 ∗ ownsF c (pcM 1) (pV m c 1) ∗ ownsF c (prM 1) (pV m (xp c) 1) ∗ ownsF c (rcM 1) (rV m c 1)) -∗ Q (⟨k0_pay4 (unsq (pV m c 1)) (pV m (xp c) 1), k0_pay5 (unsq (rV m c 1))⟩))
          -∗ WP c (k0_part11 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v5 v8 v28) Q) := by
  rw [k0_part11_eq_skeleton]; unfold k0_part11_skel
  simp only [semSignalWord, semWaitWord, Prog.lift, Prog.bind_op, Prog.bind_ret, Prog.pure_eq_ret, sw_lo2, sw_lo3, sw_pr2]
  iintro ⟨#HR, Hcpr2, HO, Hapr2, Hclo10, Halo10, Hclo11, Halo11⟩ Hk
  iapply (wait_pr m K c 2 1 rfl (due 9) (by decide)) $$ [Hcpr2 HO Hapr2]
  · isplitr; · iexact HR
    isplitl [Hcpr2]; · iexact Hcpr2
    isplitl [HO]; · iexact HO
    iexact Hapr2
  iintro ⟨HO, Hapr2, Hpr1⟩
  iapply (wait_p m K c 1 (due 9) (by decide)) $$ [Hclo10 HO Halo10]
  · isplitr; · iexact HR
    isplitl [Hclo10]; · iexact Hclo10
    isplitl [HO]; · iexact HO
    iexact Halo10
  iintro ⟨HO, Halo10, Hpc1⟩
  iapply (wait_r m K c 1 (due 9) (by decide)) $$ [Hclo11 HO Halo11]
  · isplitr; · iexact HR
    isplitl [Hclo11]; · iexact Hclo11
    isplitl [HO]; · iexact HO
    iexact Halo11
  iintro ⟨HO, Halo11, Hrc1⟩
  iapply (load_chunk c (Memref.whole cc0_scratch1) 1 (pV m c 1) (show ![1, 0, 0] = ![((1 : Fin 4) : ℕ), 0, 0] from rfl)) $$ Hpc1
  iintro Hpc1
  iapply (load_peer c 1 (pV m (xp c) 1) (show ![256, 0] = ![256 * ((1 : Fin 4) : ℕ), 0] from rfl)) $$ Hpr1
  iintro Hpr1
  iapply (load_chunk c (Memref.whole cc0_scratch2) 1 (rV m c 1) (show ![1, 0, 0] = ![((1 : Fin 4) : ℕ), 0, 0] from rfl)) $$ Hrc1
  iintro Hrc1
  iapply (ret_wp c)
  iapply Hk
  isplitl [Hapr2]; · iexact Hapr2
  isplitl [Halo10]; · iexact Halo10
  isplitl [HO]; · iexact HO
  isplitl [Halo11]; · iexact Halo11
  isplitl [Hpc1]; · iexact Hpc1
  isplitl [Hpr1]; · iexact Hpr1
  iexact Hrc1

/-- Part 12 of the body. -/
theorem part12 (v2 : BitVec 32) (v12 : BitVec 32) (v19 : BitVec 32)   {Q : (Σ' (v364 : BitVec 32), BitVec 32) → sProp 𝕄} :
    iprop(recs m K ∗ ownsF c (Memref.whole cc0_stg0_0 : Memref sig .tc .vmem S2048 .f32) (gV m c) ∗ ownsAny (F := F) c (ocM 1) ∗ ownsAny (F := F) c (oM (rid c) 1) ∗ dutyTok ER (dC c (loS 1 2)) 0 (0 : Fin 3) ∗ ow (F := F) c (due 9) ∗ atPos ER (dC c (loS 1 2)) 0 ∅ 0)
      ⊢ iprop((∀ r, (ownsF c (Memref.whole cc0_stg0_0 : Memref sig .tc .vmem S2048 .f32) (gV m c) ∗ ow (F := F) c (due 9) ∗ atPos ER (dC c (loS 1 2)) 1 ∅ 0 ∗ ownsF c (oM (rid c) 1) (oX m c 1) ∗ ownsAny (F := F) c (ocM 1)) -∗ Q r)
          -∗ WP c (k0_part12 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v12 v19 (k0_pay4 (unsq (pV m c 1)) (pV m (xp c) 1)) (k0_pay5 (unsq (rV m c 1)))) Q) := by
  rw [k0_part12_eq_skeleton]; unfold k0_part12_skel
  simp only [semSignalWord, semWaitWord, Prog.lift, Prog.bind_op, Prog.bind_ret, Prog.pure_eq_ret, sw_lo9]
  iintro ⟨#HR, Hg, Hoc1, Hor1, Htlo12, HO, Halo12⟩ Hk
  iapply (load_g c (gV m c) rfl) $$ Hg
  iintro Hg
  iapply (load_dead c (Memref.whole cc0_scratch3) 1 (show ![1, 0, 0] = ![((1 : Fin 4) : ℕ), 0, 0] from rfl)) $$ Hoc1
  iintro Hoc1
  iapply (store_chunk c (Memref.whole cc0_scratch3) 1 (show ![1, 0, 0] = ![((1 : Fin 4) : ℕ), 0, 0] from rfl)) $$ Hoc1
  iintro Hoc1
  iapply (copy_o m K c 1 (show ![1, 0, 0] = ![((1 : Fin 4) : ℕ), 0, 0] from rfl) (show k0_off2 c 256#32 = _ from off2 c 1)) $$ [Hoc1 Hor1 Htlo12]
  · isplitr; · iexact HR
    isplitl [Hoc1]; · iexact Hoc1
    isplitl [Hor1]; · iexact Hor1
    iexact Htlo12
  iintro Hclo12
  iapply (wait_o m K c 1 (due 9) (by decide)) $$ [Hclo12 HO Halo12]
  · isplitr; · iexact HR
    isplitl [Hclo12]; · iexact Hclo12
    isplitl [HO]; · iexact HO
    iexact Halo12
  iintro ⟨HO, Halo12, Hor1, Hoc1⟩
  iapply (ret_wp c)
  iapply Hk
  isplitl [Hg]; · iexact Hg
  isplitl [HO]; · iexact HO
  isplitl [Halo12]; · iexact Halo12
  isplitl [Hor1]; · iexact Hor1
  iexact Hoc1

/-- Part 13 of the body. -/
theorem part13 (v5 : BitVec 32) (v8 : BitVec 32) (v22 : BitVec 32) (v28 : BitVec 32) (v364 : BitVec 32) (c1_i32_292 : BitVec 32) {Q : (PUnit) → sProp 𝕄} :
    iprop(recs m K ∗ ownsF c (oM (rid c) 1) (oX m c 1) ∗ Str m c 1 0 ∗ ow (F := F) c (due 9) ∗ cred (tallyAt (dC c (psS 3)) () N) ∗ atPos ER (dC c (psS 3)) 0 ∅ 0 ∗ cred (tallyAt (dC c (prS 3)) () N) ∗ atPos ER (dC c (prS 3)) 0 ∅ 0 ∗ cred (tallyAt (dC c (loS 3 0)) () N) ∗ atPos ER (dC c (loS 3 0)) 0 ∅ 0)
      ⊢ iprop(((Fly m c 1 0 ∗ atPos ER (dC c (psS 3)) 1 ∅ 0 ∗ atPos ER (dC c (prS 3)) 1 ∅ 0 ∗ ownsF c (prM 3) (pV m (xp c) 3) ∗ ow (F := F) c (due 10) ∗ atPos ER (dC c (loS 3 0)) 1 ∅ 0 ∗ ownsF c (pcM 3) (pV m c 3)) -∗ Q ⟨⟩)
          -∗ WP c (k0_part13 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v5 v8 v22 v28 v364 c1_i32_292) Q) := by
  rw [k0_part13_eq_skeleton]; unfold k0_part13_skel
  simp only [semSignalWord, semWaitWord, Prog.lift, Prog.bind_op, Prog.bind_ret, Prog.pure_eq_ret, sw_lo6, sw_pr3, sw_ps3, sw_rr10, sw_ss1]
  iintro ⟨#HR, Hor1, Hst1, HO, Hcps3, Haps3, Hcpr3, Hapr3, Hclo30, Halo30⟩ Hk
  ihave Hst1 := (str_rdy m c 1) $$ [Hor1 Hst1]
  · isplitl [Hor1]; · iexact Hor1
    iexact Hst1
  iapply (hop_send m K c 1 0 (by decide) _ (dv10 c) (due 9) (due 10) rfl rfl rfl ((show k0_off2 c 256#32 = _ from off2 c 1).trans (by rw [blk_zero]))) $$ [Hst1 HO]
  · isplitr; · iexact HR
    isplitl [Hst1]; · iexact Hst1
    iexact HO
  iintro ⟨Hst1, HO⟩
  iapply (wait_ps m K c 3 (due 10) (by decide)) $$ [Hcps3 HO Haps3]
  · isplitr; · iexact HR
    isplitl [Hcps3]; · iexact Hcps3
    isplitl [HO]; · iexact HO
    iexact Haps3
  iintro ⟨HO, Haps3⟩
  iapply (wait_pr m K c 3 3 rfl (due 10) (by decide)) $$ [Hcpr3 HO Hapr3]
  · isplitr; · iexact HR
    isplitl [Hcpr3]; · iexact Hcpr3
    isplitl [HO]; · iexact HO
    iexact Hapr3
  iintro ⟨HO, Hapr3, Hpr3⟩
  iapply (wait_p m K c 3 (due 10) (by decide)) $$ [Hclo30 HO Halo30]
  · isplitr; · iexact HR
    isplitl [Hclo30]; · iexact Hclo30
    isplitl [HO]; · iexact HO
    iexact Halo30
  iintro ⟨HO, Halo30, Hpc3⟩
  iapply (ret_wp c)
  iapply Hk
  isplitl [Hst1]; · iexact Hst1
  isplitl [Haps3]; · iexact Haps3
  isplitl [Hapr3]; · iexact Hapr3
  isplitl [Hpr3]; · iexact Hpr3
  isplitl [HO]; · iexact HO
  isplitl [Halo30]; · iexact Halo30
  iexact Hpc3

/-- Part 14 of the body. -/
theorem part14  {Q : (PUnit) → sProp 𝕄} :
    iprop(recs m K ∗ cred (tallyAt (dC c (loS 3 1)) () N) ∗ ow (F := F) c (due 10) ∗ atPos ER (dC c (loS 3 1)) 0 ∅ 0 ∗ ownsF c (pcM 3) (pV m c 3) ∗ ownsF c (prM 3) (pV m (xp c) 3) ∗ ownsF c (Memref.whole cc0_stg0_0 : Memref sig .tc .vmem S2048 .f32) (gV m c) ∗ ownsAny (F := F) c (ocM 3) ∗ ownsAny (F := F) c (oM (rid c) 3) ∗ dutyTok ER (dC c (loS 3 2)) 0 (0 : Fin 3))
      ⊢ iprop(((ow (F := F) c (due 10) ∗ atPos ER (dC c (loS 3 1)) 1 ∅ 0 ∗ ownsF c (pcM 3) (pV m c 3) ∗ ownsF c (prM 3) (pV m (xp c) 3) ∗ ownsF c (rcM 3) (rV m c 3) ∗ ownsF c (Memref.whole cc0_stg0_0 : Memref sig .tc .vmem S2048 .f32) (gV m c) ∗ cred (tallyAt (dC c (loS 3 2)) () N)) -∗ Q ⟨⟩)
          -∗ WP c (k0_part14 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c ) Q) := by
  rw [k0_part14_eq_skeleton]; unfold k0_part14_skel
  simp only [semSignalWord, semWaitWord, Prog.lift, Prog.bind_op, Prog.bind_ret, Prog.pure_eq_ret, sw_lo11, sw_lo7]
  iintro ⟨#HR, Hclo31, HO, Halo31, Hpc3, Hpr3, Hg, Hoc3, Hor3, Htlo32⟩ Hk
  iapply (wait_r m K c 3 (due 10) (by decide)) $$ [Hclo31 HO Halo31]
  · isplitr; · iexact HR
    isplitl [Hclo31]; · iexact Hclo31
    isplitl [HO]; · iexact HO
    iexact Halo31
  iintro ⟨HO, Halo31, Hrc3⟩
  iapply (load_chunk c (Memref.whole cc0_scratch1) 3 (pV m c 3) (show ![3, 0, 0] = ![((3 : Fin 4) : ℕ), 0, 0] from rfl)) $$ Hpc3
  iintro Hpc3
  iapply (load_peer c 3 (pV m (xp c) 3) (show ![768, 0] = ![256 * ((3 : Fin 4) : ℕ), 0] from rfl)) $$ Hpr3
  iintro Hpr3
  iapply (load_chunk c (Memref.whole cc0_scratch2) 3 (rV m c 3) (show ![3, 0, 0] = ![((3 : Fin 4) : ℕ), 0, 0] from rfl)) $$ Hrc3
  iintro Hrc3
  iapply (load_g c (gV m c) rfl) $$ Hg
  iintro Hg
  iapply (load_dead c (Memref.whole cc0_scratch3) 3 (show ![3, 0, 0] = ![((3 : Fin 4) : ℕ), 0, 0] from rfl)) $$ Hoc3
  iintro Hoc3
  iapply (store_chunk c (Memref.whole cc0_scratch3) 3 (show ![3, 0, 0] = ![((3 : Fin 4) : ℕ), 0, 0] from rfl)) $$ Hoc3
  iintro Hoc3
  iapply (copy_o m K c 3 (show ![3, 0, 0] = ![((3 : Fin 4) : ℕ), 0, 0] from rfl) (show k0_off2 c 768#32 = _ from off2 c 3)) $$ [Hoc3 Hor3 Htlo32]
  · isplitr; · iexact HR
    isplitl [Hoc3]; · iexact Hoc3
    isplitl [Hor3]; · iexact Hor3
    iexact Htlo32
  iintro Hclo32
  iapply (ret_wp c)
  iapply Hk
  isplitl [HO]; · iexact HO
  isplitl [Halo31]; · iexact Halo31
  isplitl [Hpc3]; · iexact Hpc3
  isplitl [Hpr3]; · iexact Hpr3
  isplitl [Hrc3]; · iexact Hrc3
  isplitl [Hg]; · iexact Hg
  iexact Hclo32

end Parts

end Cert.KernelIdeal.Ring

end
-- ==== Proof.Ideal.PartsC.lean ====
/-
The parts of the body, each from what it uses to what it leaves.
-/
module

public import proofs.«01_k».proof.Proof.Ideal.Sems

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

section Parts
variable (c : Dev nD)

/-- Part 15 of the body. -/
theorem part15 (v2 : BitVec 32) (v11 : BitVec 32) (v12 : BitVec 32) (v24 : BitVec 32) (v27 : BitVec 32) {Q : (Σ' (v447 : BitVec 32) (v451 : BitVec 32) (v455 : BitVec 32), BitVec 32) → sProp 𝕄} :
    iprop(recs m K ∗ cred (tallyAt (dC c (loS 3 2)) () N) ∗ ow (F := F) c (due 10) ∗ atPos ER (dC c (loS 3 2)) 0 ∅ 0 ∗ Str m c 3 0 ∗ Fly m c 0 0)
      ⊢ iprop((∀ r, (atPos ER (dC c (loS 3 2)) 1 ∅ 0 ∗ ownsAny (F := F) c (ocM 3) ∗ Fly m c 3 0 ∗ Mid m c 0 0 ∗ ow (F := F) c (due 11)) -∗ Q r)
          -∗ WP c (k0_part15 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v11 v12 v24 v27) Q) := by
  rw [k0_part15_eq_skeleton]; unfold k0_part15_skel
  simp only [semSignalWord, semWaitWord, Prog.lift, Prog.bind_op, Prog.bind_ret, Prog.pure_eq_ret, sw_lo11, sw_rr30, sw_ss0, sw_ss3]
  iintro ⟨#HR, Hclo32, HO, Halo32, Hst3, Hst0⟩ Hk
  iapply (wait_o m K c 3 (due 10) (by decide)) $$ [Hclo32 HO Halo32]
  · isplitr; · iexact HR
    isplitl [Hclo32]; · iexact Hclo32
    isplitl [HO]; · iexact HO
    iexact Halo32
  iintro ⟨HO, Halo32, Hor3, Hoc3⟩
  ihave Hst3 := (str_rdy m c 3) $$ [Hor3 Hst3]
  · isplitl [Hor3]; · iexact Hor3
    iexact Hst3
  iapply (hop_send m K c 3 0 (by decide) _ (dv11 c) (due 10) (due 11) rfl rfl rfl ((show k0_off2 c 768#32 = _ from off2 c 3).trans (by rw [blk_zero]))) $$ [Hst3 HO]
  · isplitr; · iexact HR
    isplitl [Hst3]; · iexact Hst3
    iexact HO
  iintro ⟨Hst3, HO⟩
  iapply (hop_waitS m K c 0 0 (by decide) (due 11) (by decide) rfl) $$ [Hst0 HO]
  · isplitr; · iexact HR
    isplitl [Hst0]; · iexact Hst0
    iexact HO
  iintro ⟨Hst0, HO⟩
  iapply (ret_wp c)
  iapply Hk
  isplitl [Halo32]; · iexact Halo32
  isplitl [Hoc3]; · iexact Hoc3
  isplitl [Hst3]; · iexact Hst3
  isplitl [Hst0]; · iexact Hst0
  iexact HO

/-- Part 16 of the body. -/
theorem part16 (v2 : BitVec 32) (v19 : BitVec 32) (v22 : BitVec 32) (v447 : BitVec 32) (v455 : BitVec 32) (c4_i32_368 : BitVec 32) {Q : (PUnit) → sProp 𝕄} :
    iprop(recs m K ∗ Mid m c 0 0 ∗ ow (F := F) c (due 11) ∗ Fly m c 1 0)
      ⊢ iprop(((Fly m c 0 1 ∗ Rdy m c 1 1 ∗ ow (F := F) c (due 12)) -∗ Q ⟨⟩)
          -∗ WP c (k0_part16 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v19 v22 v447 v455 c4_i32_368) Q) := by
  rw [k0_part16_eq_skeleton]; unfold k0_part16_skel
  simp only [semSignalWord, semWaitWord, Prog.lift, Prog.bind_op, Prog.bind_ret, Prog.pure_eq_ret, sw_rr00, sw_rr01, sw_rr10, sw_ss0, sw_ss1]
  iintro ⟨#HR, Hst0, HO, Hst1⟩ Hk
  iapply (hop_waitR m K c 0 0 (by decide) (due 11) (by decide) rfl) $$ [Hst0 HO]
  · isplitr; · iexact HR
    isplitl [Hst0]; · iexact Hst0
    iexact HO
  iintro ⟨Hst0, HO⟩
  iapply (hop_send m K c 0 1 (by decide) _ (dv12 c) (due 11) (due 12) rfl rfl rfl (show k0_off3 c 1#32 0#32 = _ from off3 c 0 0 0 rfl)) $$ [Hst0 HO]
  · isplitr; · iexact HR
    isplitl [Hst0]; · iexact Hst0
    iexact HO
  iintro ⟨Hst0, HO⟩
  iapply (hop_waitS m K c 1 0 (by decide) (due 12) (by decide) rfl) $$ [Hst1 HO]
  · isplitr; · iexact HR
    isplitl [Hst1]; · iexact Hst1
    iexact HO
  iintro ⟨Hst1, HO⟩
  iapply (hop_waitR m K c 1 0 (by decide) (due 12) (by decide) rfl) $$ [Hst1 HO]
  · isplitr; · iexact HR
    isplitl [Hst1]; · iexact Hst1
    iexact HO
  iintro ⟨Hst1, HO⟩
  iapply (ret_wp c)
  iapply Hk
  isplitl [Hst0]; · iexact Hst0
  isplitl [Hst1]; · iexact Hst1
  iexact HO

/-- Part 17 of the body. -/
theorem part17 (v2 : BitVec 32) (v19 : BitVec 32) (v22 : BitVec 32) (v24 : BitVec 32) (v27 : BitVec 32) (v451 : BitVec 32) {Q : (PUnit) → sProp 𝕄} :
    iprop(recs m K ∗ Rdy m c 1 1 ∗ ow (F := F) c (due 12) ∗ Fly m c 2 0)
      ⊢ iprop(((Fly m c 1 1 ∗ Rdy m c 2 1 ∗ ow (F := F) c (due 13)) -∗ Q ⟨⟩)
          -∗ WP c (k0_part17 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v19 v22 v24 v27 v451) Q) := by
  rw [k0_part17_eq_skeleton]; unfold k0_part17_skel
  simp only [semSignalWord, semWaitWord, Prog.lift, Prog.bind_op, Prog.bind_ret, Prog.pure_eq_ret, sw_rr11, sw_rr20, sw_ss1, sw_ss2]
  iintro ⟨#HR, Hst1, HO, Hst2⟩ Hk
  iapply (hop_send m K c 1 1 (by decide) _ (dv13 c) (due 12) (due 13) rfl rfl rfl (show k0_off3 c 1#32 256#32 = _ from off3 c 0 1 1 rfl)) $$ [Hst1 HO]
  · isplitr; · iexact HR
    isplitl [Hst1]; · iexact Hst1
    iexact HO
  iintro ⟨Hst1, HO⟩
  iapply (hop_waitS m K c 2 0 (by decide) (due 13) (by decide) rfl) $$ [Hst2 HO]
  · isplitr; · iexact HR
    isplitl [Hst2]; · iexact Hst2
    iexact HO
  iintro ⟨Hst2, HO⟩
  iapply (hop_waitR m K c 2 0 (by decide) (due 13) (by decide) rfl) $$ [Hst2 HO]
  · isplitr; · iexact HR
    isplitl [Hst2]; · iexact Hst2
    iexact HO
  iintro ⟨Hst2, HO⟩
  iapply (ret_wp c)
  iapply Hk
  isplitl [Hst1]; · iexact Hst1
  isplitl [Hst2]; · iexact Hst2
  iexact HO

/-- Part 18 of the body. -/
theorem part18 (v2 : BitVec 32) (v11 : BitVec 32) (v24 : BitVec 32) (v27 : BitVec 32) (v451 : BitVec 32) {Q : (Σ' (v547 : BitVec 32) (v549 : BitVec 32), BitVec 32) → sProp 𝕄} :
    iprop(recs m K ∗ Rdy m c 2 1 ∗ ow (F := F) c (due 13) ∗ Fly m c 3 0)
      ⊢ iprop((∀ r, (Fly m c 2 1 ∗ Fly m c 3 1 ∗ ow (F := F) c (due 15)) -∗ Q r)
          -∗ WP c (k0_part18 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v11 v24 v27 v451) Q) := by
  rw [k0_part18_eq_skeleton]; unfold k0_part18_skel
  simp only [semSignalWord, semWaitWord, Prog.lift, Prog.bind_op, Prog.bind_ret, Prog.pure_eq_ret, sw_rr21, sw_rr30, sw_rr31, sw_ss2, sw_ss3]
  iintro ⟨#HR, Hst2, HO, Hst3⟩ Hk
  iapply (hop_send m K c 2 1 (by decide) _ (dv14 c) (due 13) (due 14) rfl rfl rfl (show k0_off4 c 0#32 512#32 = _ from off4 c 0 0 2 rfl)) $$ [Hst2 HO]
  · isplitr; · iexact HR
    isplitl [Hst2]; · iexact Hst2
    iexact HO
  iintro ⟨Hst2, HO⟩
  iapply (hop_waitS m K c 3 0 (by decide) (due 14) (by decide) rfl) $$ [Hst3 HO]
  · isplitr; · iexact HR
    isplitl [Hst3]; · iexact Hst3
    iexact HO
  iintro ⟨Hst3, HO⟩
  iapply (hop_waitR m K c 3 0 (by decide) (due 14) (by decide) rfl) $$ [Hst3 HO]
  · isplitr; · iexact HR
    isplitl [Hst3]; · iexact Hst3
    iexact HO
  iintro ⟨Hst3, HO⟩
  iapply (hop_send m K c 3 1 (by decide) _ (dv15 c) (due 14) (due 15) rfl rfl rfl (show k0_off4 c 0#32 768#32 = _ from off4 c 0 1 3 rfl)) $$ [Hst3 HO]
  · isplitr; · iexact HR
    isplitl [Hst3]; · iexact Hst3
    iexact HO
  iintro ⟨Hst3, HO⟩
  iapply (ret_wp c)
  iapply Hk
  isplitl [Hst2]; · iexact Hst2
  isplitl [Hst3]; · iexact Hst3
  iexact HO

/-- Part 19 of the body. -/
theorem part19 (v2 : BitVec 32) (v19 : BitVec 32) (v22 : BitVec 32) (v547 : BitVec 32) (v549 : BitVec 32) (c8_i32_443 : BitVec 32) {Q : (Σ' (v551 : BitVec 32), BitVec 32) → sProp 𝕄} :
    iprop(recs m K ∗ Fly m c 0 1 ∗ ow (F := F) c (due 15) ∗ Fly m c 1 1)
      ⊢ iprop((∀ r, (Fly m c 0 2 ∗ Mid m c 1 1 ∗ ow (F := F) c (due 16)) -∗ Q r)
          -∗ WP c (k0_part19 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v19 v22 v547 v549 c8_i32_443) Q) := by
  rw [k0_part19_eq_skeleton]; unfold k0_part19_skel
  simp only [semSignalWord, semWaitWord, Prog.lift, Prog.bind_op, Prog.bind_ret, Prog.pure_eq_ret, sw_rr01, sw_rr02, sw_ss0, sw_ss1]
  iintro ⟨#HR, Hst0, HO, Hst1⟩ Hk
  iapply (hop_waitS m K c 0 1 (by decide) (due 15) (by decide) rfl) $$ [Hst0 HO]
  · isplitr; · iexact HR
    isplitl [Hst0]; · iexact Hst0
    iexact HO
  iintro ⟨Hst0, HO⟩
  iapply (hop_waitR m K c 0 1 (by decide) (due 15) (by decide) rfl) $$ [Hst0 HO]
  · isplitr; · iexact HR
    isplitl [Hst0]; · iexact Hst0
    iexact HO
  iintro ⟨Hst0, HO⟩
  iapply (hop_send m K c 0 2 (by decide) _ (dv16 c) (due 15) (due 16) rfl rfl rfl (show k0_off3 c 2#32 0#32 = _ from off3 c 1 0 0 rfl)) $$ [Hst0 HO]
  · isplitr; · iexact HR
    isplitl [Hst0]; · iexact Hst0
    iexact HO
  iintro ⟨Hst0, HO⟩
  iapply (hop_waitS m K c 1 1 (by decide) (due 16) (by decide) rfl) $$ [Hst1 HO]
  · isplitr; · iexact HR
    isplitl [Hst1]; · iexact Hst1
    iexact HO
  iintro ⟨Hst1, HO⟩
  iapply (ret_wp c)
  iapply Hk
  isplitl [Hst0]; · iexact Hst0
  isplitl [Hst1]; · iexact Hst1
  iexact HO

/-- Part 20 of the body. -/
theorem part20 (v2 : BitVec 32) (v19 : BitVec 32) (v22 : BitVec 32) (v24 : BitVec 32) (v27 : BitVec 32) (v547 : BitVec 32) (v551 : BitVec 32) (v578 : BitVec 32) {Q : (PUnit) → sProp 𝕄} :
    iprop(recs m K ∗ Mid m c 1 1 ∗ ow (F := F) c (due 16) ∗ Fly m c 2 1)
      ⊢ iprop(((Fly m c 1 2 ∗ Rdy m c 2 2 ∗ ow (F := F) c (due 17)) -∗ Q ⟨⟩)
          -∗ WP c (k0_part20 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v19 v22 v24 v27 v547 v551 v578) Q) := by
  rw [k0_part20_eq_skeleton]; unfold k0_part20_skel
  simp only [semSignalWord, semWaitWord, Prog.lift, Prog.bind_op, Prog.bind_ret, Prog.pure_eq_ret, sw_rr11, sw_rr12, sw_rr21, sw_ss1, sw_ss2]
  iintro ⟨#HR, Hst1, HO, Hst2⟩ Hk
  iapply (hop_waitR m K c 1 1 (by decide) (due 16) (by decide) rfl) $$ [Hst1 HO]
  · isplitr; · iexact HR
    isplitl [Hst1]; · iexact Hst1
    iexact HO
  iintro ⟨Hst1, HO⟩
  iapply (hop_send m K c 1 2 (by decide) _ (dv17 c) (due 16) (due 17) rfl rfl rfl (show k0_off3 c 2#32 256#32 = _ from off3 c 1 1 1 rfl)) $$ [Hst1 HO]
  · isplitr; · iexact HR
    isplitl [Hst1]; · iexact Hst1
    iexact HO
  iintro ⟨Hst1, HO⟩
  iapply (hop_waitS m K c 2 1 (by decide) (due 17) (by decide) rfl) $$ [Hst2 HO]
  · isplitr; · iexact HR
    isplitl [Hst2]; · iexact Hst2
    iexact HO
  iintro ⟨Hst2, HO⟩
  iapply (hop_waitR m K c 2 1 (by decide) (due 17) (by decide) rfl) $$ [Hst2 HO]
  · isplitr; · iexact HR
    isplitl [Hst2]; · iexact Hst2
    iexact HO
  iintro ⟨Hst2, HO⟩
  iapply (ret_wp c)
  iapply Hk
  isplitl [Hst1]; · iexact Hst1
  isplitl [Hst2]; · iexact Hst2
  iexact HO

/-- Part 21 of the body. -/
theorem part21 (v2 : BitVec 32) (v24 : BitVec 32) (v27 : BitVec 32) (v551 : BitVec 32) {Q : (PUnit) → sProp 𝕄} :
    iprop(recs m K ∗ Rdy m c 2 2 ∗ ow (F := F) c (due 17) ∗ Fly m c 3 1)
      ⊢ iprop(((Fly m c 2 2 ∗ Rdy m c 3 2 ∗ ow (F := F) c (due 18)) -∗ Q ⟨⟩)
          -∗ WP c (k0_part21 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v24 v27 v551) Q) := by
  rw [k0_part21_eq_skeleton]; unfold k0_part21_skel
  simp only [semSignalWord, semWaitWord, Prog.lift, Prog.bind_op, Prog.bind_ret, Prog.pure_eq_ret, sw_rr22, sw_rr31, sw_ss2, sw_ss3]
  iintro ⟨#HR, Hst2, HO, Hst3⟩ Hk
  iapply (hop_send m K c 2 2 (by decide) _ (dv18 c) (due 17) (due 18) rfl rfl rfl (show k0_off4 c 1#32 512#32 = _ from off4 c 1 0 2 rfl)) $$ [Hst2 HO]
  · isplitr; · iexact HR
    isplitl [Hst2]; · iexact Hst2
    iexact HO
  iintro ⟨Hst2, HO⟩
  iapply (hop_waitS m K c 3 1 (by decide) (due 18) (by decide) rfl) $$ [Hst3 HO]
  · isplitr; · iexact HR
    isplitl [Hst3]; · iexact Hst3
    iexact HO
  iintro ⟨Hst3, HO⟩
  iapply (hop_waitR m K c 3 1 (by decide) (due 18) (by decide) rfl) $$ [Hst3 HO]
  · isplitr; · iexact HR
    isplitl [Hst3]; · iexact Hst3
    iexact HO
  iintro ⟨Hst3, HO⟩
  iapply (ret_wp c)
  iapply Hk
  isplitl [Hst2]; · iexact Hst2
  isplitl [Hst3]; · iexact Hst3
  iexact HO

end Parts

end Cert.KernelIdeal.Ring

end
-- ==== Proof.Ideal.PartsD.lean ====
/-
The parts of the body, each from what it uses to what it leaves.
-/
module

public import proofs.«01_k».proof.Proof.Ideal.Sems

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

section Parts
variable (c : Dev nD)

/-- Part 22 of the body. -/
theorem part22 (v2 : BitVec 32) (v11 : BitVec 32) (v19 : BitVec 32) (v22 : BitVec 32) {Q : (Σ' (v647 : BitVec 32), BitVec 32) → sProp 𝕄} :
    iprop(recs m K ∗ Rdy m c 3 2 ∗ ow (F := F) c (due 18) ∗ Fly m c 0 2)
      ⊢ iprop((∀ r, (Fly m c 3 2 ∗ Rdy m c 0 3 ∗ ow (F := F) c (due 19)) -∗ Q r)
          -∗ WP c (k0_part22 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v11 v19 v22) Q) := by
  rw [k0_part22_eq_skeleton]; unfold k0_part22_skel
  simp only [semSignalWord, semWaitWord, Prog.lift, Prog.bind_op, Prog.bind_ret, Prog.pure_eq_ret, sw_rr02, sw_rr32, sw_ss0, sw_ss3]
  iintro ⟨#HR, Hst3, HO, Hst0⟩ Hk
  iapply (hop_send m K c 3 2 (by decide) _ (dv19 c) (due 18) (due 19) rfl rfl rfl (show k0_off4 c 1#32 768#32 = _ from off4 c 1 1 3 rfl)) $$ [Hst3 HO]
  · isplitr; · iexact HR
    isplitl [Hst3]; · iexact Hst3
    iexact HO
  iintro ⟨Hst3, HO⟩
  iapply (hop_waitS m K c 0 2 (by decide) (due 19) (by decide) rfl) $$ [Hst0 HO]
  · isplitr; · iexact HR
    isplitl [Hst0]; · iexact Hst0
    iexact HO
  iintro ⟨Hst0, HO⟩
  iapply (hop_waitR m K c 0 2 (by decide) (due 19) (by decide) rfl) $$ [Hst0 HO]
  · isplitr; · iexact HR
    isplitl [Hst0]; · iexact Hst0
    iexact HO
  iintro ⟨Hst0, HO⟩
  iapply (ret_wp c)
  iapply Hk
  isplitl [Hst3]; · iexact Hst3
  isplitl [Hst0]; · iexact Hst0
  iexact HO

/-- Part 23 of the body. -/
theorem part23 (v2 : BitVec 32) (v19 : BitVec 32) (v22 : BitVec 32) (v647 : BitVec 32) {Q : (Σ' (v700 : BitVec 32), BitVec 32) → sProp 𝕄} :
    iprop(recs m K ∗ Rdy m c 0 3 ∗ ow (F := F) c (due 19) ∗ Fly m c 1 2 ∗ Fly m c 2 2)
      ⊢ iprop((∀ r, (Fly m c 0 3 ∗ Fly m c 1 3 ∗ Mid m c 2 2 ∗ ow (F := F) c (due 21)) -∗ Q r)
          -∗ WP c (k0_part23 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v19 v22 v647) Q) := by
  rw [k0_part23_eq_skeleton]; unfold k0_part23_skel
  simp only [semSignalWord, semWaitWord, Prog.lift, Prog.bind_op, Prog.bind_ret, Prog.pure_eq_ret, sw_rr03, sw_rr12, sw_rr13, sw_ss0, sw_ss1, sw_ss2]
  iintro ⟨#HR, Hst0, HO, Hst1, Hst2⟩ Hk
  iapply (hop_send m K c 0 3 (by decide) _ (dv20 c) (due 19) (due 20) rfl rfl rfl (show k0_off3 c 3#32 0#32 = _ from off3 c 2 0 0 rfl)) $$ [Hst0 HO]
  · isplitr; · iexact HR
    isplitl [Hst0]; · iexact Hst0
    iexact HO
  iintro ⟨Hst0, HO⟩
  iapply (hop_waitS m K c 1 2 (by decide) (due 20) (by decide) rfl) $$ [Hst1 HO]
  · isplitr; · iexact HR
    isplitl [Hst1]; · iexact Hst1
    iexact HO
  iintro ⟨Hst1, HO⟩
  iapply (hop_waitR m K c 1 2 (by decide) (due 20) (by decide) rfl) $$ [Hst1 HO]
  · isplitr; · iexact HR
    isplitl [Hst1]; · iexact Hst1
    iexact HO
  iintro ⟨Hst1, HO⟩
  iapply (hop_send m K c 1 3 (by decide) _ (dv21 c) (due 20) (due 21) rfl rfl rfl (show k0_off3 c 3#32 256#32 = _ from off3 c 2 1 1 rfl)) $$ [Hst1 HO]
  · isplitr; · iexact HR
    isplitl [Hst1]; · iexact Hst1
    iexact HO
  iintro ⟨Hst1, HO⟩
  iapply (hop_waitS m K c 2 2 (by decide) (due 21) (by decide) rfl) $$ [Hst2 HO]
  · isplitr; · iexact HR
    isplitl [Hst2]; · iexact Hst2
    iexact HO
  iintro ⟨Hst2, HO⟩
  iapply (ret_wp c)
  iapply Hk
  isplitl [Hst0]; · iexact Hst0
  isplitl [Hst1]; · iexact Hst1
  isplitl [Hst2]; · iexact Hst2
  iexact HO

/-- Part 24 of the body. -/
theorem part24 (v2 : BitVec 32) (v24 : BitVec 32) (v27 : BitVec 32) (v651 : BitVec 32) (v700 : BitVec 32) (c0_i32_573 : BitVec 32) {Q : (BitVec 32) → sProp 𝕄} :
    iprop(recs m K ∗ Mid m c 2 2 ∗ ow (F := F) c (due 21) ∗ Fly m c 3 2)
      ⊢ iprop((∀ r, (Fly m c 2 3 ∗ Rdy m c 3 3 ∗ ow (F := F) c (due 22)) -∗ Q r)
          -∗ WP c (k0_part24 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v24 v27 v651 v700 c0_i32_573) Q) := by
  rw [k0_part24_eq_skeleton]; unfold k0_part24_skel
  simp only [semSignalWord, semWaitWord, Prog.lift, Prog.bind_op, Prog.bind_ret, Prog.pure_eq_ret, sw_rr22, sw_rr23, sw_rr32, sw_ss2, sw_ss3]
  iintro ⟨#HR, Hst2, HO, Hst3⟩ Hk
  iapply (hop_waitR m K c 2 2 (by decide) (due 21) (by decide) rfl) $$ [Hst2 HO]
  · isplitr; · iexact HR
    isplitl [Hst2]; · iexact Hst2
    iexact HO
  iintro ⟨Hst2, HO⟩
  iapply (hop_send m K c 2 3 (by decide) _ (dv22 c) (due 21) (due 22) rfl rfl rfl (show k0_off4 c 2#32 512#32 = _ from off4 c 2 0 2 rfl)) $$ [Hst2 HO]
  · isplitr; · iexact HR
    isplitl [Hst2]; · iexact Hst2
    iexact HO
  iintro ⟨Hst2, HO⟩
  iapply (hop_waitS m K c 3 2 (by decide) (due 22) (by decide) rfl) $$ [Hst3 HO]
  · isplitr; · iexact HR
    isplitl [Hst3]; · iexact Hst3
    iexact HO
  iintro ⟨Hst3, HO⟩
  iapply (hop_waitR m K c 3 2 (by decide) (due 22) (by decide) rfl) $$ [Hst3 HO]
  · isplitr; · iexact HR
    isplitl [Hst3]; · iexact Hst3
    iexact HO
  iintro ⟨Hst3, HO⟩
  iapply (ret_wp c)
  iapply Hk
  isplitl [Hst2]; · iexact Hst2
  isplitl [Hst3]; · iexact Hst3
  iexact HO

/-- Part 25 of the body. -/
theorem part25 (v2 : BitVec 32) (v11 : BitVec 32) (v19 : BitVec 32) (v22 : BitVec 32) (v24 : BitVec 32) (v27 : BitVec 32) (v651 : BitVec 32) (c768_i32_597 : BitVec 32) {Q : (Σ' (v747 : BitVec 32), BitVec 32) → sProp 𝕄} :
    iprop(recs m K ∗ Rdy m c 3 3 ∗ ow (F := F) c (due 22) ∗ Fly m c 0 3)
      ⊢ iprop((∀ r, (Fly m c 3 3 ∗ Rdy m c 0 4 ∗ ow (F := F) c (due 23)) -∗ Q r)
          -∗ WP c (k0_part25 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v11 v19 v22 v24 v27 v651 c768_i32_597) Q) := by
  rw [k0_part25_eq_skeleton]; unfold k0_part25_skel
  simp only [semSignalWord, semWaitWord, Prog.lift, Prog.bind_op, Prog.bind_ret, Prog.pure_eq_ret, sw_rr03, sw_rr33, sw_ss0, sw_ss3]
  iintro ⟨#HR, Hst3, HO, Hst0⟩ Hk
  iapply (hop_send m K c 3 3 (by decide) _ (dv23 c) (due 22) (due 23) rfl rfl rfl (show k0_off4 c 2#32 768#32 = _ from off4 c 2 1 3 rfl)) $$ [Hst3 HO]
  · isplitr; · iexact HR
    isplitl [Hst3]; · iexact Hst3
    iexact HO
  iintro ⟨Hst3, HO⟩
  iapply (hop_waitS m K c 0 3 (by decide) (due 23) (by decide) rfl) $$ [Hst0 HO]
  · isplitr; · iexact HR
    isplitl [Hst0]; · iexact Hst0
    iexact HO
  iintro ⟨Hst0, HO⟩
  iapply (hop_waitR m K c 0 3 (by decide) (due 23) (by decide) rfl) $$ [Hst0 HO]
  · isplitr; · iexact HR
    isplitl [Hst0]; · iexact Hst0
    iexact HO
  iintro ⟨Hst0, HO⟩
  iapply (ret_wp c)
  iapply Hk
  isplitl [Hst3]; · iexact Hst3
  isplitl [Hst0]; · iexact Hst0
  iexact HO

/-- Part 26 of the body. -/
theorem part26 (v2 : BitVec 32) (v19 : BitVec 32) (v22 : BitVec 32) (v747 : BitVec 32) {Q : (PUnit) → sProp 𝕄} :
    iprop(recs m K ∗ Rdy m c 0 4 ∗ ow (F := F) c (due 23) ∗ Fly m c 1 3)
      ⊢ iprop(((Fly m c 0 4 ∗ Rdy m c 1 4 ∗ ow (F := F) c (due 24)) -∗ Q ⟨⟩)
          -∗ WP c (k0_part26 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v19 v22 v747) Q) := by
  rw [k0_part26_eq_skeleton]; unfold k0_part26_skel
  simp only [semSignalWord, semWaitWord, Prog.lift, Prog.bind_op, Prog.bind_ret, Prog.pure_eq_ret, sw_rr04, sw_rr13, sw_ss0, sw_ss1]
  iintro ⟨#HR, Hst0, HO, Hst1⟩ Hk
  iapply (hop_send m K c 0 4 (by decide) _ (dv24 c) (due 23) (due 24) rfl rfl rfl (show k0_off3 c 4#32 0#32 = _ from off3 c 3 0 0 rfl)) $$ [Hst0 HO]
  · isplitr; · iexact HR
    isplitl [Hst0]; · iexact Hst0
    iexact HO
  iintro ⟨Hst0, HO⟩
  iapply (hop_waitS m K c 1 3 (by decide) (due 24) (by decide) rfl) $$ [Hst1 HO]
  · isplitr; · iexact HR
    isplitl [Hst1]; · iexact Hst1
    iexact HO
  iintro ⟨Hst1, HO⟩
  iapply (hop_waitR m K c 1 3 (by decide) (due 24) (by decide) rfl) $$ [Hst1 HO]
  · isplitr; · iexact HR
    isplitl [Hst1]; · iexact Hst1
    iexact HO
  iintro ⟨Hst1, HO⟩
  iapply (ret_wp c)
  iapply Hk
  isplitl [Hst0]; · iexact Hst0
  isplitl [Hst1]; · iexact Hst1
  iexact HO

/-- Part 27 of the body. -/
theorem part27 (v2 : BitVec 32) (v24 : BitVec 32) (v27 : BitVec 32) (v751 : BitVec 32) {Q : (BitVec 32) → sProp 𝕄} :
    iprop(recs m K ∗ Rdy m c 1 4 ∗ ow (F := F) c (due 24) ∗ Fly m c 2 3 ∗ Fly m c 3 3)
      ⊢ iprop((∀ r, (Fly m c 1 4 ∗ Fly m c 2 4 ∗ Mid m c 3 3 ∗ ow (F := F) c (due 26)) -∗ Q r)
          -∗ WP c (k0_part27 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v24 v27 v751) Q) := by
  rw [k0_part27_eq_skeleton]; unfold k0_part27_skel
  simp only [semSignalWord, semWaitWord, Prog.lift, Prog.bind_op, Prog.bind_ret, Prog.pure_eq_ret, sw_rr14, sw_rr23, sw_rr24, sw_ss1, sw_ss2, sw_ss3]
  iintro ⟨#HR, Hst1, HO, Hst2, Hst3⟩ Hk
  iapply (hop_send m K c 1 4 (by decide) _ (dv25 c) (due 24) (due 25) rfl rfl rfl (show k0_off3 c 4#32 256#32 = _ from off3 c 3 1 1 rfl)) $$ [Hst1 HO]
  · isplitr; · iexact HR
    isplitl [Hst1]; · iexact Hst1
    iexact HO
  iintro ⟨Hst1, HO⟩
  iapply (hop_waitS m K c 2 3 (by decide) (due 25) (by decide) rfl) $$ [Hst2 HO]
  · isplitr; · iexact HR
    isplitl [Hst2]; · iexact Hst2
    iexact HO
  iintro ⟨Hst2, HO⟩
  iapply (hop_waitR m K c 2 3 (by decide) (due 25) (by decide) rfl) $$ [Hst2 HO]
  · isplitr; · iexact HR
    isplitl [Hst2]; · iexact Hst2
    iexact HO
  iintro ⟨Hst2, HO⟩
  iapply (hop_send m K c 2 4 (by decide) _ (dv26 c) (due 25) (due 26) rfl rfl rfl (show k0_off4 c 3#32 512#32 = _ from off4 c 3 0 2 rfl)) $$ [Hst2 HO]
  · isplitr; · iexact HR
    isplitl [Hst2]; · iexact Hst2
    iexact HO
  iintro ⟨Hst2, HO⟩
  iapply (hop_waitS m K c 3 3 (by decide) (due 26) (by decide) rfl) $$ [Hst3 HO]
  · isplitr; · iexact HR
    isplitl [Hst3]; · iexact Hst3
    iexact HO
  iintro ⟨Hst3, HO⟩
  iapply (ret_wp c)
  iapply Hk
  isplitl [Hst1]; · iexact Hst1
  isplitl [Hst2]; · iexact Hst2
  isplitl [Hst3]; · iexact Hst3
  iexact HO

/-- Part 28 of the body. -/
theorem part28 (v2 : BitVec 32) (v11 : BitVec 32) (v24 : BitVec 32) (v27 : BitVec 32) (v751 : BitVec 32) (v823 : BitVec 32) {Q : (Σ' (v847 : BitVec 32) (v851 : BitVec 32), BitVec 32) → sProp 𝕄} :
    iprop(recs m K ∗ Mid m c 3 3 ∗ ow (F := F) c (due 26) ∗ Fly m c 0 4)
      ⊢ iprop((∀ r, (Fly m c 3 4 ∗ Mid m c 0 4 ∗ ow (F := F) c (due 27)) -∗ Q r)
          -∗ WP c (k0_part28 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v11 v24 v27 v751 v823) Q) := by
  rw [k0_part28_eq_skeleton]; unfold k0_part28_skel
  simp only [semSignalWord, semWaitWord, Prog.lift, Prog.bind_op, Prog.bind_ret, Prog.pure_eq_ret, sw_rr33, sw_rr34, sw_ss0, sw_ss3]
  iintro ⟨#HR, Hst3, HO, Hst0⟩ Hk
  iapply (hop_waitR m K c 3 3 (by decide) (due 26) (by decide) rfl) $$ [Hst3 HO]
  · isplitr; · iexact HR
    isplitl [Hst3]; · iexact Hst3
    iexact HO
  iintro ⟨Hst3, HO⟩
  iapply (hop_send m K c 3 4 (by decide) _ (dv27 c) (due 26) (due 27) rfl rfl rfl (show k0_off4 c 3#32 768#32 = _ from off4 c 3 1 3 rfl)) $$ [Hst3 HO]
  · isplitr; · iexact HR
    isplitl [Hst3]; · iexact Hst3
    iexact HO
  iintro ⟨Hst3, HO⟩
  iapply (hop_waitS m K c 0 4 (by decide) (due 27) (by decide) rfl) $$ [Hst0 HO]
  · isplitr; · iexact HR
    isplitl [Hst0]; · iexact Hst0
    iexact HO
  iintro ⟨Hst0, HO⟩
  iapply (ret_wp c)
  iapply Hk
  isplitl [Hst3]; · iexact Hst3
  isplitl [Hst0]; · iexact Hst0
  iexact HO

end Parts

end Cert.KernelIdeal.Ring

end
-- ==== Proof.Ideal.PartsE.lean ====
/-
The parts of the body, each from what it uses to what it leaves.
-/
module

public import proofs.«01_k».proof.Proof.Ideal.Sems

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

section Parts
variable (c : Dev nD)

/-- Part 29 of the body. -/
theorem part29 (v2 : BitVec 32) (v19 : BitVec 32) (v22 : BitVec 32) (v847 : BitVec 32) (c8_i32_702 : BitVec 32) {Q : (PUnit) → sProp 𝕄} :
    iprop(recs m K ∗ Mid m c 0 4 ∗ ow (F := F) c (due 27) ∗ Fly m c 1 4)
      ⊢ iprop(((Fly m c 0 5 ∗ Mid m c 1 4 ∗ ow (F := F) c (due 28)) -∗ Q ⟨⟩)
          -∗ WP c (k0_part29 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v19 v22 v847 c8_i32_702) Q) := by
  rw [k0_part29_eq_skeleton]; unfold k0_part29_skel
  simp only [semSignalWord, semWaitWord, Prog.lift, Prog.bind_op, Prog.bind_ret, Prog.pure_eq_ret, sw_rr04, sw_rr05, sw_ss0, sw_ss1]
  iintro ⟨#HR, Hst0, HO, Hst1⟩ Hk
  iapply (hop_waitR m K c 0 4 (by decide) (due 27) (by decide) rfl) $$ [Hst0 HO]
  · isplitr; · iexact HR
    isplitl [Hst0]; · iexact Hst0
    iexact HO
  iintro ⟨Hst0, HO⟩
  iapply (hop_send m K c 0 5 (by decide) _ (dv28 c) (due 27) (due 28) rfl rfl rfl (show k0_off3 c 5#32 0#32 = _ from off3 c 4 0 0 rfl)) $$ [Hst0 HO]
  · isplitr; · iexact HR
    isplitl [Hst0]; · iexact Hst0
    iexact HO
  iintro ⟨Hst0, HO⟩
  iapply (hop_waitS m K c 1 4 (by decide) (due 28) (by decide) rfl) $$ [Hst1 HO]
  · isplitr; · iexact HR
    isplitl [Hst1]; · iexact Hst1
    iexact HO
  iintro ⟨Hst1, HO⟩
  iapply (ret_wp c)
  iapply Hk
  isplitl [Hst0]; · iexact Hst0
  isplitl [Hst1]; · iexact Hst1
  iexact HO

/-- Part 30 of the body. -/
theorem part30 (v2 : BitVec 32) (v19 : BitVec 32) (v22 : BitVec 32) (v24 : BitVec 32) (v27 : BitVec 32) (v847 : BitVec 32) (v851 : BitVec 32) {Q : (PUnit) → sProp 𝕄} :
    iprop(recs m K ∗ Mid m c 1 4 ∗ ow (F := F) c (due 28) ∗ Fly m c 2 4)
      ⊢ iprop(((Fly m c 1 5 ∗ Rdy m c 2 5 ∗ ow (F := F) c (due 29)) -∗ Q ⟨⟩)
          -∗ WP c (k0_part30 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v19 v22 v24 v27 v847 v851) Q) := by
  rw [k0_part30_eq_skeleton]; unfold k0_part30_skel
  simp only [semSignalWord, semWaitWord, Prog.lift, Prog.bind_op, Prog.bind_ret, Prog.pure_eq_ret, sw_rr14, sw_rr15, sw_rr24, sw_ss1, sw_ss2]
  iintro ⟨#HR, Hst1, HO, Hst2⟩ Hk
  iapply (hop_waitR m K c 1 4 (by decide) (due 28) (by decide) rfl) $$ [Hst1 HO]
  · isplitr; · iexact HR
    isplitl [Hst1]; · iexact Hst1
    iexact HO
  iintro ⟨Hst1, HO⟩
  iapply (hop_send m K c 1 5 (by decide) _ (dv29 c) (due 28) (due 29) rfl rfl rfl (show k0_off3 c 5#32 256#32 = _ from off3 c 4 1 1 rfl)) $$ [Hst1 HO]
  · isplitr; · iexact HR
    isplitl [Hst1]; · iexact Hst1
    iexact HO
  iintro ⟨Hst1, HO⟩
  iapply (hop_waitS m K c 2 4 (by decide) (due 29) (by decide) rfl) $$ [Hst2 HO]
  · isplitr; · iexact HR
    isplitl [Hst2]; · iexact Hst2
    iexact HO
  iintro ⟨Hst2, HO⟩
  iapply (hop_waitR m K c 2 4 (by decide) (due 29) (by decide) rfl) $$ [Hst2 HO]
  · isplitr; · iexact HR
    isplitl [Hst2]; · iexact Hst2
    iexact HO
  iintro ⟨Hst2, HO⟩
  iapply (ret_wp c)
  iapply Hk
  isplitl [Hst1]; · iexact Hst1
  isplitl [Hst2]; · iexact Hst2
  iexact HO

/-- Part 31 of the body. -/
theorem part31 (v2 : BitVec 32) (v11 : BitVec 32) (v24 : BitVec 32) (v27 : BitVec 32) (v851 : BitVec 32) {Q : (Σ' (v947 : BitVec 32), BitVec 32) → sProp 𝕄} :
    iprop(recs m K ∗ Rdy m c 2 5 ∗ ow (F := F) c (due 29) ∗ Fly m c 3 4)
      ⊢ iprop((∀ r, (Fly m c 2 5 ∗ Fly m c 3 5 ∗ ow (F := F) c (due 31)) -∗ Q r)
          -∗ WP c (k0_part31 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v11 v24 v27 v851) Q) := by
  rw [k0_part31_eq_skeleton]; unfold k0_part31_skel
  simp only [semSignalWord, semWaitWord, Prog.lift, Prog.bind_op, Prog.bind_ret, Prog.pure_eq_ret, sw_rr25, sw_rr34, sw_rr35, sw_ss2, sw_ss3]
  iintro ⟨#HR, Hst2, HO, Hst3⟩ Hk
  iapply (hop_send m K c 2 5 (by decide) _ (dv30 c) (due 29) (due 30) rfl rfl rfl (show k0_off4 c 4#32 512#32 = _ from off4 c 4 0 2 rfl)) $$ [Hst2 HO]
  · isplitr; · iexact HR
    isplitl [Hst2]; · iexact Hst2
    iexact HO
  iintro ⟨Hst2, HO⟩
  iapply (hop_waitS m K c 3 4 (by decide) (due 30) (by decide) rfl) $$ [Hst3 HO]
  · isplitr; · iexact HR
    isplitl [Hst3]; · iexact Hst3
    iexact HO
  iintro ⟨Hst3, HO⟩
  iapply (hop_waitR m K c 3 4 (by decide) (due 30) (by decide) rfl) $$ [Hst3 HO]
  · isplitr; · iexact HR
    isplitl [Hst3]; · iexact Hst3
    iexact HO
  iintro ⟨Hst3, HO⟩
  iapply (hop_send m K c 3 5 (by decide) _ (dv31 c) (due 30) (due 31) rfl rfl rfl (show k0_off4 c 4#32 768#32 = _ from off4 c 4 1 3 rfl)) $$ [Hst3 HO]
  · isplitr; · iexact HR
    isplitl [Hst3]; · iexact Hst3
    iexact HO
  iintro ⟨Hst3, HO⟩
  iapply (ret_wp c)
  iapply Hk
  isplitl [Hst2]; · iexact Hst2
  isplitl [Hst3]; · iexact Hst3
  iexact HO

/-- Part 32 of the body. -/
theorem part32 (v2 : BitVec 32) (v11 : BitVec 32) (v19 : BitVec 32) (v22 : BitVec 32) (v947 : BitVec 32) (c5_i32_777 : BitVec 32) {Q : (BitVec 32) → sProp 𝕄} :
    iprop(recs m K ∗ Fly m c 0 5 ∗ ow (F := F) c (due 31) ∗ Fly m c 1 5)
      ⊢ iprop((∀ r, (Fly m c 0 6 ∗ Mid m c 1 5 ∗ ow (F := F) c (due 32)) -∗ Q r)
          -∗ WP c (k0_part32 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v11 v19 v22 v947 c5_i32_777) Q) := by
  rw [k0_part32_eq_skeleton]; unfold k0_part32_skel
  simp only [semSignalWord, semWaitWord, Prog.lift, Prog.bind_op, Prog.bind_ret, Prog.pure_eq_ret, sw_rr05, sw_rr06, sw_ss0, sw_ss1]
  iintro ⟨#HR, Hst0, HO, Hst1⟩ Hk
  iapply (hop_waitS m K c 0 5 (by decide) (due 31) (by decide) rfl) $$ [Hst0 HO]
  · isplitr; · iexact HR
    isplitl [Hst0]; · iexact Hst0
    iexact HO
  iintro ⟨Hst0, HO⟩
  iapply (hop_waitR m K c 0 5 (by decide) (due 31) (by decide) rfl) $$ [Hst0 HO]
  · isplitr; · iexact HR
    isplitl [Hst0]; · iexact Hst0
    iexact HO
  iintro ⟨Hst0, HO⟩
  iapply (hop_send m K c 0 6 (by decide) _ (dv32 c) (due 31) (due 32) rfl rfl rfl (show k0_off3 c 6#32 0#32 = _ from off3 c 5 0 0 rfl)) $$ [Hst0 HO]
  · isplitr; · iexact HR
    isplitl [Hst0]; · iexact Hst0
    iexact HO
  iintro ⟨Hst0, HO⟩
  iapply (hop_waitS m K c 1 5 (by decide) (due 32) (by decide) rfl) $$ [Hst1 HO]
  · isplitr; · iexact HR
    isplitl [Hst1]; · iexact Hst1
    iexact HO
  iintro ⟨Hst1, HO⟩
  iapply (ret_wp c)
  iapply Hk
  isplitl [Hst0]; · iexact Hst0
  isplitl [Hst1]; · iexact Hst1
  iexact HO

/-- Part 33 of the body. -/
theorem part33 (v2 : BitVec 32) (v19 : BitVec 32) (v22 : BitVec 32) (v24 : BitVec 32) (v27 : BitVec 32) (v947 : BitVec 32) {Q : (PUnit) → sProp 𝕄} :
    iprop(recs m K ∗ Mid m c 1 5 ∗ ow (F := F) c (due 32) ∗ Fly m c 2 5)
      ⊢ iprop(((Fly m c 1 6 ∗ Mid m c 2 5 ∗ ow (F := F) c (due 33)) -∗ Q ⟨⟩)
          -∗ WP c (k0_part33 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v19 v22 v24 v27 v947) Q) := by
  rw [k0_part33_eq_skeleton]; unfold k0_part33_skel
  simp only [semSignalWord, semWaitWord, Prog.lift, Prog.bind_op, Prog.bind_ret, Prog.pure_eq_ret, sw_rr15, sw_rr16, sw_ss1, sw_ss2]
  iintro ⟨#HR, Hst1, HO, Hst2⟩ Hk
  iapply (hop_waitR m K c 1 5 (by decide) (due 32) (by decide) rfl) $$ [Hst1 HO]
  · isplitr; · iexact HR
    isplitl [Hst1]; · iexact Hst1
    iexact HO
  iintro ⟨Hst1, HO⟩
  iapply (hop_send m K c 1 6 (by decide) _ (dv33 c) (due 32) (due 33) rfl rfl rfl (show k0_off3 c 6#32 256#32 = _ from off3 c 5 1 1 rfl)) $$ [Hst1 HO]
  · isplitr; · iexact HR
    isplitl [Hst1]; · iexact Hst1
    iexact HO
  iintro ⟨Hst1, HO⟩
  iapply (hop_waitS m K c 2 5 (by decide) (due 33) (by decide) rfl) $$ [Hst2 HO]
  · isplitr; · iexact HR
    isplitl [Hst2]; · iexact Hst2
    iexact HO
  iintro ⟨Hst2, HO⟩
  iapply (ret_wp c)
  iapply Hk
  isplitl [Hst1]; · iexact Hst1
  isplitl [Hst2]; · iexact Hst2
  iexact HO

/-- Part 34 of the body. -/
theorem part34 (v2 : BitVec 32) (v24 : BitVec 32) (v27 : BitVec 32) (v951 : BitVec 32) {Q : (PUnit) → sProp 𝕄} :
    iprop(recs m K ∗ Mid m c 2 5 ∗ ow (F := F) c (due 33) ∗ Fly m c 3 5)
      ⊢ iprop(((Fly m c 2 6 ∗ Rdy m c 3 6 ∗ ow (F := F) c (due 34)) -∗ Q ⟨⟩)
          -∗ WP c (k0_part34 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v24 v27 v951) Q) := by
  rw [k0_part34_eq_skeleton]; unfold k0_part34_skel
  simp only [semSignalWord, semWaitWord, Prog.lift, Prog.bind_op, Prog.bind_ret, Prog.pure_eq_ret, sw_rr25, sw_rr26, sw_rr35, sw_ss2, sw_ss3]
  iintro ⟨#HR, Hst2, HO, Hst3⟩ Hk
  iapply (hop_waitR m K c 2 5 (by decide) (due 33) (by decide) rfl) $$ [Hst2 HO]
  · isplitr; · iexact HR
    isplitl [Hst2]; · iexact Hst2
    iexact HO
  iintro ⟨Hst2, HO⟩
  iapply (hop_send m K c 2 6 (by decide) _ (dv34 c) (due 33) (due 34) rfl rfl rfl (show k0_off4 c 5#32 512#32 = _ from off4 c 5 0 2 rfl)) $$ [Hst2 HO]
  · isplitr; · iexact HR
    isplitl [Hst2]; · iexact Hst2
    iexact HO
  iintro ⟨Hst2, HO⟩
  iapply (hop_waitS m K c 3 5 (by decide) (due 34) (by decide) rfl) $$ [Hst3 HO]
  · isplitr; · iexact HR
    isplitl [Hst3]; · iexact Hst3
    iexact HO
  iintro ⟨Hst3, HO⟩
  iapply (hop_waitR m K c 3 5 (by decide) (due 34) (by decide) rfl) $$ [Hst3 HO]
  · isplitr; · iexact HR
    isplitl [Hst3]; · iexact Hst3
    iexact HO
  iintro ⟨Hst3, HO⟩
  iapply (ret_wp c)
  iapply Hk
  isplitl [Hst2]; · iexact Hst2
  isplitl [Hst3]; · iexact Hst3
  iexact HO

/-- Part 35 of the body. -/
theorem part35 (v2 : BitVec 32) (v19 : BitVec 32) (v22 : BitVec 32) {Q : (PUnit) → sProp 𝕄} :
    iprop(recs m K ∗ Rdy m c 3 6 ∗ ow (F := F) c (due 34) ∗ Fly m c 0 6 ∗ Fly m c 1 6)
      ⊢ iprop(((Fly m c 3 6 ∗ Rdy m c 0 7 ∗ Rdy m c 1 7 ∗ ow (F := F) c (due 35)) -∗ Q ⟨⟩)
          -∗ WP c (k0_part35 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 c v2 v19 v22) Q) := by
  rw [k0_part35_eq_skeleton]; unfold k0_part35_skel
  simp only [semSignalWord, semWaitWord, Prog.lift, Prog.bind_op, Prog.bind_ret, Prog.pure_eq_ret, sw_rr06, sw_rr16, sw_rr36, sw_ss0, sw_ss1, sw_ss3]
  iintro ⟨#HR, Hst3, HO, Hst0, Hst1⟩ Hk
  iapply (hop_send m K c 3 6 (by decide) _ (dv35 c) (due 34) (due 35) rfl rfl rfl (show k0_off4 c 5#32 768#32 = _ from off4 c 5 1 3 rfl)) $$ [Hst3 HO]
  · isplitr; · iexact HR
    isplitl [Hst3]; · iexact Hst3
    iexact HO
  iintro ⟨Hst3, HO⟩
  iapply (hop_waitS m K c 0 6 (by decide) (due 35) (by decide) rfl) $$ [Hst0 HO]
  · isplitr; · iexact HR
    isplitl [Hst0]; · iexact Hst0
    iexact HO
  iintro ⟨Hst0, HO⟩
  iapply (hop_waitR m K c 0 6 (by decide) (due 35) (by decide) rfl) $$ [Hst0 HO]
  · isplitr; · iexact HR
    isplitl [Hst0]; · iexact Hst0
    iexact HO
  iintro ⟨Hst0, HO⟩
  iapply (hop_waitS m K c 1 6 (by decide) (due 35) (by decide) rfl) $$ [Hst1 HO]
  · isplitr; · iexact HR
    isplitl [Hst1]; · iexact Hst1
    iexact HO
  iintro ⟨Hst1, HO⟩
  iapply (hop_waitR m K c 1 6 (by decide) (due 35) (by decide) rfl) $$ [Hst1 HO]
  · isplitr; · iexact HR
    isplitl [Hst1]; · iexact Hst1
    iexact HO
  iintro ⟨Hst1, HO⟩
  iapply (ret_wp c)
  iapply Hk
  isplitl [Hst3]; · iexact Hst3
  isplitl [Hst0]; · iexact Hst0
  isplitl [Hst1]; · iexact Hst1
  iexact HO

end Parts

end Cert.KernelIdeal.Ring

end
-- ==== Proof.Ideal.Body.lean ====
/-
The body from beginning to end.
-/
module

public import proofs.«01_k».proof.Proof.Ideal.PartsA
public import proofs.«01_k».proof.Proof.Ideal.PartsB
public import proofs.«01_k».proof.Proof.Ideal.PartsC
public import proofs.«01_k».proof.Proof.Ideal.PartsD
public import proofs.«01_k».proof.Proof.Ideal.PartsE

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

section Body
variable (c : Dev nD)

theorem bind_step {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP (F := F) c (p >>= k) Q := by
  unfold WP
  rw [wp_bind]

/-- Part 1 of the body says which device runs it. -/
theorem part1 {Q : (Σ' (d0 : Dev nD) (v2 : BitVec 32) (v5 : BitVec 32) (v8 : BitVec 32) (v11 : BitVec 32) (v12 : BitVec 32) (v19 : BitVec 32) (v22 : BitVec 32) (v24 : BitVec 32) (v27 : BitVec 32) (v28 : BitVec 32) (v29 : Sems sig S_) (v30 : BitVec 32), BitVec 32) → sProp 𝕄} :
    iprop(∀ v2, ∀ v5, ∀ v8, ∀ v11, ∀ v12, ∀ v19, ∀ v22, ∀ v24, ∀ v27, ∀ v28, ∀ v30, ∀ w, Q ⟨c, v2, v5, v8, v11, v12, v19, v22, v24, v27, v28, SemArray.scalar (sig.barrier 0 rfl), v30, w⟩)
      ⊢ WP c (k0_part1 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14) Q := by
  rw [k0_part1_eq_skeleton]; unfold k0_part1_skel
  simp only [Prog.lift, Prog.bind_op, Prog.bind_ret, Prog.pure_eq_ret]
  unfold WP
  rw [wp_deviceId, wp_ret]
  iintro H
  imodintro
  iapply H

theorem str0 : iprop(Seed (F := F) c 0 ∗ outs (F := F) (rgt c) 0) ⊢ Str m c 0 0 := seed_str m c 0
theorem str1 : iprop(Seed (F := F) c 1 ∗ outs (F := F) (rgt c) 1) ⊢ Str m c 1 0 := seed_str m c 1
theorem str2 : iprop(Seed (F := F) c 2 ∗ outs (F := F) (lft c) 2) ⊢ Str m c 2 0 := seed_str m c 2
theorem str3 : iprop(Seed (F := F) c 3 ∗ outs (F := F) (lft c) 3) ⊢ Str m c 3 0 := seed_str m c 3

/-- All of the body but its last two waits. -/
theorem part36 {Q : (Σ' (d0 : Dev nD) (v2 : BitVec 32) (v24 : BitVec 32), BitVec 32) → sProp 𝕄} :
    iprop(recs m K ∗ dutyTok ER (barC (xp c)) 0 (0 : Fin 3) ∗ dutyTok ER (barC (rgt c)) 0 (2 : Fin 3) ∗ dutyTok ER (barC (lft c)) 0 (1 : Fin 3) ∗ lands (F := F) c ∗ outs (F := F) c 0 ∗ outs (F := F) c 1 ∗ outs (F := F) c 2 ∗ outs (F := F) c 3 ∗ cred (tallyAt (barC c) () 3) ∗ atPos ER (barC c) 0 ∅ 0 ∗ owns (c : Thread nD τ) (aM (rid c) 0) (shr 0) (pV m c 0) ∗ owns (c : Thread nD τ) (aM (rid c) 0) (shr 4) (pV m c 0) ∗ owns (c : Thread nD τ) (gM (rid c) 0) (shr 0) (rV m c 0) ∗ dutyTok ER (dC c (psS 0)) 0 (0 : Fin 3) ∗ dutyTok ER (dC (xp c) (prS 0)) 0 (0 : Fin 3) ∗ atPos ER (dC c (psS 0)) 0 ∅ 0 ∗ atPos ER (dC c (prS 0)) 0 ∅ 0 ∗ cred (tallyAt (dC c (prS 0)) () N) ∗ dutyTok ER (dC c (loS 0 0)) 0 (0 : Fin 3) ∗ atPos ER (dC c (loS 0 0)) 0 ∅ 0 ∗ dutyTok ER (dC c (loS 0 1)) 0 (0 : Fin 3) ∗ atPos ER (dC c (loS 0 1)) 0 ∅ 0 ∗ dutyTok ER (dC c (loS 0 2)) 0 (0 : Fin 3) ∗ atPos ER (dC c (loS 0 2)) 0 ∅ 0 ∗ ownsAny (F := F) c (pcM 0) ∗ ownsAny (F := F) c (rcM 0) ∗ ownsAny (F := F) c (ocM 0) ∗ ownsAny (F := F) c (oM (rid c) 0) ∗ Seed (F := F) c 0 ∗ owns (c : Thread nD τ) (aM (rid c) 2) (shr 2) (pV m c 2) ∗ owns (c : Thread nD τ) (aM (rid c) 2) (shr 6) (pV m c 2) ∗ owns (c : Thread nD τ) (gM (rid c) 2) (shr 2) (rV m c 2) ∗ dutyTok ER (dC c (psS 1)) 0 (0 : Fin 3) ∗ dutyTok ER (dC (xp c) (prS 1)) 0 (0 : Fin 3) ∗ atPos ER (dC c (psS 1)) 0 ∅ 0 ∗ atPos ER (dC c (prS 1)) 0 ∅ 0 ∗ cred (tallyAt (dC c (prS 1)) () N) ∗ dutyTok ER (dC c (loS 2 0)) 0 (0 : Fin 3) ∗ atPos ER (dC c (loS 2 0)) 0 ∅ 0 ∗ dutyTok ER (dC c (loS 2 1)) 0 (0 : Fin 3) ∗ atPos ER (dC c (loS 2 1)) 0 ∅ 0 ∗ dutyTok ER (dC c (loS 2 2)) 0 (0 : Fin 3) ∗ atPos ER (dC c (loS 2 2)) 0 ∅ 0 ∗ ownsAny (F := F) c (pcM 2) ∗ ownsAny (F := F) c (rcM 2) ∗ ownsAny (F := F) c (ocM 2) ∗ ownsAny (F := F) c (oM (rid c) 2) ∗ Seed (F := F) c 2 ∗ owns (c : Thread nD τ) (aM (rid c) 1) (shr 1) (pV m c 1) ∗ owns (c : Thread nD τ) (aM (rid c) 1) (shr 5) (pV m c 1) ∗ owns (c : Thread nD τ) (gM (rid c) 1) (shr 1) (rV m c 1) ∗ dutyTok ER (dC c (psS 2)) 0 (0 : Fin 3) ∗ dutyTok ER (dC (xp c) (prS 2)) 0 (0 : Fin 3) ∗ atPos ER (dC c (psS 2)) 0 ∅ 0 ∗ atPos ER (dC c (prS 2)) 0 ∅ 0 ∗ cred (tallyAt (dC c (prS 2)) () N) ∗ dutyTok ER (dC c (loS 1 0)) 0 (0 : Fin 3) ∗ atPos ER (dC c (loS 1 0)) 0 ∅ 0 ∗ dutyTok ER (dC c (loS 1 1)) 0 (0 : Fin 3) ∗ atPos ER (dC c (loS 1 1)) 0 ∅ 0 ∗ dutyTok ER (dC c (loS 1 2)) 0 (0 : Fin 3) ∗ atPos ER (dC c (loS 1 2)) 0 ∅ 0 ∗ ownsAny (F := F) c (pcM 1) ∗ ownsAny (F := F) c (rcM 1) ∗ ownsAny (F := F) c (ocM 1) ∗ ownsAny (F := F) c (oM (rid c) 1) ∗ Seed (F := F) c 1 ∗ owns (c : Thread nD τ) (aM (rid c) 3) (shr 3) (pV m c 3) ∗ owns (c : Thread nD τ) (aM (rid c) 3) (shr 7) (pV m c 3) ∗ owns (c : Thread nD τ) (gM (rid c) 3) (shr 3) (rV m c 3) ∗ dutyTok ER (dC c (psS 3)) 0 (0 : Fin 3) ∗ dutyTok ER (dC (xp c) (prS 3)) 0 (0 : Fin 3) ∗ atPos ER (dC c (psS 3)) 0 ∅ 0 ∗ atPos ER (dC c (prS 3)) 0 ∅ 0 ∗ cred (tallyAt (dC c (prS 3)) () N) ∗ dutyTok ER (dC c (loS 3 0)) 0 (0 : Fin 3) ∗ atPos ER (dC c (loS 3 0)) 0 ∅ 0 ∗ dutyTok ER (dC c (loS 3 1)) 0 (0 : Fin 3) ∗ atPos ER (dC c (loS 3 1)) 0 ∅ 0 ∗ dutyTok ER (dC c (loS 3 2)) 0 (0 : Fin 3) ∗ atPos ER (dC c (loS 3 2)) 0 ∅ 0 ∗ ownsAny (F := F) c (pcM 3) ∗ ownsAny (F := F) c (rcM 3) ∗ ownsAny (F := F) c (ocM 3) ∗ ownsAny (F := F) c (oM (rid c) 3) ∗ Seed (F := F) c 3 ∗ ownsF c (Memref.whole cc0_stg0_0 : Memref sig .tc .vmem S2048 .f32) (gV m c) ∗ ow (F := F) c (due 0))
      ⊢ iprop((∀ v2, ∀ v24, ∀ v27, (atPos ER (barC c) 1 ∅ 0 ∗ atPos ER (dC c (psS 0)) 1 ∅ 0 ∗ atPos ER (dC c (prS 0)) 1 ∅ 0 ∗ atPos ER (dC c (loS 0 0)) 1 ∅ 0 ∗ atPos ER (dC c (loS 0 1)) 1 ∅ 0 ∗ ownsF c (pcM 0) (pV m c 0) ∗ ownsF c (prM 0) (pV m (xp c) 0) ∗ ownsF c (rcM 0) (rV m c 0) ∗ atPos ER (dC c (loS 0 2)) 1 ∅ 0 ∗ ownsAny (F := F) c (ocM 0) ∗ atPos ER (dC c (psS 1)) 1 ∅ 0 ∗ atPos ER (dC c (prS 1)) 1 ∅ 0 ∗ atPos ER (dC c (loS 2 0)) 1 ∅ 0 ∗ atPos ER (dC c (loS 2 1)) 1 ∅ 0 ∗ ownsF c (pcM 2) (pV m c 2) ∗ ownsF c (prM 2) (pV m (xp c) 2) ∗ ownsF c (rcM 2) (rV m c 2) ∗ atPos ER (dC c (loS 2 2)) 1 ∅ 0 ∗ ownsAny (F := F) c (ocM 2) ∗ atPos ER (dC c (psS 2)) 1 ∅ 0 ∗ atPos ER (dC c (prS 2)) 1 ∅ 0 ∗ atPos ER (dC c (loS 1 0)) 1 ∅ 0 ∗ atPos ER (dC c (loS 1 1)) 1 ∅ 0 ∗ ownsF c (pcM 1) (pV m c 1) ∗ ownsF c (prM 1) (pV m (xp c) 1) ∗ ownsF c (rcM 1) (rV m c 1) ∗ atPos ER (dC c (loS 1 2)) 1 ∅ 0 ∗ ownsAny (F := F) c (ocM 1) ∗ atPos ER (dC c (psS 3)) 1 ∅ 0 ∗ atPos ER (dC c (prS 3)) 1 ∅ 0 ∗ atPos ER (dC c (loS 3 0)) 1 ∅ 0 ∗ atPos ER (dC c (loS 3 1)) 1 ∅ 0 ∗ ownsF c (pcM 3) (pV m c 3) ∗ ownsF c (prM 3) (pV m (xp c) 3) ∗ ownsF c (rcM 3) (rV m c 3) ∗ ownsF c (Memref.whole cc0_stg0_0 : Memref sig .tc .vmem S2048 .f32) (gV m c) ∗ atPos ER (dC c (loS 3 2)) 1 ∅ 0 ∗ ownsAny (F := F) c (ocM 3) ∗ Fly m c 3 6 ∗ Rdy m c 0 7 ∗ Rdy m c 1 7 ∗ Rdy m c 2 7 ∗ ow (F := F) c (due 35)) -∗ Q ⟨c, v2, v24, v27⟩)
          -∗ WP c (k0_part36 (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14) Q) := by
  rw [k0_part36_eq_skeleton]; unfold k0_part36_skel
  iintro ⟨#HR, Htb0, Htb1, Htb2, Hld, Hou0, Hou1, Hou2, Hou3, Hcb, Hab, HaX0, HaP0, HgR0, Htps0, Htpr0, Haps0, Hapr0, Hcpr0, Htlo00, Halo00, Htlo01, Halo01, Htlo02, Halo02, Hpc0, Hrc0, Hoc0, Hor0, Hst0, HaX2, HaP2, HgR2, Htps1, Htpr1, Haps1, Hapr1, Hcpr1, Htlo20, Halo20, Htlo21, Halo21, Htlo22, Halo22, Hpc2, Hrc2, Hoc2, Hor2, Hst2, HaX1, HaP1, HgR1, Htps2, Htpr2, Haps2, Hapr2, Hcpr2, Htlo10, Halo10, Htlo11, Halo11, Htlo12, Halo12, Hpc1, Hrc1, Hoc1, Hor1, Hst1, HaX3, HaP3, HgR3, Htps3, Htpr3, Haps3, Hapr3, Hcpr3, Htlo30, Halo30, Htlo31, Halo31, Htlo32, Halo32, Hpc3, Hrc3, Hoc3, Hor3, Hst3, Hg, HO⟩ Hk
  iapply (bind_step c)
  iapply (part1 c)
  iintro %v2 %v5 %v8 %v11 %v12 %v19 %v22 %v24 %v27 %v28 %v30 %w
  try dsimp only
  iapply (bind_step c)
  iapply (part2 m K c _ _ _ _ _ _ _ _ _ _ _) $$ [HO Htb0 Hld Htb1 Hou2 Hou3 Htb2 Hou0 Hou1 Hcb Hab]
  · isplitr; · iexact HR
    isplitl [HO]; · iexact HO
    isplitl [Htb0]; · iexact Htb0
    isplitl [Hld]; · iexact Hld
    isplitl [Htb1]; · iexact Htb1
    isplitl [Hou2]; · iexact Hou2
    isplitl [Hou3]; · iexact Hou3
    isplitl [Htb2]; · iexact Htb2
    isplitl [Hou0]; · iexact Hou0
    isplitl [Hou1]; · iexact Hou1
    isplitl [Hcb]; · iexact Hcb
    iexact Hab
  iintro ⟨HO, Hab, Hlx, Hnu0, Hnu1, Hnu2, Hnu3⟩
  try dsimp only
  unfold lands
  icases Hlx with ⟨Hlx0, Hlx1, Hlx2, Hlx3⟩
  ihave Hst0 := (str0 m c) $$ [Hst0 Hnu0]
  · isplitl [Hst0]; · iexact Hst0
    iexact Hnu0
  ihave Hst1 := (str1 m c) $$ [Hst1 Hnu1]
  · isplitl [Hst1]; · iexact Hst1
    iexact Hnu1
  ihave Hst2 := (str2 m c) $$ [Hst2 Hnu2]
  · isplitl [Hst2]; · iexact Hst2
    iexact Hnu2
  ihave Hst3 := (str3 m c) $$ [Hst3 Hnu3]
  · isplitl [Hst3]; · iexact Hst3
    iexact Hnu3
  iapply (bind_step c)
  iapply (part3 m K c _ _ _ _) $$ [HaX0 Hlx0 HO Htps0 Htpr0 HaX2 Hlx2 Htps1 Htpr1 HaX1 Hlx1 Htps2 Htpr2]
  · isplitr; · iexact HR
    isplitl [HaX0]; · iexact HaX0
    isplitl [Hlx0]; · iexact Hlx0
    isplitl [HO]; · iexact HO
    isplitl [Htps0]; · iexact Htps0
    isplitl [Htpr0]; · iexact Htpr0
    isplitl [HaX2]; · iexact HaX2
    isplitl [Hlx2]; · iexact Hlx2
    isplitl [Htps1]; · iexact Htps1
    isplitl [Htpr1]; · iexact Htpr1
    isplitl [HaX1]; · iexact HaX1
    isplitl [Hlx1]; · iexact Hlx1
    isplitl [Htps2]; · iexact Htps2
    iexact Htpr2
  iintro %r ⟨Hcps0, Hcps1, Hcps2, HO⟩
  try dsimp only
  iapply (bind_step c)
  iapply (part4 m K c _ _ _ _) $$ [HaX3 Hlx3 HO Htps3 Htpr3 HaP0 Hpc0 Htlo00 HgR0 Hrc0 Htlo01 HaP1 Hpc1 Htlo10]
  · isplitr; · iexact HR
    isplitl [HaX3]; · iexact HaX3
    isplitl [Hlx3]; · iexact Hlx3
    isplitl [HO]; · iexact HO
    isplitl [Htps3]; · iexact Htps3
    isplitl [Htpr3]; · iexact Htpr3
    isplitl [HaP0]; · iexact HaP0
    isplitl [Hpc0]; · iexact Hpc0
    isplitl [Htlo00]; · iexact Htlo00
    isplitl [HgR0]; · iexact HgR0
    isplitl [Hrc0]; · iexact Hrc0
    isplitl [Htlo01]; · iexact Htlo01
    isplitl [HaP1]; · iexact HaP1
    isplitl [Hpc1]; · iexact Hpc1
    iexact Htlo10
  iintro ⟨Hcps3, HO, Hclo00, Hclo01, Hclo10⟩
  try dsimp only
  iapply (bind_step c)
  iapply (part5 m K c _) $$ [HgR1 Hrc1 Htlo11 HaP2 Hpc2 Htlo20 HgR2 Hrc2 Htlo21 HaP3 Hpc3 Htlo30]
  · isplitr; · iexact HR
    isplitl [HgR1]; · iexact HgR1
    isplitl [Hrc1]; · iexact Hrc1
    isplitl [Htlo11]; · iexact Htlo11
    isplitl [HaP2]; · iexact HaP2
    isplitl [Hpc2]; · iexact Hpc2
    isplitl [Htlo20]; · iexact Htlo20
    isplitl [HgR2]; · iexact HgR2
    isplitl [Hrc2]; · iexact Hrc2
    isplitl [Htlo21]; · iexact Htlo21
    isplitl [HaP3]; · iexact HaP3
    isplitl [Hpc3]; · iexact Hpc3
    iexact Htlo30
  iintro ⟨Hclo11, Hclo20, Hclo21, Hclo30⟩
  try dsimp only
  iapply (bind_step c)
  iapply (part6 m K c _ _ _) $$ [HgR3 Hrc3 Htlo31 Hcps0 HO Haps0 Hcpr0 Hapr0 Hclo00 Halo00]
  · isplitr; · iexact HR
    isplitl [HgR3]; · iexact HgR3
    isplitl [Hrc3]; · iexact Hrc3
    isplitl [Htlo31]; · iexact Htlo31
    isplitl [Hcps0]; · iexact Hcps0
    isplitl [HO]; · iexact HO
    isplitl [Haps0]; · iexact Haps0
    isplitl [Hcpr0]; · iexact Hcpr0
    isplitl [Hapr0]; · iexact Hapr0
    isplitl [Hclo00]; · iexact Hclo00
    iexact Halo00
  iintro ⟨Hclo31, Haps0, Hapr0, Hpr0, HO, Halo00, Hpc0⟩
  try dsimp only
  iapply (bind_step c)
  iapply (part7 m K c) $$ [Hclo01 HO Halo01 Hpc0 Hpr0 Hg Hoc0 Hor0 Htlo02]
  · isplitr; · iexact HR
    isplitl [Hclo01]; · iexact Hclo01
    isplitl [HO]; · iexact HO
    isplitl [Halo01]; · iexact Halo01
    isplitl [Hpc0]; · iexact Hpc0
    isplitl [Hpr0]; · iexact Hpr0
    isplitl [Hg]; · iexact Hg
    isplitl [Hoc0]; · iexact Hoc0
    isplitl [Hor0]; · iexact Hor0
    iexact Htlo02
  iintro ⟨HO, Halo01, Hpc0, Hpr0, Hrc0, Hg, Hclo02⟩
  try dsimp only
  iapply (bind_step c)
  iapply (part8 m K c _ _ _ _ _ _ _) $$ [Hclo02 HO Halo02 Hst0 Hcps1 Haps1 Hcpr1 Hapr1]
  · isplitr; · iexact HR
    isplitl [Hclo02]; · iexact Hclo02
    isplitl [HO]; · iexact HO
    isplitl [Halo02]; · iexact Halo02
    isplitl [Hst0]; · iexact Hst0
    isplitl [Hcps1]; · iexact Hcps1
    isplitl [Haps1]; · iexact Haps1
    isplitl [Hcpr1]; · iexact Hcpr1
    iexact Hapr1
  iintro ⟨Halo02, Hoc0, Hst0, Haps1, HO, Hapr1, Hpr2⟩
  try dsimp only
  iapply (bind_step c)
  iapply (part9 m K c) $$ [Hclo20 HO Halo20 Hclo21 Halo21 Hpr2 Hg]
  · isplitr; · iexact HR
    isplitl [Hclo20]; · iexact Hclo20
    isplitl [HO]; · iexact HO
    isplitl [Halo20]; · iexact Halo20
    isplitl [Hclo21]; · iexact Hclo21
    isplitl [Halo21]; · iexact Halo21
    isplitl [Hpr2]; · iexact Hpr2
    iexact Hg
  iintro ⟨Halo20, HO, Halo21, Hpc2, Hpr2, Hrc2, Hg⟩
  try dsimp only
  iapply (bind_step c)
  iapply (part10 m K c _ _ _ _) $$ [Hoc2 Hor2 Htlo22 HO Halo22 Hst2 Hcps2 Haps2]
  · isplitr; · iexact HR
    isplitl [Hoc2]; · iexact Hoc2
    isplitl [Hor2]; · iexact Hor2
    isplitl [Htlo22]; · iexact Htlo22
    isplitl [HO]; · iexact HO
    isplitl [Halo22]; · iexact Halo22
    isplitl [Hst2]; · iexact Hst2
    isplitl [Hcps2]; · iexact Hcps2
    iexact Haps2
  iintro ⟨Halo22, Hoc2, Hst2, HO, Haps2⟩
  try dsimp only
  iapply (bind_step c)
  iapply (part11 m K c _ _ _) $$ [Hcpr2 HO Hapr2 Hclo10 Halo10 Hclo11 Halo11]
  · isplitr; · iexact HR
    isplitl [Hcpr2]; · iexact Hcpr2
    isplitl [HO]; · iexact HO
    isplitl [Hapr2]; · iexact Hapr2
    isplitl [Hclo10]; · iexact Hclo10
    isplitl [Halo10]; · iexact Halo10
    isplitl [Hclo11]; · iexact Hclo11
    iexact Halo11
  iintro ⟨Hapr2, Halo10, HO, Halo11, Hpc1, Hpr1, Hrc1⟩
  try dsimp only
  iapply (bind_step c)
  iapply (part12 m K c _ _ _) $$ [Hg Hoc1 Hor1 Htlo12 HO Halo12]
  · isplitr; · iexact HR
    isplitl [Hg]; · iexact Hg
    isplitl [Hoc1]; · iexact Hoc1
    isplitl [Hor1]; · iexact Hor1
    isplitl [Htlo12]; · iexact Htlo12
    isplitl [HO]; · iexact HO
    iexact Halo12
  iintro %r ⟨Hg, HO, Halo12, Hor1, Hoc1⟩
  obtain ⟨w0, w1⟩ := r
  try dsimp only
  iapply (bind_step c)
  iapply (part13 m K c _ _ _ _ _ _) $$ [Hor1 Hst1 HO Hcps3 Haps3 Hcpr3 Hapr3 Hclo30 Halo30]
  · isplitr; · iexact HR
    isplitl [Hor1]; · iexact Hor1
    isplitl [Hst1]; · iexact Hst1
    isplitl [HO]; · iexact HO
    isplitl [Hcps3]; · iexact Hcps3
    isplitl [Haps3]; · iexact Haps3
    isplitl [Hcpr3]; · iexact Hcpr3
    isplitl [Hapr3]; · iexact Hapr3
    isplitl [Hclo30]; · iexact Hclo30
    iexact Halo30
  iintro ⟨Hst1, Haps3, Hapr3, Hpr3, HO, Halo30, Hpc3⟩
  try dsimp only
  iapply (bind_step c)
  iapply (part14 m K c) $$ [Hclo31 HO Halo31 Hpc3 Hpr3 Hg Hoc3 Hor3 Htlo32]
  · isplitr; · iexact HR
    isplitl [Hclo31]; · iexact Hclo31
    isplitl [HO]; · iexact HO
    isplitl [Halo31]; · iexact Halo31
    isplitl [Hpc3]; · iexact Hpc3
    isplitl [Hpr3]; · iexact Hpr3
    isplitl [Hg]; · iexact Hg
    isplitl [Hoc3]; · iexact Hoc3
    isplitl [Hor3]; · iexact Hor3
    iexact Htlo32
  iintro ⟨HO, Halo31, Hpc3, Hpr3, Hrc3, Hg, Hclo32⟩
  try dsimp only
  iapply (bind_step c)
  iapply (part15 m K c _ _ _ _ _) $$ [Hclo32 HO Halo32 Hst3 Hst0]
  · isplitr; · iexact HR
    isplitl [Hclo32]; · iexact Hclo32
    isplitl [HO]; · iexact HO
    isplitl [Halo32]; · iexact Halo32
    isplitl [Hst3]; · iexact Hst3
    iexact Hst0
  iintro %r ⟨Halo32, Hoc3, Hst3, Hst0, HO⟩
  obtain ⟨w0, w1, w2, w3⟩ := r
  try dsimp only
  iapply (bind_step c)
  iapply (part16 m K c _ _ _ _ _ _) $$ [Hst0 HO Hst1]
  · isplitr; · iexact HR
    isplitl [Hst0]; · iexact Hst0
    isplitl [HO]; · iexact HO
    iexact Hst1
  iintro ⟨Hst0, Hst1, HO⟩
  try dsimp only
  iapply (bind_step c)
  iapply (part17 m K c _ _ _ _ _ _) $$ [Hst1 HO Hst2]
  · isplitr; · iexact HR
    isplitl [Hst1]; · iexact Hst1
    isplitl [HO]; · iexact HO
    iexact Hst2
  iintro ⟨Hst1, Hst2, HO⟩
  try dsimp only
  iapply (bind_step c)
  iapply (part18 m K c _ _ _ _ _) $$ [Hst2 HO Hst3]
  · isplitr; · iexact HR
    isplitl [Hst2]; · iexact Hst2
    isplitl [HO]; · iexact HO
    iexact Hst3
  iintro %r ⟨Hst2, Hst3, HO⟩
  obtain ⟨w0, w1, w2⟩ := r
  try dsimp only
  iapply (bind_step c)
  iapply (part19 m K c _ _ _ _ _ _) $$ [Hst0 HO Hst1]
  · isplitr; · iexact HR
    isplitl [Hst0]; · iexact Hst0
    isplitl [HO]; · iexact HO
    iexact Hst1
  iintro %r ⟨Hst0, Hst1, HO⟩
  obtain ⟨w0, w1⟩ := r
  try dsimp only
  iapply (bind_step c)
  iapply (part20 m K c _ _ _ _ _ _ _ _) $$ [Hst1 HO Hst2]
  · isplitr; · iexact HR
    isplitl [Hst1]; · iexact Hst1
    isplitl [HO]; · iexact HO
    iexact Hst2
  iintro ⟨Hst1, Hst2, HO⟩
  try dsimp only
  iapply (bind_step c)
  iapply (part21 m K c _ _ _ _) $$ [Hst2 HO Hst3]
  · isplitr; · iexact HR
    isplitl [Hst2]; · iexact Hst2
    isplitl [HO]; · iexact HO
    iexact Hst3
  iintro ⟨Hst2, Hst3, HO⟩
  try dsimp only
  iapply (bind_step c)
  iapply (part22 m K c _ _ _ _) $$ [Hst3 HO Hst0]
  · isplitr; · iexact HR
    isplitl [Hst3]; · iexact Hst3
    isplitl [HO]; · iexact HO
    iexact Hst0
  iintro %r ⟨Hst3, Hst0, HO⟩
  obtain ⟨w0, w1⟩ := r
  try dsimp only
  iapply (bind_step c)
  iapply (part23 m K c _ _ _ _) $$ [Hst0 HO Hst1 Hst2]
  · isplitr; · iexact HR
    isplitl [Hst0]; · iexact Hst0
    isplitl [HO]; · iexact HO
    isplitl [Hst1]; · iexact Hst1
    iexact Hst2
  iintro %r ⟨Hst0, Hst1, Hst2, HO⟩
  obtain ⟨w0, w1⟩ := r
  try dsimp only
  iapply (bind_step c)
  iapply (part24 m K c _ _ _ _ _ _) $$ [Hst2 HO Hst3]
  · isplitr; · iexact HR
    isplitl [Hst2]; · iexact Hst2
    isplitl [HO]; · iexact HO
    iexact Hst3
  iintro %r ⟨Hst2, Hst3, HO⟩
  try dsimp only
  iapply (bind_step c)
  iapply (part25 m K c _ _ _ _ _ _ _ _) $$ [Hst3 HO Hst0]
  · isplitr; · iexact HR
    isplitl [Hst3]; · iexact Hst3
    isplitl [HO]; · iexact HO
    iexact Hst0
  iintro %r ⟨Hst3, Hst0, HO⟩
  obtain ⟨w0, w1⟩ := r
  try dsimp only
  iapply (bind_step c)
  iapply (part26 m K c _ _ _ _) $$ [Hst0 HO Hst1]
  · isplitr; · iexact HR
    isplitl [Hst0]; · iexact Hst0
    isplitl [HO]; · iexact HO
    iexact Hst1
  iintro ⟨Hst0, Hst1, HO⟩
  try dsimp only
  iapply (bind_step c)
  iapply (part27 m K c _ _ _ _) $$ [Hst1 HO Hst2 Hst3]
  · isplitr; · iexact HR
    isplitl [Hst1]; · iexact Hst1
    isplitl [HO]; · iexact HO
    isplitl [Hst2]; · iexact Hst2
    iexact Hst3
  iintro %r ⟨Hst1, Hst2, Hst3, HO⟩
  try dsimp only
  iapply (bind_step c)
  iapply (part28 m K c _ _ _ _ _ _) $$ [Hst3 HO Hst0]
  · isplitr; · iexact HR
    isplitl [Hst3]; · iexact Hst3
    isplitl [HO]; · iexact HO
    iexact Hst0
  iintro %r ⟨Hst3, Hst0, HO⟩
  obtain ⟨w0, w1, w2⟩ := r
  try dsimp only
  iapply (bind_step c)
  iapply (part29 m K c _ _ _ _ _) $$ [Hst0 HO Hst1]
  · isplitr; · iexact HR
    isplitl [Hst0]; · iexact Hst0
    isplitl [HO]; · iexact HO
    iexact Hst1
  iintro ⟨Hst0, Hst1, HO⟩
  try dsimp only
  iapply (bind_step c)
  iapply (part30 m K c _ _ _ _ _ _ _) $$ [Hst1 HO Hst2]
  · isplitr; · iexact HR
    isplitl [Hst1]; · iexact Hst1
    isplitl [HO]; · iexact HO
    iexact Hst2
  iintro ⟨Hst1, Hst2, HO⟩
  try dsimp only
  iapply (bind_step c)
  iapply (part31 m K c _ _ _ _ _) $$ [Hst2 HO Hst3]
  · isplitr; · iexact HR
    isplitl [Hst2]; · iexact Hst2
    isplitl [HO]; · iexact HO
    iexact Hst3
  iintro %r ⟨Hst2, Hst3, HO⟩
  obtain ⟨w0, w1⟩ := r
  try dsimp only
  iapply (bind_step c)
  iapply (part32 m K c _ _ _ _ _ _) $$ [Hst0 HO Hst1]
  · isplitr; · iexact HR
    isplitl [Hst0]; · iexact Hst0
    isplitl [HO]; · iexact HO
    iexact Hst1
  iintro %r ⟨Hst0, Hst1, HO⟩
  try dsimp only
  iapply (bind_step c)
  iapply (part33 m K c _ _ _ _ _ _) $$ [Hst1 HO Hst2]
  · isplitr; · iexact HR
    isplitl [Hst1]; · iexact Hst1
    isplitl [HO]; · iexact HO
    iexact Hst2
  iintro ⟨Hst1, Hst2, HO⟩
  try dsimp only
  iapply (bind_step c)
  iapply (part34 m K c _ _ _ _) $$ [Hst2 HO Hst3]
  · isplitr; · iexact HR
    isplitl [Hst2]; · iexact Hst2
    isplitl [HO]; · iexact HO
    iexact Hst3
  iintro ⟨Hst2, Hst3, HO⟩
  try dsimp only
  iapply (bind_step c)
  iapply (part35 m K c _ _ _) $$ [Hst3 HO Hst0 Hst1]
  · isplitr; · iexact HR
    isplitl [Hst3]; · iexact Hst3
    isplitl [HO]; · iexact HO
    isplitl [Hst0]; · iexact Hst0
    iexact Hst1
  iintro ⟨Hst3, Hst0, Hst1, HO⟩
  try dsimp only
  simp only [Prog.lift, Prog.bind_op, Prog.bind_ret, Prog.pure_eq_ret, sw_ss2, sw_rr26]
  iapply (hop_waitS m K c 2 6 (by decide) (due 35) (by decide) rfl) $$ [Hst2 HO]
  · isplitr; · iexact HR
    isplitl [Hst2]; · iexact Hst2
    iexact HO
  iintro ⟨Hst2, HO⟩
  iapply (hop_waitR m K c 2 6 (by decide) (due 35) (by decide) rfl) $$ [Hst2 HO]
  · isplitr; · iexact HR
    isplitl [Hst2]; · iexact Hst2
    iexact HO
  iintro ⟨Hst2, HO⟩
  iapply (ret_wp c)
  iapply Hk
  isplitl [Hab]; · iexact Hab
  isplitl [Haps0]; · iexact Haps0
  isplitl [Hapr0]; · iexact Hapr0
  isplitl [Halo00]; · iexact Halo00
  isplitl [Halo01]; · iexact Halo01
  isplitl [Hpc0]; · iexact Hpc0
  isplitl [Hpr0]; · iexact Hpr0
  isplitl [Hrc0]; · iexact Hrc0
  isplitl [Halo02]; · iexact Halo02
  isplitl [Hoc0]; · iexact Hoc0
  isplitl [Haps1]; · iexact Haps1
  isplitl [Hapr1]; · iexact Hapr1
  isplitl [Halo20]; · iexact Halo20
  isplitl [Halo21]; · iexact Halo21
  isplitl [Hpc2]; · iexact Hpc2
  isplitl [Hpr2]; · iexact Hpr2
  isplitl [Hrc2]; · iexact Hrc2
  isplitl [Halo22]; · iexact Halo22
  isplitl [Hoc2]; · iexact Hoc2
  isplitl [Haps2]; · iexact Haps2
  isplitl [Hapr2]; · iexact Hapr2
  isplitl [Halo10]; · iexact Halo10
  isplitl [Halo11]; · iexact Halo11
  isplitl [Hpc1]; · iexact Hpc1
  isplitl [Hpr1]; · iexact Hpr1
  isplitl [Hrc1]; · iexact Hrc1
  isplitl [Halo12]; · iexact Halo12
  isplitl [Hoc1]; · iexact Hoc1
  isplitl [Haps3]; · iexact Haps3
  isplitl [Hapr3]; · iexact Hapr3
  isplitl [Halo30]; · iexact Halo30
  isplitl [Halo31]; · iexact Halo31
  isplitl [Hpc3]; · iexact Hpc3
  isplitl [Hpr3]; · iexact Hpr3
  isplitl [Hrc3]; · iexact Hrc3
  isplitl [Hg]; · iexact Hg
  isplitl [Halo32]; · iexact Halo32
  isplitl [Hoc3]; · iexact Hoc3
  isplitl [Hst3]; · iexact Hst3
  isplitl [Hst0]; · iexact Hst0
  isplitl [Hst1]; · iexact Hst1
  isplitl [Hst2]; · iexact Hst2
  iexact HO

/-- The body. -/
theorem body {Q : PUnit → sProp 𝕄} :
    iprop(recs m K ∗ dutyTok ER (barC (xp c)) 0 (0 : Fin 3) ∗ dutyTok ER (barC (rgt c)) 0 (2 : Fin 3) ∗ dutyTok ER (barC (lft c)) 0 (1 : Fin 3) ∗ lands (F := F) c ∗ outs (F := F) c 0 ∗ outs (F := F) c 1 ∗ outs (F := F) c 2 ∗ outs (F := F) c 3 ∗ cred (tallyAt (barC c) () 3) ∗ atPos ER (barC c) 0 ∅ 0 ∗ owns (c : Thread nD τ) (aM (rid c) 0) (shr 0) (pV m c 0) ∗ owns (c : Thread nD τ) (aM (rid c) 0) (shr 4) (pV m c 0) ∗ owns (c : Thread nD τ) (gM (rid c) 0) (shr 0) (rV m c 0) ∗ dutyTok ER (dC c (psS 0)) 0 (0 : Fin 3) ∗ dutyTok ER (dC (xp c) (prS 0)) 0 (0 : Fin 3) ∗ atPos ER (dC c (psS 0)) 0 ∅ 0 ∗ atPos ER (dC c (prS 0)) 0 ∅ 0 ∗ cred (tallyAt (dC c (prS 0)) () N) ∗ dutyTok ER (dC c (loS 0 0)) 0 (0 : Fin 3) ∗ atPos ER (dC c (loS 0 0)) 0 ∅ 0 ∗ dutyTok ER (dC c (loS 0 1)) 0 (0 : Fin 3) ∗ atPos ER (dC c (loS 0 1)) 0 ∅ 0 ∗ dutyTok ER (dC c (loS 0 2)) 0 (0 : Fin 3) ∗ atPos ER (dC c (loS 0 2)) 0 ∅ 0 ∗ ownsAny (F := F) c (pcM 0) ∗ ownsAny (F := F) c (rcM 0) ∗ ownsAny (F := F) c (ocM 0) ∗ ownsAny (F := F) c (oM (rid c) 0) ∗ Seed (F := F) c 0 ∗ owns (c : Thread nD τ) (aM (rid c) 2) (shr 2) (pV m c 2) ∗ owns (c : Thread nD τ) (aM (rid c) 2) (shr 6) (pV m c 2) ∗ owns (c : Thread nD τ) (gM (rid c) 2) (shr 2) (rV m c 2) ∗ dutyTok ER (dC c (psS 1)) 0 (0 : Fin 3) ∗ dutyTok ER (dC (xp c) (prS 1)) 0 (0 : Fin 3) ∗ atPos ER (dC c (psS 1)) 0 ∅ 0 ∗ atPos ER (dC c (prS 1)) 0 ∅ 0 ∗ cred (tallyAt (dC c (prS 1)) () N) ∗ dutyTok ER (dC c (loS 2 0)) 0 (0 : Fin 3) ∗ atPos ER (dC c (loS 2 0)) 0 ∅ 0 ∗ dutyTok ER (dC c (loS 2 1)) 0 (0 : Fin 3) ∗ atPos ER (dC c (loS 2 1)) 0 ∅ 0 ∗ dutyTok ER (dC c (loS 2 2)) 0 (0 : Fin 3) ∗ atPos ER (dC c (loS 2 2)) 0 ∅ 0 ∗ ownsAny (F := F) c (pcM 2) ∗ ownsAny (F := F) c (rcM 2) ∗ ownsAny (F := F) c (ocM 2) ∗ ownsAny (F := F) c (oM (rid c) 2) ∗ Seed (F := F) c 2 ∗ owns (c : Thread nD τ) (aM (rid c) 1) (shr 1) (pV m c 1) ∗ owns (c : Thread nD τ) (aM (rid c) 1) (shr 5) (pV m c 1) ∗ owns (c : Thread nD τ) (gM (rid c) 1) (shr 1) (rV m c 1) ∗ dutyTok ER (dC c (psS 2)) 0 (0 : Fin 3) ∗ dutyTok ER (dC (xp c) (prS 2)) 0 (0 : Fin 3) ∗ atPos ER (dC c (psS 2)) 0 ∅ 0 ∗ atPos ER (dC c (prS 2)) 0 ∅ 0 ∗ cred (tallyAt (dC c (prS 2)) () N) ∗ dutyTok ER (dC c (loS 1 0)) 0 (0 : Fin 3) ∗ atPos ER (dC c (loS 1 0)) 0 ∅ 0 ∗ dutyTok ER (dC c (loS 1 1)) 0 (0 : Fin 3) ∗ atPos ER (dC c (loS 1 1)) 0 ∅ 0 ∗ dutyTok ER (dC c (loS 1 2)) 0 (0 : Fin 3) ∗ atPos ER (dC c (loS 1 2)) 0 ∅ 0 ∗ ownsAny (F := F) c (pcM 1) ∗ ownsAny (F := F) c (rcM 1) ∗ ownsAny (F := F) c (ocM 1) ∗ ownsAny (F := F) c (oM (rid c) 1) ∗ Seed (F := F) c 1 ∗ owns (c : Thread nD τ) (aM (rid c) 3) (shr 3) (pV m c 3) ∗ owns (c : Thread nD τ) (aM (rid c) 3) (shr 7) (pV m c 3) ∗ owns (c : Thread nD τ) (gM (rid c) 3) (shr 3) (rV m c 3) ∗ dutyTok ER (dC c (psS 3)) 0 (0 : Fin 3) ∗ dutyTok ER (dC (xp c) (prS 3)) 0 (0 : Fin 3) ∗ atPos ER (dC c (psS 3)) 0 ∅ 0 ∗ atPos ER (dC c (prS 3)) 0 ∅ 0 ∗ cred (tallyAt (dC c (prS 3)) () N) ∗ dutyTok ER (dC c (loS 3 0)) 0 (0 : Fin 3) ∗ atPos ER (dC c (loS 3 0)) 0 ∅ 0 ∗ dutyTok ER (dC c (loS 3 1)) 0 (0 : Fin 3) ∗ atPos ER (dC c (loS 3 1)) 0 ∅ 0 ∗ dutyTok ER (dC c (loS 3 2)) 0 (0 : Fin 3) ∗ atPos ER (dC c (loS 3 2)) 0 ∅ 0 ∗ ownsAny (F := F) c (pcM 3) ∗ ownsAny (F := F) c (rcM 3) ∗ ownsAny (F := F) c (ocM 3) ∗ ownsAny (F := F) c (oM (rid c) 3) ∗ Seed (F := F) c 3 ∗ ownsF c (Memref.whole cc0_stg0_0 : Memref sig .tc .vmem S2048 .f32) (gV m c) ∗ ow (F := F) c (due 0))
      ⊢ iprop(((atPos ER (barC c) 1 ∅ 0 ∗ atPos ER (dC c (psS 0)) 1 ∅ 0 ∗ atPos ER (dC c (prS 0)) 1 ∅ 0 ∗ atPos ER (dC c (loS 0 0)) 1 ∅ 0 ∗ atPos ER (dC c (loS 0 1)) 1 ∅ 0 ∗ ownsF c (pcM 0) (pV m c 0) ∗ ownsF c (prM 0) (pV m (xp c) 0) ∗ ownsF c (rcM 0) (rV m c 0) ∗ atPos ER (dC c (loS 0 2)) 1 ∅ 0 ∗ ownsAny (F := F) c (ocM 0) ∗ atPos ER (dC c (psS 1)) 1 ∅ 0 ∗ atPos ER (dC c (prS 1)) 1 ∅ 0 ∗ atPos ER (dC c (loS 2 0)) 1 ∅ 0 ∗ atPos ER (dC c (loS 2 1)) 1 ∅ 0 ∗ ownsF c (pcM 2) (pV m c 2) ∗ ownsF c (prM 2) (pV m (xp c) 2) ∗ ownsF c (rcM 2) (rV m c 2) ∗ atPos ER (dC c (loS 2 2)) 1 ∅ 0 ∗ ownsAny (F := F) c (ocM 2) ∗ atPos ER (dC c (psS 2)) 1 ∅ 0 ∗ atPos ER (dC c (prS 2)) 1 ∅ 0 ∗ atPos ER (dC c (loS 1 0)) 1 ∅ 0 ∗ atPos ER (dC c (loS 1 1)) 1 ∅ 0 ∗ ownsF c (pcM 1) (pV m c 1) ∗ ownsF c (prM 1) (pV m (xp c) 1) ∗ ownsF c (rcM 1) (rV m c 1) ∗ atPos ER (dC c (loS 1 2)) 1 ∅ 0 ∗ ownsAny (F := F) c (ocM 1) ∗ atPos ER (dC c (psS 3)) 1 ∅ 0 ∗ atPos ER (dC c (prS 3)) 1 ∅ 0 ∗ atPos ER (dC c (loS 3 0)) 1 ∅ 0 ∗ atPos ER (dC c (loS 3 1)) 1 ∅ 0 ∗ ownsF c (pcM 3) (pV m c 3) ∗ ownsF c (prM 3) (pV m (xp c) 3) ∗ ownsF c (rcM 3) (rV m c 3) ∗ ownsF c (Memref.whole cc0_stg0_0 : Memref sig .tc .vmem S2048 .f32) (gV m c) ∗ atPos ER (dC c (loS 3 2)) 1 ∅ 0 ∗ ownsAny (F := F) c (ocM 3) ∗ Rdy m c 0 7 ∗ Rdy m c 1 7 ∗ Rdy m c 2 7 ∗ Rdy m c 3 7 ∗ ow (F := F) c (due 35)) -∗ Q ⟨⟩)
          -∗ WP c (cc0_body (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14) Q) := by
  rw [cc0_body_eq_skeleton]; unfold cc0_body_skel
  iintro ⟨#HR, Htb0, Htb1, Htb2, Hld, Hou0, Hou1, Hou2, Hou3, Hcb, Hab, HaX0, HaP0, HgR0, Htps0, Htpr0, Haps0, Hapr0, Hcpr0, Htlo00, Halo00, Htlo01, Halo01, Htlo02, Halo02, Hpc0, Hrc0, Hoc0, Hor0, Hst0, HaX2, HaP2, HgR2, Htps1, Htpr1, Haps1, Hapr1, Hcpr1, Htlo20, Halo20, Htlo21, Halo21, Htlo22, Halo22, Hpc2, Hrc2, Hoc2, Hor2, Hst2, HaX1, HaP1, HgR1, Htps2, Htpr2, Haps2, Hapr2, Hcpr2, Htlo10, Halo10, Htlo11, Halo11, Htlo12, Halo12, Hpc1, Hrc1, Hoc1, Hor1, Hst1, HaX3, HaP3, HgR3, Htps3, Htpr3, Haps3, Hapr3, Hcpr3, Htlo30, Halo30, Htlo31, Halo31, Htlo32, Halo32, Hpc3, Hrc3, Hoc3, Hor3, Hst3, Hg, HO⟩ Hk
  iapply (bind_step c)
  iapply (part36 m K c) $$ [Htb0 Htb1 Htb2 Hld Hou0 Hou1 Hou2 Hou3 Hcb Hab HaX0 HaP0 HgR0 Htps0 Htpr0 Haps0 Hapr0 Hcpr0 Htlo00 Halo00 Htlo01 Halo01 Htlo02 Halo02 Hpc0 Hrc0 Hoc0 Hor0 Hst0 HaX2 HaP2 HgR2 Htps1 Htpr1 Haps1 Hapr1 Hcpr1 Htlo20 Halo20 Htlo21 Halo21 Htlo22 Halo22 Hpc2 Hrc2 Hoc2 Hor2 Hst2 HaX1 HaP1 HgR1 Htps2 Htpr2 Haps2 Hapr2 Hcpr2 Htlo10 Halo10 Htlo11 Halo11 Htlo12 Halo12 Hpc1 Hrc1 Hoc1 Hor1 Hst1 HaX3 HaP3 HgR3 Htps3 Htpr3 Haps3 Hapr3 Hcpr3 Htlo30 Halo30 Htlo31 Halo31 Htlo32 Halo32 Hpc3 Hrc3 Hoc3 Hor3 Hst3 Hg HO]
  · isplitr; · iexact HR
    isplitl [Htb0]; · iexact Htb0
    isplitl [Htb1]; · iexact Htb1
    isplitl [Htb2]; · iexact Htb2
    isplitl [Hld]; · iexact Hld
    isplitl [Hou0]; · iexact Hou0
    isplitl [Hou1]; · iexact Hou1
    isplitl [Hou2]; · iexact Hou2
    isplitl [Hou3]; · iexact Hou3
    isplitl [Hcb]; · iexact Hcb
    isplitl [Hab]; · iexact Hab
    isplitl [HaX0]; · iexact HaX0
    isplitl [HaP0]; · iexact HaP0
    isplitl [HgR0]; · iexact HgR0
    isplitl [Htps0]; · iexact Htps0
    isplitl [Htpr0]; · iexact Htpr0
    isplitl [Haps0]; · iexact Haps0
    isplitl [Hapr0]; · iexact Hapr0
    isplitl [Hcpr0]; · iexact Hcpr0
    isplitl [Htlo00]; · iexact Htlo00
    isplitl [Halo00]; · iexact Halo00
    isplitl [Htlo01]; · iexact Htlo01
    isplitl [Halo01]; · iexact Halo01
    isplitl [Htlo02]; · iexact Htlo02
    isplitl [Halo02]; · iexact Halo02
    isplitl [Hpc0]; · iexact Hpc0
    isplitl [Hrc0]; · iexact Hrc0
    isplitl [Hoc0]; · iexact Hoc0
    isplitl [Hor0]; · iexact Hor0
    isplitl [Hst0]; · iexact Hst0
    isplitl [HaX2]; · iexact HaX2
    isplitl [HaP2]; · iexact HaP2
    isplitl [HgR2]; · iexact HgR2
    isplitl [Htps1]; · iexact Htps1
    isplitl [Htpr1]; · iexact Htpr1
    isplitl [Haps1]; · iexact Haps1
    isplitl [Hapr1]; · iexact Hapr1
    isplitl [Hcpr1]; · iexact Hcpr1
    isplitl [Htlo20]; · iexact Htlo20
    isplitl [Halo20]; · iexact Halo20
    isplitl [Htlo21]; · iexact Htlo21
    isplitl [Halo21]; · iexact Halo21
    isplitl [Htlo22]; · iexact Htlo22
    isplitl [Halo22]; · iexact Halo22
    isplitl [Hpc2]; · iexact Hpc2
    isplitl [Hrc2]; · iexact Hrc2
    isplitl [Hoc2]; · iexact Hoc2
    isplitl [Hor2]; · iexact Hor2
    isplitl [Hst2]; · iexact Hst2
    isplitl [HaX1]; · iexact HaX1
    isplitl [HaP1]; · iexact HaP1
    isplitl [HgR1]; · iexact HgR1
    isplitl [Htps2]; · iexact Htps2
    isplitl [Htpr2]; · iexact Htpr2
    isplitl [Haps2]; · iexact Haps2
    isplitl [Hapr2]; · iexact Hapr2
    isplitl [Hcpr2]; · iexact Hcpr2
    isplitl [Htlo10]; · iexact Htlo10
    isplitl [Halo10]; · iexact Halo10
    isplitl [Htlo11]; · iexact Htlo11
    isplitl [Halo11]; · iexact Halo11
    isplitl [Htlo12]; · iexact Htlo12
    isplitl [Halo12]; · iexact Halo12
    isplitl [Hpc1]; · iexact Hpc1
    isplitl [Hrc1]; · iexact Hrc1
    isplitl [Hoc1]; · iexact Hoc1
    isplitl [Hor1]; · iexact Hor1
    isplitl [Hst1]; · iexact Hst1
    isplitl [HaX3]; · iexact HaX3
    isplitl [HaP3]; · iexact HaP3
    isplitl [HgR3]; · iexact HgR3
    isplitl [Htps3]; · iexact Htps3
    isplitl [Htpr3]; · iexact Htpr3
    isplitl [Haps3]; · iexact Haps3
    isplitl [Hapr3]; · iexact Hapr3
    isplitl [Hcpr3]; · iexact Hcpr3
    isplitl [Htlo30]; · iexact Htlo30
    isplitl [Halo30]; · iexact Halo30
    isplitl [Htlo31]; · iexact Htlo31
    isplitl [Halo31]; · iexact Halo31
    isplitl [Htlo32]; · iexact Htlo32
    isplitl [Halo32]; · iexact Halo32
    isplitl [Hpc3]; · iexact Hpc3
    isplitl [Hrc3]; · iexact Hrc3
    isplitl [Hoc3]; · iexact Hoc3
    isplitl [Hor3]; · iexact Hor3
    isplitl [Hst3]; · iexact Hst3
    isplitl [Hg]; · iexact Hg
    iexact HO
  iintro %v2 %v24 %v27 ⟨Hab, Haps0, Hapr0, Halo00, Halo01, Hpc0, Hpr0, Hrc0, Halo02, Hoc0, Haps1, Hapr1, Halo20, Halo21, Hpc2, Hpr2, Hrc2, Halo22, Hoc2, Haps2, Hapr2, Halo10, Halo11, Hpc1, Hpr1, Hrc1, Halo12, Hoc1, Haps3, Hapr3, Halo30, Halo31, Hpc3, Hpr3, Hrc3, Hg, Halo32, Hoc3, Hst3, Hst0, Hst1, Hst2, HO⟩
  try dsimp only
  simp only [Prog.lift, Prog.bind_op, Prog.bind_ret, Prog.pure_eq_ret, sw_ss3, sw_rr36]
  iapply (hop_waitS m K c 3 6 (by decide) (due 35) (by decide) rfl) $$ [Hst3 HO]
  · isplitr; · iexact HR
    isplitl [Hst3]; · iexact Hst3
    iexact HO
  iintro ⟨Hst3, HO⟩
  iapply (hop_waitR m K c 3 6 (by decide) (due 35) (by decide) rfl) $$ [Hst3 HO]
  · isplitr; · iexact HR
    isplitl [Hst3]; · iexact Hst3
    iexact HO
  iintro ⟨Hst3, HO⟩
  iapply (ret_wp c)
  iapply Hk
  isplitl [Hab]; · iexact Hab
  isplitl [Haps0]; · iexact Haps0
  isplitl [Hapr0]; · iexact Hapr0
  isplitl [Halo00]; · iexact Halo00
  isplitl [Halo01]; · iexact Halo01
  isplitl [Hpc0]; · iexact Hpc0
  isplitl [Hpr0]; · iexact Hpr0
  isplitl [Hrc0]; · iexact Hrc0
  isplitl [Halo02]; · iexact Halo02
  isplitl [Hoc0]; · iexact Hoc0
  isplitl [Haps1]; · iexact Haps1
  isplitl [Hapr1]; · iexact Hapr1
  isplitl [Halo20]; · iexact Halo20
  isplitl [Halo21]; · iexact Halo21
  isplitl [Hpc2]; · iexact Hpc2
  isplitl [Hpr2]; · iexact Hpr2
  isplitl [Hrc2]; · iexact Hrc2
  isplitl [Halo22]; · iexact Halo22
  isplitl [Hoc2]; · iexact Hoc2
  isplitl [Haps2]; · iexact Haps2
  isplitl [Hapr2]; · iexact Hapr2
  isplitl [Halo10]; · iexact Halo10
  isplitl [Halo11]; · iexact Halo11
  isplitl [Hpc1]; · iexact Hpc1
  isplitl [Hpr1]; · iexact Hpr1
  isplitl [Hrc1]; · iexact Hrc1
  isplitl [Halo12]; · iexact Halo12
  isplitl [Hoc1]; · iexact Hoc1
  isplitl [Haps3]; · iexact Haps3
  isplitl [Hapr3]; · iexact Hapr3
  isplitl [Halo30]; · iexact Halo30
  isplitl [Halo31]; · iexact Halo31
  isplitl [Hpc3]; · iexact Hpc3
  isplitl [Hpr3]; · iexact Hpr3
  isplitl [Hrc3]; · iexact Hrc3
  isplitl [Hg]; · iexact Hg
  isplitl [Halo32]; · iexact Halo32
  isplitl [Hoc3]; · iexact Hoc3
  isplitl [Hst0]; · iexact Hst0
  isplitl [Hst1]; · iexact Hst1
  isplitl [Hst2]; · iexact Hst2
  isplitl [Hst3]; · iexact Hst3
  iexact HO

end Body

end Cert.KernelIdeal.Ring

end
-- ==== Proof.Ideal.Mem.lean ====
/-
The kernel's buffers cut into the views its transfers move, and joined again at the end.
-/
module

public import proofs.«01_k».proof.Proof.Ideal.Body
public import Idealize.ShloMosaic.Lib.MemrefSat

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

variable (c : Dev nD)

/-! ## A view out of a whole buffer -/

omit [FloatOps F] in
/-- Of a whole buffer one keeps what a view reads. -/
theorem take_view {sp : Space} {s : Shape} {e : EltTy} (M : Memref sig .tc sp s e) (q : PosShare TreeShare)
    (f : Buf (Elt F) (M.view.loc (c : Thread nD τ))) :
    ((M.view.loc (c : Thread nD τ) ↦{q} f : sProp 𝕄)) ⊢ owns (c : Thread nD τ) M q (M.view.read (Elt F) f) := by
  refine (pointsTo_split_subset (Finset.subset_univ M.view.set)).1.trans ?_
  unfold owns
  iintro ⟨H, -⟩
  iexists f
  isplitr
  · ipureintro; rfl
  · iexact H

omit [FloatOps F] in
/-- A whole buffer held at a share is it held at the two halves of the share. -/
theorem halve (ℓ : Loc nD τ sig) (q : PosShare TreeShare) (f : Buf (Elt F) ℓ) :
    ((ℓ ↦{q} f : sProp 𝕄)) ⊢ iprop((ℓ ↦{q.left} f) ∗ ℓ ↦{q.right} f) :=
  (pointsTo_share (PosShare.mem_left_op_right q)).1

omit [FloatOps F] in
/-- The first of the chain of shares, and the rest. -/
theorem peel (ℓ : Loc nD τ sig) (n : ℕ) (f : Buf (Elt F) ℓ) :
    ((ℓ ↦{shR n} f : sProp 𝕄)) ⊢ iprop((ℓ ↦{shr n} f) ∗ ℓ ↦{shR (n + 1)} f) := halve ℓ (shR n) f

/-- The rows of `partial` the copies read, each at a share of its own, and half of the buffer kept. -/
theorem arg0_cut :
    (((c : Thread nD τ).loc main_arg0 ↦{fullShare} m ((c : Thread nD τ).loc main_arg0) : sProp 𝕄))
      ⊢ iprop(((c : Thread nD τ).loc main_arg0 ↦{fullShare.left} m ((c : Thread nD τ).loc main_arg0))
        ∗ owns (c : Thread nD τ) (aM (rid c) 0) (shr 0) (pV m c 0) ∗ owns (c : Thread nD τ) (aM (rid c) 1) (shr 1) (pV m c 1) ∗ owns (c : Thread nD τ) (aM (rid c) 2) (shr 2) (pV m c 2) ∗ owns (c : Thread nD τ) (aM (rid c) 3) (shr 3) (pV m c 3) ∗ owns (c : Thread nD τ) (aM (rid c) 0) (shr 4) (pV m c 0) ∗ owns (c : Thread nD τ) (aM (rid c) 1) (shr 5) (pV m c 1) ∗ owns (c : Thread nD τ) (aM (rid c) 2) (shr 6) (pV m c 2) ∗ owns (c : Thread nD τ) (aM (rid c) 3) (shr 7) (pV m c 3)) := by
  refine (halve _ _ _).trans ?_
  iintro ⟨H, R⟩
  isplitl [H]; · iexact H
  ihave R := (show ((((c : Thread nD τ).loc main_arg0 ↦{fullShare.right} m ((c : Thread nD τ).loc main_arg0) : sProp 𝕄))) ⊢ ((c : Thread nD τ).loc main_arg0 ↦{shR 0} m ((c : Thread nD τ).loc main_arg0)) from .rfl) $$ R
  ihave R := (peel _ 0 _) $$ R
  icases R with ⟨H0, R⟩
  ihave R := (peel _ 1 _) $$ R
  icases R with ⟨H1, R⟩
  ihave R := (peel _ 2 _) $$ R
  icases R with ⟨H2, R⟩
  ihave R := (peel _ 3 _) $$ R
  icases R with ⟨H3, R⟩
  ihave R := (peel _ 4 _) $$ R
  icases R with ⟨H4, R⟩
  ihave R := (peel _ 5 _) $$ R
  icases R with ⟨H5, R⟩
  ihave R := (peel _ 6 _) $$ R
  icases R with ⟨H6, R⟩
  ihave R := (peel _ 7 _) $$ R
  icases R with ⟨H7, R⟩
  isplitl [H0]; · iapply (take_view c (aM (rid c) 0) (shr 0) (m ((c : Thread nD τ).loc main_arg0))); iexact H0
  isplitl [H1]; · iapply (take_view c (aM (rid c) 1) (shr 1) (m ((c : Thread nD τ).loc main_arg0))); iexact H1
  isplitl [H2]; · iapply (take_view c (aM (rid c) 2) (shr 2) (m ((c : Thread nD τ).loc main_arg0))); iexact H2
  isplitl [H3]; · iapply (take_view c (aM (rid c) 3) (shr 3) (m ((c : Thread nD τ).loc main_arg0))); iexact H3
  isplitl [H4]; · iapply (take_view c (aM (rid c) 0) (shr 4) (m ((c : Thread nD τ).loc main_arg0))); iexact H4
  isplitl [H5]; · iapply (take_view c (aM (rid c) 1) (shr 5) (m ((c : Thread nD τ).loc main_arg0))); iexact H5
  isplitl [H6]; · iapply (take_view c (aM (rid c) 2) (shr 6) (m ((c : Thread nD τ).loc main_arg0))); iexact H6
  iapply (take_view c (aM (rid c) 3) (shr 7) (m ((c : Thread nD τ).loc main_arg0))); iexact H7

/-- The rows of `resid` the copies read, each at a share of its own, and half of the buffer kept. -/
theorem arg1_cut :
    (((c : Thread nD τ).loc main_arg1 ↦{fullShare} m ((c : Thread nD τ).loc main_arg1) : sProp 𝕄))
      ⊢ iprop(((c : Thread nD τ).loc main_arg1 ↦{fullShare.left} m ((c : Thread nD τ).loc main_arg1))
        ∗ owns (c : Thread nD τ) (gM (rid c) 0) (shr 0) (rV m c 0) ∗ owns (c : Thread nD τ) (gM (rid c) 1) (shr 1) (rV m c 1) ∗ owns (c : Thread nD τ) (gM (rid c) 2) (shr 2) (rV m c 2) ∗ owns (c : Thread nD τ) (gM (rid c) 3) (shr 3) (rV m c 3)) := by
  refine (halve _ _ _).trans ?_
  iintro ⟨H, R⟩
  isplitl [H]; · iexact H
  ihave R := (show ((((c : Thread nD τ).loc main_arg1 ↦{fullShare.right} m ((c : Thread nD τ).loc main_arg1) : sProp 𝕄))) ⊢ ((c : Thread nD τ).loc main_arg1 ↦{shR 0} m ((c : Thread nD τ).loc main_arg1)) from .rfl) $$ R
  ihave R := (peel _ 0 _) $$ R
  icases R with ⟨H0, R⟩
  ihave R := (peel _ 1 _) $$ R
  icases R with ⟨H1, R⟩
  ihave R := (peel _ 2 _) $$ R
  icases R with ⟨H2, R⟩
  ihave R := (peel _ 3 _) $$ R
  icases R with ⟨H3, R⟩
  isplitl [H0]; · iapply (take_view c (gM (rid c) 0) (shr 0) (m ((c : Thread nD τ).loc main_arg1))); iexact H0
  isplitl [H1]; · iapply (take_view c (gM (rid c) 1) (shr 1) (m ((c : Thread nD τ).loc main_arg1))); iexact H1
  isplitl [H2]; · iapply (take_view c (gM (rid c) 2) (shr 2) (m ((c : Thread nD τ).loc main_arg1))); iexact H2
  iapply (take_view c (gM (rid c) 3) (shr 3) (m ((c : Thread nD τ).loc main_arg1))); iexact H3

/-! ## The rectangles -/

theorem rO_disj (t t' : Fin 8 × Fin 4) (h : t ≠ t') : Disjoint (rO t.1 t.2).set (rO t'.1 t'.2).set := by
  refine Rect.unit_disjoint (0 : Fin 2) ?_
  show 1024 * t.1.val + 256 * t.2.val + 256 ≤ 1024 * t'.1.val + 256 * t'.2.val ∨ 1024 * t'.1.val + 256 * t'.2.val + 256 ≤ 1024 * t.1.val + 256 * t.2.val
  have h1 := t.2.isLt; have h2 := t'.2.isLt
  have h3 : t.1.val ≠ t'.1.val ∨ t.2.val ≠ t'.2.val := by
    by_contra hc
    push Not at hc
    exact h (Prod.ext (Fin.ext hc.1) (Fin.ext hc.2))
  omega

theorem rO_cov : (Finset.univ : Finset (Fin 8 × Fin 4)).biUnion (fun t => (rO t.1 t.2).set) = Finset.univ := by
  refine Finset.eq_univ_of_forall fun i => ?_
  have h0 : (i 0).val < 8192 := (i 0).isLt
  have h1 : (i 1).val < 2048 := (i 1).isLt
  refine Finset.mem_biUnion.mpr ⟨(⟨(i 0).val / 1024, by omega⟩, ⟨(i 0).val % 1024 / 256, by omega⟩), Finset.mem_univ _, ?_⟩
  refine Rect.mem_set_unit.mpr (Fin.forall_fin_two.mpr ⟨?_, ?_⟩)
  · show 1024 * ((i 0).val / 1024) + 256 * ((i 0).val % 1024 / 256) ≤ (i 0).val ∧ (i 0).val < 1024 * ((i 0).val / 1024) + 256 * ((i 0).val % 1024 / 256) + 256
    omega
  · show 0 ≤ (i 1).val ∧ (i 1).val < 0 + 2048
    omega

theorem rP_disj (t t' : Fin 4) (h : t ≠ t') : Disjoint (rP t).set (rP t').set := by
  refine Rect.unit_disjoint (0 : Fin 2) ?_
  show 256 * t.val + 256 ≤ 256 * t'.val ∨ 256 * t'.val + 256 ≤ 256 * t.val
  have h3 : t.val ≠ t'.val := fun hc => h (Fin.ext hc)
  omega

theorem rP_cov : (Finset.univ : Finset (Fin 4)).biUnion (fun t => (rP t).set) = Finset.univ := by
  refine Finset.eq_univ_of_forall fun i => ?_
  have h0 : (i 0).val < 1024 := (i 0).isLt
  have h1 : (i 1).val < 2048 := (i 1).isLt
  refine Finset.mem_biUnion.mpr ⟨⟨(i 0).val / 256, by omega⟩, Finset.mem_univ _, ?_⟩
  refine Rect.mem_set_unit.mpr (Fin.forall_fin_two.mpr ⟨?_, ?_⟩)
  · show 256 * ((i 0).val / 256) ≤ (i 0).val ∧ (i 0).val < 256 * ((i 0).val / 256) + 256
    omega
  · show 0 ≤ (i 1).val ∧ (i 1).val < 0 + 2048
    omega

theorem rC_disj (t t' : Fin 4) (h : t ≠ t') : Disjoint (rC t).set (rC t').set := by
  refine Rect.unit_disjoint (0 : Fin 3) ?_
  show t.val + 1 ≤ t'.val ∨ t'.val + 1 ≤ t.val
  have h3 : t.val ≠ t'.val := fun hc => h (Fin.ext hc)
  omega

theorem rC_cov : (Finset.univ : Finset (Fin 4)).biUnion (fun t => (rC t).set) = Finset.univ := by
  refine Finset.eq_univ_of_forall fun i => ?_
  have h0 : (i 0).val < 4 := (i 0).isLt
  have h1 : (i 1).val < 256 := (i 1).isLt
  have h2 : (i 2).val < 2048 := (i 2).isLt
  refine Finset.mem_biUnion.mpr ⟨⟨(i 0).val, h0⟩, Finset.mem_univ _, ?_⟩
  refine Rect.mem_set_unit.mpr fun a => ?_
  fin_cases a
  · show (i 0).val ≤ (i 0).val ∧ (i 0).val < (i 0).val + 1
    omega
  · show 0 ≤ (i 1).val ∧ (i 1).val < 0 + 256
    omega
  · show 0 ≤ (i 2).val ∧ (i 2).val < 0 + 2048
    omega

/-! ## Cutting and joining the buffers -/

omit [FloatOps F] in
/-- A view at known contents is one at contents nobody says. -/
theorem ownsAny_intro {sp : Space} {s : Shape} {e : EltTy} (M : Memref sig .tc sp s e) (X : s.Idx → Elt F e) :
    (ownsF (F := F) c M X) ⊢ ownsAny (F := F) c M := by
  iintro H
  iexists X
  iexact H

omit [FloatOps F] in
/-- A whole view is the parts of a covering family of disjoint rectangles, -/
theorem cut_any {sp : Space} {sh : Shape} {e : EltTy} (M : Memref sig .tc sp sh e) {T : Type} [Fintype T] [DecidableEq T] (r : T → Rect sh)
    (hr : ∀ t a, (r t).stride a = 1) (hd : ∀ t t', t ≠ t' → Disjoint (r t).set (r t').set)
    (hcov : (Finset.univ : Finset T).biUnion (fun t => (r t).set) = Finset.univ) :
    ownsAny (F := F) c M ⊢ bigSep Finset.univ fun t => ownsAny (F := F) c (M.slice (r t) (hr t)) := by
  iintro ⟨%X, H⟩
  iapply ((owns_rects (c : Thread nD τ) M fullShare r hr hd hcov X).trans
    (bigSep_mono fun t _ => ownsAny_intro c (M.slice (r t) (hr t)) _))
  iexact H

/-- and the parts at contents of their own are the whole at contents that give each part its own. -/
theorem join_of {sp : Space} {sh : Shape} {e : EltTy} (M : Memref sig .tc sp sh e) {T : Type} [Fintype T] [DecidableEq T] (r : T → Rect sh)
    (hr : ∀ t a, (r t).stride a = 1) (hd : ∀ t t', t ≠ t' → Disjoint (r t).set (r t').set)
    (hcov : (Finset.univ : Finset T).biUnion (fun t => (r t).set) = Finset.univ)
    (Xs : (t : T) → (r t).shape.Idx → Elt F e) :
    (bigSep Finset.univ fun t => ownsF (F := F) c (M.slice (r t) (hr t)) (Xs t)) ⊢ ownsF (F := F) c M (Rect.glue r hcov Xs) := by
  have hg (t : T) : (fun j => Rect.glue r hcov Xs ((r t).emb j)) = Xs t := funext fun y => Rect.glue_emb r hcov hd Xs t y
  have h := owns_of_rects (Ix := Unit) (Name := ℕ) (U := UU) (Lvl := ℕ) (Val := Elt F) (c : Thread nD τ) M fullShare r hr hd hcov (Rect.glue r hcov Xs)
  simp only [hg] at h
  exact h

/-- The parts at contents nobody says are the whole at such contents. -/
theorem join_any {sp : Space} {sh : Shape} {e : EltTy} (M : Memref sig .tc sp sh e) {T : Type} [Fintype T] [DecidableEq T] (r : T → Rect sh)
    (hr : ∀ t a, (r t).stride a = 1) (hd : ∀ t t', t ≠ t' → Disjoint (r t).set (r t').set)
    (hcov : (Finset.univ : Finset T).biUnion (fun t => (r t).set) = Finset.univ) :
    (bigSep Finset.univ fun t => ownsAny (F := F) c (M.slice (r t) (hr t))) ⊢ ownsAny (F := F) c M := by
  refine (BI.bigSep_exists_pi Finset.univ (fun t X => ownsF (F := F) c (M.slice (r t) (hr t)) X)).trans ?_
  iintro ⟨%Xs, H⟩
  iexists (Rect.glue r hcov Xs)
  iapply (join_of c M r hr hd hcov Xs)
  iexact H

omit [FloatOps F] in
/-- A view at contents nobody says is its elements at some contents. -/
theorem any_set {sp : Space} {s : Shape} {e : EltTy} (M : Memref sig .tc sp s e) :
    ownsAny (F := F) c M ⊢ (iprop(∃ f : Buf (Elt F) (M.view.loc (c : Thread nD τ)), M.view.loc (c : Thread nD τ) ↦[M.view.set]{fullShare} f) : sProp 𝕄) := by
  unfold ownsAny owns
  iintro ⟨%X, %f, -, H⟩
  iexists f
  iexact H
omit [FloatOps F] in
theorem set_any {sp : Space} {s : Shape} {e : EltTy} (M : Memref sig .tc sp s e) :
    (iprop(∃ f : Buf (Elt F) (M.view.loc (c : Thread nD τ)), M.view.loc (c : Thread nD τ) ↦[M.view.set]{fullShare} f) : sProp 𝕄) ⊢ ownsAny (F := F) c M := by
  unfold ownsAny owns
  iintro ⟨%f, H⟩
  iexists (M.view.read (Elt F) f)
  iexists f
  isplitr
  · ipureintro; rfl
  · iexact H

omit [FloatOps F] in
/-- A chunk seen without its leading axis of one is the same elements. -/
theorem squeeze_any (M : Memref sig .tc .vmem S4x256x2048 .f32) (q : Fin 4) :
    ownsAny (F := F) c (M.slice (rC q) (fun _ => rfl))
      ⊢ ownsAny (F := F) c ((M.slice (rC q) (fun _ => rfl)).squeeze S256x2048 squeezes_S1x256x2048_S256x2048) := by
  refine (any_set c _).trans (BIBase.Entails.trans ?_ (set_any c _))
  iintro ⟨%f, H⟩
  iexists f
  rw [show ((M.slice (rC q) (fun _ => rfl)).squeeze S256x2048 squeezes_S1x256x2048_S256x2048).view.set = (M.slice (rC q) (fun _ => rfl)).view.set from
    View.set_reshape (M.view.slice (rC q)) squeezes_S1x256x2048_S256x2048.numel_eq]
  iexact H
omit [FloatOps F] in
theorem unsqueeze_any (M : Memref sig .tc .vmem S4x256x2048 .f32) (q : Fin 4) :
    ownsAny (F := F) c ((M.slice (rC q) (fun _ => rfl)).squeeze S256x2048 squeezes_S1x256x2048_S256x2048)
      ⊢ ownsAny (F := F) c (M.slice (rC q) (fun _ => rfl)) := by
  refine (any_set c _).trans (BIBase.Entails.trans ?_ (set_any c _))
  iintro ⟨%f, H⟩
  iexists f
  rw [show (M.slice (rC q) (fun _ => rfl)).view.set = ((M.slice (rC q) (fun _ => rfl)).squeeze S256x2048 squeezes_S1x256x2048_S256x2048).view.set from
    (View.set_reshape (M.view.slice (rC q)) squeezes_S1x256x2048_S256x2048.numel_eq).symm]
  iexact H

omit [FloatOps F] in
/-- Four, one by one. -/
theorem four (Φ : Fin 4 → sProp 𝕄) : bigSep Finset.univ Φ = iprop(Φ 0 ∗ Φ 1 ∗ Φ 2 ∗ Φ 3) := by
  rw [bigSep_univ_eq_bigSepL [(0 : Fin 4), 1, 2, 3] (by decide) (by decide), bigSepL_cons_cons, bigSepL_cons_cons, bigSepL_cons_cons, bigSepL_singleton]
  rfl

omit [FloatOps F] in
/-- A buffer of four chunks is its chunks, -/
theorem chunks_cut (M : Memref sig .tc .vmem S4x256x2048 .f32) :
    ownsAny (F := F) c M ⊢ bigSep Finset.univ fun q : Fin 4 =>
      ownsAny (F := F) c ((M.slice (rC q) (fun _ => rfl)).squeeze S256x2048 squeezes_S1x256x2048_S256x2048) :=
  (cut_any c M rC (fun _ _ => rfl) rC_disj rC_cov).trans (bigSep_mono fun q _ => squeeze_any c M q)
/-- and its chunks are it. -/
theorem chunks_join (M : Memref sig .tc .vmem S4x256x2048 .f32) :
    (bigSep Finset.univ fun q : Fin 4 =>
      ownsAny (F := F) c ((M.slice (rC q) (fun _ => rfl)).squeeze S256x2048 squeezes_S1x256x2048_S256x2048)) ⊢ ownsAny (F := F) c M :=
  (bigSep_mono fun q _ => unsqueeze_any c M q).trans (join_any c M rC (fun _ _ => rfl) rC_disj rC_cov)

omit [FloatOps F] in
/-- The landing buffer is its quarters, -/
theorem lands_cut : ownsAny (F := F) c (Memref.whole cc0_scratch0) ⊢ lands (F := F) c :=
  (cut_any c (Memref.whole cc0_scratch0) rP (fun _ _ => rfl) rP_disj rP_cov).trans (Entails.of_eq (four _))
/-- and its quarters are it. -/
theorem lands_join : lands (F := F) c ⊢ ownsAny (F := F) c (Memref.whole cc0_scratch0) :=
  (Entails.of_eq (four (F := F) fun q => ownsAny (F := F) c (prM q)).symm).trans
    (join_any c (Memref.whole cc0_scratch0) rP (fun _ _ => rfl) rP_disj rP_cov)

/-! ## The result's rows -/

/-- A stream's blocks in the order it sends them. -/
def blkE (s : Fin 4) : Fin 8 ≃ Fin 8 :=
  Equiv.ofBijective (fun h => blk s c h.val) (Finite.injective_iff_bijective.mp (by
    intro h h' hh
    have hv := congrArg Fin.val hh
    apply Fin.ext
    have h1 := h.isLt; have h2 := h'.isLt; have h3 := (rid c).isLt
    unfold blk at hv
    dsimp only at hv
    split at hv <;> omega))

omit [FloatOps F] in
/-- A stream's eight blocks, its own first. -/
theorem blocks_eq (s : Fin 4) (Φ : Fin 8 → sProp 𝕄) :
    bigSep Finset.univ Φ = iprop(Φ (blk s c 0) ∗ Φ (blk s c 1) ∗ Φ (blk s c 2) ∗ Φ (blk s c 3) ∗ Φ (blk s c 4) ∗ Φ (blk s c 5) ∗ Φ (blk s c 6) ∗ Φ (blk s c 7)) := by
  rw [bigSep_univ_equiv (blkE c s) Φ, bigSep_univ_eq_bigSepL [(0 : Fin 8), 1, 2, 3, 4, 5, 6, 7] (by decide) (by decide)]
  simp only [bigSepL_cons_cons, bigSepL_singleton]
  rfl

omit [FloatOps F] in
/-- A stream's quarters of the result: its own block's, and the seven it fills from outside. -/
theorem stream_cut (s : Fin 4) :
    (bigSep Finset.univ fun b : Fin 8 => ownsAny (F := F) c (oM b s)) ⊢ iprop(ownsAny (F := F) c (oM (rid c) s) ∗ outs (F := F) c s) := by
  rw [blocks_eq c s, blk_zero]
  unfold outs rem rem rem rem rem rem rem rem
  iintro ⟨H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  ipureintro; trivial

omit [FloatOps F] in
/-- The result buffer, stream by stream. -/
theorem out_cut :
    ownsAny (F := F) c (Memref.whole main_v1)
      ⊢ bigSep Finset.univ fun s : Fin 4 => iprop(ownsAny (F := F) c (oM (rid c) s) ∗ outs (F := F) c s) := by
  refine (cut_any c (Memref.whole main_v1) (fun t : Fin 8 × Fin 4 => rO t.1 t.2) (fun _ _ => rfl) rO_disj rO_cov).trans ?_
  rw [bigSep_univ_prod, BI.bigSep_univ_comm]
  exact bigSep_mono fun s _ => stream_cut c s

/-- A stream at its end: its quarters of every block at their contents, the positions of its semaphores past their last rounds. -/
theorem stream_end (s : Fin 4) :
    Rdy m c s 7 ⊢ iprop((bigSep Finset.univ fun b : Fin 8 => ownsF c (oM b s) (bX m c b s))
      ∗ atPos ER (dC c (ssS s)) 7 ∅ 0
      ∗ atPos ER (dC c (rrS s 0)) 1 ∅ 0 ∗ atPos ER (dC c (rrS s 1)) 1 ∅ 0 ∗ atPos ER (dC c (rrS s 2)) 1 ∅ 0 ∗ atPos ER (dC c (rrS s 3)) 1 ∅ 0
      ∗ atPos ER (dC c (rrS s 4)) 1 ∅ 0 ∗ atPos ER (dC c (rrS s 5)) 1 ∅ 0 ∗ atPos ER (dC c (rrS s 6)) 1 ∅ 0) := by
  rw [blocks_eq c s]
  unfold Rdy Str don don don don don don don don dn
  iintro ⟨H7, -, Hs, -, ⟨⟨⟨⟨⟨⟨⟨-, H0, R0⟩, H1, R1⟩, H2, R2⟩, H3, R3⟩, H4, R4⟩, H5, R5⟩, H6, R6⟩⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hs]; · iexact Hs
  isplitl [R0]; · iexact R0
  isplitl [R1]; · iexact R1
  isplitl [R2]; · iexact R2
  isplitl [R3]; · iexact R3
  isplitl [R4]; · iexact R4
  isplitl [R5]; · iexact R5
  iexact R6

/-- The result buffer holds on every block what its owner computed. -/
def Good (f : Buf (Elt F) ((c : Thread nD τ).loc main_v1)) : Prop :=
  ∀ (b : Fin 8) (s : Fin 4), (oM b s).view.read (Elt F) f = bX m c b s

theorem out_join :
    (bigSep Finset.univ fun s : Fin 4 => bigSep Finset.univ fun b : Fin 8 => ownsF c (oM b s) (bX m c b s))
      ⊢ (iprop(∃ f : Buf (Elt F) ((c : Thread nD τ).loc main_v1), ⌜Good m c f⌝ ∗ (c : Thread nD τ).loc main_v1 ↦{fullShare} f) : sProp 𝕄) := by
  rw [BI.bigSep_univ_comm, ← bigSep_univ_prod (fun t : Fin 8 × Fin 4 => ownsF c (oM t.1 t.2) (bX m c t.1 t.2))]
  refine (join_of c (Memref.whole main_v1) (fun t : Fin 8 × Fin 4 => rO t.1 t.2) (fun _ _ => rfl) rO_disj rO_cov (fun t => bX m c t.1 t.2)).trans ?_
  refine (Entails.of_eq (owns_whole (c : Thread nD τ) main_v1 fullShare _)).trans ?_
  iintro H
  iexists (Rect.glue (fun t : Fin 8 × Fin 4 => rO t.1 t.2) rO_cov (fun t => bX m c t.1 t.2))
  isplitr
  · ipureintro
    intro b s
    exact funext fun y => show _ = bX m c (b, s).1 (b, s).2 y from Rect.glue_emb (fun t : Fin 8 × Fin 4 => rO t.1 t.2) rO_cov rO_disj (fun t => bX m c t.1 t.2) (b, s) y
  · iexact H

/-- A whole buffer held at some contents is its whole view. -/
theorem any_whole (b : Ref sig .tc) :
    (iprop(∃ f : Buf (Elt F) ((c : Thread nD τ).loc b), (c : Thread nD τ).loc b ↦{fullShare} f) : sProp 𝕄) ⊢ ownsAny (F := F) c (Memref.whole b) := by
  iintro ⟨%f, H⟩
  iexists f
  ihave H := (Entails.of_eq (owns_whole (Ix := Unit) (Name := ℕ) (U := UU) (Lvl := ℕ) (Val := Elt F) (c : Thread nD τ) b fullShare f).symm) $$ H
  iexact H
theorem whole_any (b : Ref sig .tc) :
    ownsAny (F := F) c (Memref.whole b) ⊢ (iprop(∃ f : Buf (Elt F) ((c : Thread nD τ).loc b), (c : Thread nD τ).loc b ↦{fullShare} f) : sProp 𝕄) := by
  iintro ⟨%f, H⟩
  iexists f
  ihave H := (Entails.of_eq (owns_whole (Ix := Unit) (Name := ℕ) (U := UU) (Lvl := ℕ) (Val := Elt F) (c : Thread nD τ) b fullShare f)) $$ H
  iexact H

end Cert.KernelIdeal.Ring

end
-- ==== Proof.Value.lean ====
/-
The two programs' values, element by element: a quarter block as a device computes it, and the reference's rows.
-/
module

public import proofs.«01_k».proof.Proof.Ref
public import proofs.«01_k».proof.Proof.Ideal.Mem
public import Idealize.ShloMosaic.Lib.Pointwise
public import Idealize.ShloMosaic.Lib.ValueLayout

@[expose] public section

noncomputable section

namespace Cert.Value

open Idealize.ShloMosaic Idealize.ShloMosaic.TcCoe Idealize.SL.Sem
open Cert.KernelIdeal Cert.KernelIdeal.Gen Cert.KernelIdeal.Ring

/-- A row divided by its root mean square, times the scale. -/
def norm (y : Fin 2048 → EReal) (g : EReal) (l : Fin 2048) : EReal :=
  Ideal.div (y l) (Ideal.sqrt (Ideal.div (∑ k : Fin 2048, y k * y k) (Ideal.ofBits .f32 0x45000000#32) + Ideal.ofBits .f32 0x358637BD#32)) * g

/-- An element of the block a device computes: its row, the three inputs added, normalised and scaled. -/
theorem pay_apply (a b : Vec Ideal Cert.KernelIdeal.S1x256x2048 .f32) (p : Vec Ideal Cert.KernelIdeal.S256x2048 .f32)
    (g : Vec Ideal Cert.KernelIdeal.S2048 .f32) (r : Fin 256) (l : Fin 2048) :
    Cert.KernelIdeal.Gen.k0_pay1 a p b g (ix3 0 r l)
      = norm (fun k => (a (ix3 0 r k) + p (ix2 r k)) + b (ix3 0 r k)) (g (ix1 l)) l := by
  pointwise [Cert.KernelIdeal.Gen.k0_pay1]
  rfl

/-- An element of the reference's result: its row, both halves and the residual added, normalised and scaled. -/
theorem ref_apply (x : FVec Ideal Cert.ReferenceIdeal.S2x8192x2048 .f32) (R : FVec Ideal Cert.ReferenceIdeal.S8192x2048 .f32)
    (g : FVec Ideal Cert.ReferenceIdeal.S2048 .f32) (r : Fin 8192) (l : Fin 2048) :
    Cert.ReferenceIdeal.Line.value x R g (ix2 r l)
      = norm (fun k => (x (ix3 0 r k) + x (ix3 1 r k)) + R (ix2 r k)) (g (ix1 l)) l := by
  pointwise [Cert.ReferenceIdeal.Line.value, Cert.ReferenceIdeal.Line.summed]
  simp only [Fin.sum_univ_two]
  rfl

/-! ## Blocks of rows, read -/

/-- Such a row lies in the array. -/
theorem row_lt (b : Fin 8) (q : Fin 4) (r : Fin 256) : 1024 * b.val + 256 * q.val + r.val < 8192 := by omega

/-- Row `r` of quarter `q` of block `b`. -/
def row (b : Fin 8) (q : Fin 4) (r : Fin 256) : Fin 8192 := ⟨1024 * b.val + 256 * q.val + r.val, row_lt b q r⟩

/-- Every row is a row of one quarter of one block. -/
theorem row_split (i : Fin 8192) : i = row ⟨i.val / 1024, by omega⟩ ⟨i.val % 1024 / 256, by omega⟩ ⟨i.val % 256, by omega⟩ := by
  apply Fin.ext; show i.val = 1024 * (i.val / 1024) + 256 * (i.val % 1024 / 256) + i.val % 256; omega

/-- Where an element of a quarter block lies in the result and in the residual. -/
theorem emb_rows (b : Fin 8) (q : Fin 4) (r : Fin 256) (l : Fin 2048) :
    (rO b q).emb (ix2 r l : S256x2048.Idx) = (ix2 (row b q r) l : S8192x2048.Idx) := by
  funext a
  apply Fin.ext
  match a with
  | ⟨0, _⟩ => show 1024 * b.val + 256 * q.val + 1 * r.val = 1024 * b.val + 256 * q.val + r.val; omega
  | ⟨1, _⟩ => show 0 + 1 * l.val = l.val; omega

/-- Where an element of a quarter block lies in a device's half of the sum. -/
theorem emb_plane (b : Fin 8) (q : Fin 4) (r : Fin 256) (l : Fin 2048) :
    (rI b q).emb (ix3 0 r l : S1x256x2048.Idx) = (ix3 0 (row b q r) l : S1x8192x2048.Idx) := by
  funext a
  apply Fin.ext
  match a with
  | ⟨0, _⟩ => rfl
  | ⟨1, _⟩ => show 1024 * b.val + 256 * q.val + 1 * r.val = 1024 * b.val + 256 * q.val + r.val; omega
  | ⟨2, _⟩ => show 0 + 1 * l.val = l.val; omega

/-- An index of a quarter block, with the plane's axis put in front. -/
theorem fold_idx (r : Fin 256) (l : Fin 2048) :
    Shape.reshapeEquiv squeezes_S1x256x2048_S256x2048.numel_eq (ix2 r l : S256x2048.Idx) = (ix3 0 r l : S1x256x2048.Idx) :=
  ValueIdx.reshapeEquiv_ix2_1ab _ r l

/-- Dropping the plane's axis, read at an index. -/
theorem sqz_apply (v : Vec Ideal S1x256x2048 .f32) (r : Fin 256) (l : Fin 2048) : sqz v (ix2 r l) = v (ix3 0 r l) :=
  congrArg v (fold_idx r l)

/-- Adding the plane's axis, read at an index. -/
theorem unsq_apply (X : Blk Ideal) (r : Fin 256) (l : Fin 2048) : unsq X (ix3 0 r l) = X (ix2 r l) :=
  congrArg X (by rw [← fold_idx, Equiv.symm_apply_apply])

variable (m : (ℓ : Loc nD τ sig) → Buf (Elt Ideal) ℓ)

/-- A quarter block of the result, read at an index. -/
theorem out_apply (c : Dev nD) (b : Fin 8) (q : Fin 4) (f : Buf (Elt Ideal) ((c : Thread nD τ).loc main_v1)) (r : Fin 256) (l : Fin 2048) :
    (oM b q).view.read (Elt Ideal) f (ix2 r l) = f (ix2 (row b q r) l : S8192x2048.Idx) :=
  congrArg f (emb_rows b q r l)

/-- A quarter block of a device's residual, read at an index. -/
theorem rV_apply (c : Dev nD) (q : Fin 4) (r : Fin 256) (l : Fin 2048) :
    rV m c q (ix2 r l) = m ((c : Thread nD τ).loc main_arg1) (ix2 (row (rid c) q r) l : S8192x2048.Idx) :=
  congrArg (m ((c : Thread nD τ).loc main_arg1)) (emb_rows (rid c) q r l)

/-- A quarter block of a device's half of the sum, read at an index. -/
theorem pV_apply (c : Dev nD) (q : Fin 4) (r : Fin 256) (l : Fin 2048) :
    pV m c q (ix2 r l) = m ((c : Thread nD τ).loc main_arg0) (ix3 0 (row (rid c) q r) l : S1x8192x2048.Idx) :=
  (congrArg (fun i => m ((c : Thread nD τ).loc main_arg0) ((rI (rid c) q).emb i)) (fold_idx r l)).trans
    (congrArg (m ((c : Thread nD τ).loc main_arg0)) (emb_plane (rid c) q r l))

/-- The staged scale, read at an index. -/
theorem gV_apply (c : Dev nD) (l : Fin 2048) : gV m c (ix1 l) = m ((c : Thread nD τ).loc main_arg2) (ix1 l : S2048.Idx) :=
  congrArg (m ((c : Thread nD τ).loc main_arg2)) (by
    funext a
    apply Fin.ext
    match a with
    | ⟨0, _⟩ => show 0 * 2048 + 1 * l.val = l.val; omega)

/-! ## The result -/

/-- A device and its partner in the other half stand at the same place of their rings. -/
theorem rid_xp (c : Dev nD) : rid (xp c) = rid c := by revert c; decide

/-- Device `c`'s element of the summed array, and of the residual, as numbers. -/
abbrev inp (c : Dev nD) (i : S1x8192x2048.Idx) : EReal := m ((c : Thread nD τ).loc main_arg0) i
abbrev res (c : Dev nD) (i : S8192x2048.Idx) : EReal := m ((c : Thread nD τ).loc main_arg1) i

/-- A quarter block as a device computes it: both halves' rows added, the residual added, normalised. -/
theorem oX_apply (c : Dev nD) (q : Fin 4) (r : Fin 256) (l : Fin 2048) :
    oX m c q (ix2 r l)
      = norm (fun k => (inp m c (ix3 0 (row (rid c) q r) k) + inp m (xp c) (ix3 0 (row (rid c) q r) k)) + res m c (ix2 (row (rid c) q r) k))
        (m ((c : Thread nD τ).loc main_arg2) (ix1 l : S2048.Idx)) l := by
  unfold oX
  rw [sqz_apply]
  unfold oW
  rw [pay_apply, gV_apply]
  congr 1
  funext k
  rw [unsq_apply, unsq_apply, pV_apply, pV_apply, rV_apply, rid_xp]

/-- Which half of the sum a device holds. -/
abbrev half (c : Dev nD) : Fin 2 := ⟨c.val / 8, by have : c.val < 16 := c.isLt; omega⟩

/-- A device and its partner hold different halves. -/
theorem half_xp (c : Dev nD) : half c = 0 ∧ half (xp c) = 1 ∨ half c = 1 ∧ half (xp c) = 0 := by revert c; decide

/-- A device's half of the sum, in the whole. -/
theorem half_apply (c : Dev nD) (x : Cert.ReferenceIdeal.S2x8192x2048.Idx → EReal) (i : Fin 8192) (l : Fin 2048) :
    (Layout.blockN ⟨3, ![1, 8192, 2048]⟩ ⟨3, ![2, 8192, 2048]⟩ (Layout.meshBlock [2, 2, 4] ![[0], [], []] c) x) (ix3 0 i l : S1x8192x2048.Idx)
      = x (ix3 (half c) i l) := by
  rw [Layout.blockN_apply]
  refine congrArg x (funext fun a => Fin.ext ?_)
  rw [Layout.TilesN.idx_val]
  match a with
  | ⟨0, _⟩ =>
    have hb : ∀ c : Dev nD, (Layout.meshBlock [2, 2, 4] ![[0], [], []] c (by decide) 0 : Nat) * 1 + 0 = c.val / 8 := by decide
    exact hb c
  | ⟨1, _⟩ => show 0 * 8192 + i.val = i.val; omega
  | ⟨2, _⟩ => show 0 * 2048 + l.val = l.val; omega

/-- On devices holding their parts of the reference's arguments, a result whose blocks are what the devices compute is the
    reference's. -/
theorem good_value (x : Cert.ReferenceIdeal.S2x8192x2048.Idx → EReal) (R : Cert.ReferenceIdeal.S8192x2048.Idx → EReal)
    (g : Cert.ReferenceIdeal.S2048.Idx → EReal)
    (h : ∀ c : Dev nD, m ((c : Thread nD τ).loc main_arg0)
          = Layout.blockN ⟨3, ![1, 8192, 2048]⟩ ⟨3, ![2, 8192, 2048]⟩ (Layout.meshBlock [2, 2, 4] ![[0], [], []] c) x
      ∧ m ((c : Thread nD τ).loc main_arg1) = R ∧ m ((c : Thread nD τ).loc main_arg2) = g)
    (c : Dev nD) (f : Buf (Elt Ideal) ((c : Thread nD τ).loc main_v1)) (hf : Good m c f) :
    f = Cert.ReferenceIdeal.Line.value (F := Ideal) x R g := by
  suffices hp : ∀ (i0 : Fin 8192) (l : Fin 2048), f (ix2 i0 l : S8192x2048.Idx)
      = Cert.ReferenceIdeal.Line.value (F := Ideal) x R g (ix2 i0 l : Cert.ReferenceIdeal.S8192x2048.Idx) by
    funext i
    rw [eq_ix2 (n0 := 8192) (n1 := 2048) i]
    exact hp (i 0) (i 1)
  intro i0 l
  rw [row_split i0]
  generalize (⟨i0.val / 1024, _⟩ : Fin 8) = b
  generalize (⟨i0.val % 1024 / 256, _⟩ : Fin 4) = q
  generalize (⟨i0.val % 256, _⟩ : Fin 256) = r
  rw [← out_apply c b q f r l, hf b q, ref_apply]
  unfold bX
  rw [oX_apply, rid_dvOf, (h _).2.2]
  congr 1
  funext k
  unfold inp res
  rw [(h _).1, (h (xp _)).1, (h _).2.1, half_apply, half_apply]
  rcases half_xp (dvOf c b) with ⟨h1, h2⟩ | ⟨h1, h2⟩
  · rw [h1, h2]
  · rw [h1, h2, add_comm (x (ix3 1 _ _))]

end Cert.Value

end
-- ==== Proof.Ideal.Deal.lean ====
/-
The ghost state of the launch: minting the tokens, dealing every device those of the duties it pays and the credit for what it receives, and closing the semaphores at the end.
-/
module

public import proofs.«01_k».proof.Proof.Ideal.Mem

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

/-! ## The semaphores by number -/

/-- A transfer semaphore's place among a device's semaphores. -/
abbrev kq (q : DmaSem sig) : Fin 53 := ⟨q.val, q.isLt⟩

set_option maxRecDepth 8000 in
omit [FloatOps F] in
/-- A device's semaphores, one by one. -/
theorem keys (Φ : Fin 53 → sProp 𝕄) : bigSep Finset.univ Φ = iprop(Φ (0 : Fin 53) ∗ Φ (kq (psS 0)) ∗ Φ (kq (psS 1)) ∗ Φ (kq (psS 2)) ∗ Φ (kq (psS 3)) ∗ Φ (kq (prS 0)) ∗ Φ (kq (prS 1)) ∗ Φ (kq (prS 2)) ∗ Φ (kq (prS 3)) ∗ Φ (kq (ssS 0)) ∗ Φ (kq (ssS 1)) ∗ Φ (kq (ssS 2)) ∗ Φ (kq (ssS 3)) ∗ Φ (kq (rrS 0 0)) ∗ Φ (kq (rrS 0 1)) ∗ Φ (kq (rrS 0 2)) ∗ Φ (kq (rrS 0 3)) ∗ Φ (kq (rrS 0 4)) ∗ Φ (kq (rrS 0 5)) ∗ Φ (kq (rrS 0 6)) ∗ Φ (kq (rrS 1 0)) ∗ Φ (kq (rrS 1 1)) ∗ Φ (kq (rrS 1 2)) ∗ Φ (kq (rrS 1 3)) ∗ Φ (kq (rrS 1 4)) ∗ Φ (kq (rrS 1 5)) ∗ Φ (kq (rrS 1 6)) ∗ Φ (kq (rrS 2 0)) ∗ Φ (kq (rrS 2 1)) ∗ Φ (kq (rrS 2 2)) ∗ Φ (kq (rrS 2 3)) ∗ Φ (kq (rrS 2 4)) ∗ Φ (kq (rrS 2 5)) ∗ Φ (kq (rrS 2 6)) ∗ Φ (kq (rrS 3 0)) ∗ Φ (kq (rrS 3 1)) ∗ Φ (kq (rrS 3 2)) ∗ Φ (kq (rrS 3 3)) ∗ Φ (kq (rrS 3 4)) ∗ Φ (kq (rrS 3 5)) ∗ Φ (kq (rrS 3 6)) ∗ Φ (kq (loS 0 0)) ∗ Φ (kq (loS 0 1)) ∗ Φ (kq (loS 1 0)) ∗ Φ (kq (loS 1 1)) ∗ Φ (kq (loS 2 0)) ∗ Φ (kq (loS 2 1)) ∗ Φ (kq (loS 3 0)) ∗ Φ (kq (loS 3 1)) ∗ Φ (kq (loS 0 2)) ∗ Φ (kq (loS 1 2)) ∗ Φ (kq (loS 2 2)) ∗ Φ (kq (loS 3 2))) := by
  rw [bigSep_univ_eq_bigSepL [(0 : Fin 53), (kq (psS 0)), (kq (psS 1)), (kq (psS 2)), (kq (psS 3)), (kq (prS 0)), (kq (prS 1)), (kq (prS 2)), (kq (prS 3)), (kq (ssS 0)), (kq (ssS 1)), (kq (ssS 2)), (kq (ssS 3)), (kq (rrS 0 0)), (kq (rrS 0 1)), (kq (rrS 0 2)), (kq (rrS 0 3)), (kq (rrS 0 4)), (kq (rrS 0 5)), (kq (rrS 0 6)), (kq (rrS 1 0)), (kq (rrS 1 1)), (kq (rrS 1 2)), (kq (rrS 1 3)), (kq (rrS 1 4)), (kq (rrS 1 5)), (kq (rrS 1 6)), (kq (rrS 2 0)), (kq (rrS 2 1)), (kq (rrS 2 2)), (kq (rrS 2 3)), (kq (rrS 2 4)), (kq (rrS 2 5)), (kq (rrS 2 6)), (kq (rrS 3 0)), (kq (rrS 3 1)), (kq (rrS 3 2)), (kq (rrS 3 3)), (kq (rrS 3 4)), (kq (rrS 3 5)), (kq (rrS 3 6)), (kq (loS 0 0)), (kq (loS 0 1)), (kq (loS 1 0)), (kq (loS 1 1)), (kq (loS 2 0)), (kq (loS 2 1)), (kq (loS 3 0)), (kq (loS 3 1)), (kq (loS 0 2)), (kq (loS 1 2)), (kq (loS 2 2)), (kq (loS 3 2))] (by decide) (by decide)]
  simp only [bigSepL_cons_cons, bigSepL_singleton]
  rfl

/-! ## Minting and dealing the tokens -/

theorem sl_injective : Function.Injective sl := by
  intro k k' h
  unfold sl at h
  by_cases h0 : k = 0
  · by_cases h1 : k' = 0
    · rw [h0, h1]
    · rw [if_pos h0, if_neg h1] at h; exact absurd h nofun
  · by_cases h1 : k' = 0
    · rw [if_neg h0, if_pos h1] at h; exact absurd h nofun
    · rw [if_neg h0, if_neg h1] at h
      have e := SemLoc.dma.inj h
      exact Fin.ext (congrArg Fin.val e)

theorem kcell_injective : Function.Injective (kcell : Dev nD × Fin 53 → GSem nD τ sig) := by
  rintro ⟨c, k⟩ ⟨c', k'⟩ h
  have h1 : c = c' := by have := congrArg (fun g : GSem nD τ sig => g.1.1) h; exact this
  subst h1
  have h2 : sl k = sl k' := congrArg Prod.snd h
  rw [sl_injective h2]
def ringCells : Finset (GSem nD τ sig) := Finset.univ.map ⟨kcell, kcell_injective⟩

/-- A round below seven and a duty. -/
abbrev RD : Type := Fin 7 × Fin 3
/-- The tokens minted for a semaphore: one for every round below seven and every duty. -/
def tokOf (x : (Dev nD × Fin 53) × RD) : GSem nD τ sig × ℕ × Fin 3 := (kcell x.1, x.2.1.val, x.2.2)
theorem tokOf_injective : Function.Injective tokOf := by
  rintro ⟨ck, r, d⟩ ⟨ck', r', d'⟩ h
  have h1 : ck = ck' := kcell_injective (congrArg Prod.fst h)
  have h2 : r.val = r'.val := congrArg (fun x : GSem nD τ sig × ℕ × Fin 3 => x.2.1) h
  have h3 : d = d' := congrArg (fun x : GSem nD τ sig × ℕ × Fin 3 => x.2.2) h
  rw [h1, Fin.ext h2, h3]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The tokens of a device's own semaphores. -/
def ownToks (c : Dev nD) : sProp 𝕄 :=
  bigSep Finset.univ fun k : Fin 53 => bigSep Finset.univ fun x : RD => dutyTok ER (kcell (c, k)) x.1.val x.2
/-- The tokens of the duties a device pays. -/
def payToks (c : Dev nD) : sProp 𝕄 :=
  bigSep Finset.univ fun k : Fin 53 => bigSep Finset.univ fun x : RD => dutyTok ER (kcell (tgtK c (kd (sl k)) x.2, k)) x.1.val x.2

/-- What the launch deals a device. -/
def G (c : Dev nD) : sProp 𝕄 :=
  iprop((bigSep Finset.univ fun k : Fin 53 => roundState ER (Rd m) (kcell (c, k)) 0)
    ∗ (bigSep Finset.univ fun k : Fin 53 => iprop(atPos ER (kcell (c, k)) 0 ∅ 0 ∗ reached ER (kcell (c, k)) 0)) ∗ ownToks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 53 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Who pays whom, as a permutation of the devices. -/
def permK (k : Kd) (d : Fin 3) : Dev nD ≃ Dev nD where
  toFun c := tgtK c k d
  invFun c := payerK c k d
  left_inv c := payer_tgt k d c
  right_inv c := tgt_payer k d c

omit [FloatOps F] in
/-- Every token to the device that pays the duty. -/
theorem toks_around : (bigSep Finset.univ fun c : Dev nD => (ownToks c : sProp 𝕄)) = bigSep Finset.univ fun c : Dev nD => payToks c := by
  unfold ownToks payToks
  refine (BI.bigSep_univ_comm _).trans (Eq.trans ?_ (BI.bigSep_univ_comm _).symm)
  refine bigSep_congr fun k _ => ?_
  refine (BI.bigSep_univ_comm _).trans (Eq.trans ?_ (BI.bigSep_univ_comm _).symm)
  refine bigSep_congr fun x _ => ?_
  exact bigSep_univ_equiv (permK (kd (sl k)) x.2) (fun c : Dev nD => (dutyTok ER (kcell (c, k)) x.1.val x.2 : sProp 𝕄))

/-! ## The semaphores at zero -/

/-- The kernel's own semaphores. -/
def osem : Fin 52 → SemLoc sig := fun k => sl k.succ

omit [FloatOps F] in
theorem unscopedSems0_eq (c : Dev nD) : (unscopedSems0 c : sProp 𝕄) = semVal (barC c) 0 := by
  unfold unscopedSems0; rw [bigSep_eq_bigSepL_of_eq [SemLoc.reg barrier0] (by decide) (by decide)]; rfl

theorem erase_zero : (Finset.univ.erase 0 : Finset (Fin 53)) = Finset.univ.map (Fin.succEmb 52) := by decide

omit [FloatOps F] in
theorem sems0_eq (c : Dev nD) :
    (bigSep Finset.univ fun k : Fin 53 => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_at _ (0 : Fin 53), erase_zero, bigSep_map]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 53 => semVal (kcell (c, k)) 0) ∗ bigSep Finset.univ fun k : Fin 53 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What everyone knows but for the levels. -/
def recs0 (K : Dev nD × Fin 53 → ℕ) : sProp 𝕄 :=
  iprop((bigSep Finset.univ fun ck : Dev nD × Fin 53 => cellInv ER (Rd m) (K ck) (kcell ck))
    ∗ bigSep Finset.univ fun ck : Dev nD × Fin 53 => reached ER (kcell ck) 0)
instance recs0_persistent (K : Dev nD × Fin 53 → ℕ) : BI.Persistent (recs0 m K) := by unfold recs0; infer_instance

/-- A device's positions, and the tokens of the duties it pays. -/
def Lin (c : Dev nD) : sProp 𝕄 :=
  iprop((bigSep Finset.univ fun k : Fin 53 => atPos ER (kcell (c, k)) 0 ∅ 0) ∗ payToks (F := F) c)

/-- What the launch makes of what it dealt. -/
def G' (c : Dev nD) : sProp 𝕄 := iprop(∃ K, recs0 m K ∗ Lin (F := F) c)

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × Fin 53 => iprop(∃ κ : ℕ, cellInv ER (Rd m) κ (kcell ck))),
    bigSep_congr (s := Finset.univ) (fun (c : Dev nD) _ => bigSep_sep' Finset.univ (fun k : Fin 53 => (atPos ER (kcell (c, k)) 0 ∅ 0 : sProp 𝕄)) (fun k => reached ER (kcell (c, k)) 0)),
    bigSep_sep', ← bigSep_univ_prod (fun ck : Dev nD × Fin 53 => (reached ER (kcell ck) 0 : sProp 𝕄)), toks_around]
  iintro ⟨HI, ⟨Hat, #HR⟩, Htok⟩
  ihave HK := (BI.bigSep_exists_pi Finset.univ (fun (ck : Dev nD × Fin 53) (κ : ℕ) => (cellInv ER (Rd m) κ (kcell ck) : sProp 𝕄))) $$ HI
  icases HK with ⟨%K, #HI⟩
  iapply (bigSep_with (R := recs0 m K) (Φ := Lin (F := F)) (Ψ := G' m) fun c _ => by
    unfold G'
    iintro H
    iexists K
    iexact H)
  isplitr
  · unfold recs0; isplitl; · iexact HI
    iexact HR
  · unfold Lin
    rw [bigSep_sep']
    isplitl [Hat]; · iexact Hat
    iexact Htok

/-- From every device's semaphores at zero, every device's share of the protocol. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit the launch gives -/

variable (c : Dev nD)

/-- A credit for each payment of a list, at the receiver. -/
def cash : List Due → sProp 𝕄
  | [] => iprop(emp)
  | p :: l => iprop(cash l ∗ cred (tallyAt ((c : Thread nD τ), sl p.1) () (amtK (kd (sl p.1)))))

omit [FloatOps F] in
/-- What every device owes is everyone's credit. -/
theorem launch_cash (l : List Due) : (Pipeline.launchCred (fun d => owe d l) c : sProp 𝕄) ⊢ cash c l := by
  induction l with
  | nil =>
    refine (Entails.of_eq (Pipeline.launchCred_zero c)).trans ?_
    unfold cash; exact .rfl
  | cons p l ih =>
    show (Pipeline.launchCred (fun d => owe d l + tallyAt ((tgtK d (kd (sl p.1)) p.2 : Thread nD τ), sl p.1) () (amtK (kd (sl p.1)))) c : sProp 𝕄) ⊢ _
    rw [Pipeline.launchCred_add]
    unfold cash
    exact BI.sep_mono ih (Pipeline.launchCred_tallyAt (sl p.1) (fun d => tgtK d (kd (sl p.1)) p.2) (fun d => payerK d (kd (sl p.1)) p.2)
      (fun d => tgt_payer _ _ d) (fun d => payer_tgt _ _ d) () _ c)

omit [FloatOps F] in
theorem cash_dma (q : DmaSem sig) (h0 : q.val ≠ 0) (ha : amtK (kd (.dma q)) = N) (d : Fin 3) (l : List Due) :
    cash (F := F) c ((⟨q.val, q.isLt⟩, d) :: l) ⊢ iprop(cred (tallyAt (dC c q) () N) ∗ cash (F := F) c l) := by
  show iprop(cash (F := F) c l ∗ cred (tallyAt ((c : Thread nD τ), sl ⟨q.val, q.isLt⟩) () (amtK (kd (sl ⟨q.val, q.isLt⟩))))) ⊢ _
  rw [sl_dma q h0, ha]
  iintro ⟨H, H'⟩
  isplitl [H']; · iexact H'
  iexact H
omit [FloatOps F] in
theorem cash_P (i : Fin 4) (l : List Due) : cash (F := F) c (dP i :: l) ⊢ iprop(cred (tallyAt (dC c (prS i)) () N) ∗ cash (F := F) c l) :=
  cash_dma c (prS i) (prS_ne i) (amt_of (kd_pr i) nofun) 0 l
omit [FloatOps F] in
theorem cash_R (s : Fin 4) (h : ℕ) (l : List Due) : cash (F := F) c (dR s h :: l) ⊢ iprop(cred (tallyAt (dC c (rrS s h)) () N) ∗ cash (F := F) c l) :=
  cash_dma c (rrS s h) (rrS_ne s h) (amt_of (kd_rr s h) nofun) 0 l
omit [FloatOps F] in
theorem cash_B (d : Fin 3) (l : List Due) : cash (F := F) c (dB d :: l) ⊢ iprop(cred (tallyAt (barC c) () 1) ∗ cash (F := F) c l) := by
  show iprop(cash (F := F) c l ∗ cred (tallyAt (barC c) () 1)) ⊢ _
  iintro ⟨H, H'⟩
  isplitl [H']; · iexact H'
  iexact H

omit [FloatOps F] in
theorem cred_three : iprop(cred (tallyAt (barC c) () 1) ∗ cred (tallyAt (barC c) () 1) ∗ cred (tallyAt (barC c) () 1))
    ⊢ (cred (tallyAt (barC c) () 3) : sProp 𝕄) := by
  have h1 := (cred_add (Val := Elt F) (Name := ℕ) (U := UU) (Lvl := ℕ) (tallyAt (barC c) () 1 : CellTallies nD τ sig Unit) (tallyAt (barC c) () 1)).2
  have h2 := (cred_add (Val := Elt F) (Name := ℕ) (U := UU) (Lvl := ℕ) (tallyAt (barC c) () 1 : CellTallies nD τ sig Unit) (tallyAt (barC c) () 2)).2
  rw [tallyAt_add] at h1 h2
  exact (sep_mono_right h1).trans h2

/-! ## A device's tokens, semaphore by semaphore -/

/-- A semaphore's position and the tokens a device holds for it. -/
def kit (k : Fin 53) : sProp 𝕄 :=
  iprop(atPos ER (kcell (c, k)) 0 ∅ 0 ∗ bigSep Finset.univ fun x : RD => dutyTok ER (kcell (tgtK c (kd (sl k)) x.2, k)) x.1.val x.2)

omit [FloatOps F] in
theorem Lin_kits : Lin (F := F) c = bigSep Finset.univ (kit (F := F) c) := by
  unfold Lin payToks kit
  rw [← bigSep_sep']

omit [FloatOps F] in
theorem tok_at (k : Fin 53) (x : RD) :
    (bigSep Finset.univ fun x : RD => (dutyTok ER (kcell (tgtK c (kd (sl k)) x.2, k)) x.1.val x.2 : sProp 𝕄))
      ⊢ dutyTok ER (kcell (tgtK c (kd (sl k)) x.2, k)) x.1.val x.2 :=
  bigSep_elim (Finset.mem_univ x)

omit [FloatOps F] in
/-- A semaphore with one duty, -/
theorem kit_one (q : DmaSem sig) (h0 : q.val ≠ 0) {k : Kd} (hk : kd (.dma q) = k) (e : Dev nD) (he : tgtK c k 0 = e) :
    kit (F := F) c (kq q) ⊢ iprop(atPos ER (dC c q) 0 ∅ 0 ∗ dutyTok ER (dC e q) 0 (0 : Fin 3)) := by
  subst hk he
  have h := tok_at (F := F) c (kq q) (0, 0)
  rw [kcell_dma _ q h0, sl_dma q h0] at h
  unfold kit
  rw [kcell_dma c q h0, sl_dma q h0]
  exact sep_mono_right h

omit [FloatOps F] in
/-- the barrier, -/
theorem kit_bar : kit (F := F) c 0 ⊢ iprop(atPos ER (barC c) 0 ∅ 0 ∗ dutyTok ER (barC (xp c)) 0 (0 : Fin 3)
    ∗ dutyTok ER (barC (rgt c)) 0 (2 : Fin 3) ∗ dutyTok ER (barC (lft c)) 0 (1 : Fin 3)) := by
  unfold kit
  refine sep_mono_right ?_
  rw [bigSep_univ_prod, bigSep_univ_at _ (0 : Fin 7), bigSep_univ_eq_bigSepL [(0 : Fin 3), 1, 2] (by decide) (by decide),
    bigSepL_cons_cons, bigSepL_cons_cons, bigSepL_singleton]
  show iprop((dutyTok ER (barC (xp c)) 0 (0 : Fin 3) ∗ dutyTok ER (barC (lft c)) 0 (1 : Fin 3) ∗ dutyTok ER (barC (rgt c)) 0 (2 : Fin 3)) ∗ _) ⊢ _
  iintro ⟨⟨H0, H1, H2⟩, -⟩
  isplitl [H0]; · iexact H0
  isplitl [H2]; · iexact H2
  iexact H1

omit [FloatOps F] in
/-- a stream's sends. -/
theorem kit_ss (s : Fin 4) : kit (F := F) c (kq (ssS s)) ⊢ iprop(atPos ER (dC c (ssS s)) 0 ∅ 0
    ∗ dutyTok ER (dC c (ssS s)) 0 (0 : Fin 3) ∗ dutyTok ER (dC c (ssS s)) 1 (0 : Fin 3) ∗ dutyTok ER (dC c (ssS s)) 2 (0 : Fin 3)
    ∗ dutyTok ER (dC c (ssS s)) 3 (0 : Fin 3) ∗ dutyTok ER (dC c (ssS s)) 4 (0 : Fin 3) ∗ dutyTok ER (dC c (ssS s)) 5 (0 : Fin 3)
    ∗ dutyTok ER (dC c (ssS s)) 6 (0 : Fin 3)) := by
  unfold kit
  rw [sl_dma _ (ssS_ne s), kd_ss]
  show iprop(atPos ER (kcell (c, kq (ssS s))) 0 ∅ 0 ∗ bigSep Finset.univ fun x : RD => dutyTok ER (kcell (c, kq (ssS s))) x.1.val x.2) ⊢ _
  rw [kcell_dma c _ (ssS_ne s)]
  refine sep_mono_right ?_
  rw [bigSep_univ_prod, BI.bigSep_univ_comm, bigSep_univ_at _ (0 : Fin 3), bigSep_univ_eq_bigSepL [(0 : Fin 7), 1, 2, 3, 4, 5, 6] (by decide) (by decide)]
  simp only [bigSepL_cons_cons, bigSepL_singleton]
  show iprop((dutyTok ER (dC c (ssS s)) 0 (0 : Fin 3) ∗ dutyTok ER (dC c (ssS s)) 1 (0 : Fin 3) ∗ dutyTok ER (dC c (ssS s)) 2 (0 : Fin 3)
    ∗ dutyTok ER (dC c (ssS s)) 3 (0 : Fin 3) ∗ dutyTok ER (dC c (ssS s)) 4 (0 : Fin 3) ∗ dutyTok ER (dC c (ssS s)) 5 (0 : Fin 3)
    ∗ dutyTok ER (dC c (ssS s)) 6 (0 : Fin 3)) ∗ _) ⊢ _
  iintro ⟨H, -⟩
  iexact H

/-! ## Everything a device starts with -/

/-- A stream's hop: its receive semaphore's kit, and the credit for what arrives. -/
def hopKit (s : Fin 4) (h : ℕ) : sProp 𝕄 := iprop(kit (F := F) c (kq (rrS s h)) ∗ cred (tallyAt (dC c (rrS s h)) () N))

omit [FloatOps F] in
theorem hop_toks (s : Fin 4) (h : ℕ) : iprop(dutyTok ER (dC c (ssS s)) h (0 : Fin 3) ∗ hopKit (F := F) c s h) ⊢ toks (F := F) c s h := by
  unfold toks hopKit
  iintro ⟨Ht, Hk, Hc⟩
  ihave Hk := (kit_one c (rrS s h) (rrS_ne s h) (kd_rr s h) (dst s c) rfl) $$ Hk
  icases Hk with ⟨Ha, Hd⟩
  isplitl [Ht]; · iexact Ht
  isplitl [Hd]; · iexact Hd
  isplitl [Ha]; · iexact Ha
  iexact Hc

/-- A stream before its first hop. -/
theorem seed_intro (s : Fin 4) :
    iprop(recs m K ∗ kit (F := F) c (kq (ssS s)) ∗ hopKit (F := F) c s 0 ∗ hopKit (F := F) c s 1 ∗ hopKit (F := F) c s 2 ∗ hopKit (F := F) c s 3
      ∗ hopKit (F := F) c s 4 ∗ hopKit (F := F) c s 5 ∗ hopKit (F := F) c s 6) ⊢ Seed (F := F) c s := by
  iintro ⟨#HR, Hk, K0, K1, K2, K3, K4, K5, K6⟩
  ihave Hk := (kit_ss c s) $$ Hk
  icases Hk with ⟨Ha, T0, T1, T2, T3, T4, T5, T6⟩
  unfold Seed rem rem rem rem rem rem rem rem
  isplitr; · iapply (recs_reached m K c (ssS s) (ssS_ne s)); iexact HR
  isplitl [Ha]; · iexact Ha
  isplitl [T0 K0]
  · iapply (hop_toks c s 0); isplitl [T0]; · iexact T0
    iexact K0
  isplitl [T1 K1]
  · iapply (hop_toks c s 1); isplitl [T1]; · iexact T1
    iexact K1
  isplitl [T2 K2]
  · iapply (hop_toks c s 2); isplitl [T2]; · iexact T2
    iexact K2
  isplitl [T3 K3]
  · iapply (hop_toks c s 3); isplitl [T3]; · iexact T3
    iexact K3
  isplitl [T4 K4]
  · iapply (hop_toks c s 4); isplitl [T4]; · iexact T4
    iexact K4
  isplitl [T5 K5]
  · iapply (hop_toks c s 5); isplitl [T5]; · iexact T5
    iexact K5
  isplitl [T6 K6]
  · iapply (hop_toks c s 6); isplitl [T6]; · iexact T6
    iexact K6
  iempintro

/-- The barrier's tokens, credit and position, -/
def GB : sProp 𝕄 :=
  iprop(dutyTok ER (barC (xp c)) 0 (0 : Fin 3) ∗ dutyTok ER (barC (rgt c)) 0 (2 : Fin 3) ∗ dutyTok ER (barC (lft c)) 0 (1 : Fin 3)
    ∗ cred (tallyAt (barC c) () 3) ∗ atPos ER (barC c) 0 ∅ 0)
/-- an exchange's, -/
def GX (i : Fin 4) : sProp 𝕄 :=
  iprop(dutyTok ER (dC c (psS i)) 0 (0 : Fin 3) ∗ dutyTok ER (dC (xp c) (prS i)) 0 (0 : Fin 3) ∗ atPos ER (dC c (psS i)) 0 ∅ 0
    ∗ atPos ER (dC c (prS i)) 0 ∅ 0 ∗ cred (tallyAt (dC c (prS i)) () N))
/-- a local copy's. -/
def GL (q : Fin 4) (t : Fin 3) : sProp 𝕄 :=
  iprop(dutyTok ER (dC c (loS q t)) 0 (0 : Fin 3) ∗ atPos ER (dC c (loS q t)) 0 ∅ 0)

omit [FloatOps F] in
theorem gx_intro (i : Fin 4) : iprop(kit (F := F) c (kq (psS i)) ∗ kit (F := F) c (kq (prS i)) ∗ cred (tallyAt (dC c (prS i)) () N)) ⊢ GX (F := F) c i := by
  iintro ⟨H1, H2, Hc⟩
  ihave H1 := (kit_one c (psS i) (psS_ne i) (kd_ps i) c rfl) $$ H1
  ihave H2 := (kit_one c (prS i) (prS_ne i) (kd_pr i) (xp c) rfl) $$ H2
  icases H1 with ⟨A1, T1⟩
  icases H2 with ⟨A2, T2⟩
  unfold GX
  isplitl [T1]; · iexact T1
  isplitl [T2]; · iexact T2
  isplitl [A1]; · iexact A1
  isplitl [A2]; · iexact A2
  iexact Hc
omit [FloatOps F] in
theorem gl_intro (q : Fin 4) (t : Fin 3) : kit (F := F) c (kq (loS q t)) ⊢ GL (F := F) c q t := by
  refine (kit_one c (loS q t) (loS_ne q t) (kd_lo q t) c rfl).trans ?_
  unfold GL
  iintro ⟨A, T⟩
  isplitl [T]; · iexact T
  iexact A
omit [FloatOps F] in
theorem gb_intro : iprop(kit (F := F) c 0 ∗ cred (tallyAt (barC c) () 1) ∗ cred (tallyAt (barC c) () 1) ∗ cred (tallyAt (barC c) () 1)) ⊢ GB (F := F) c := by
  iintro ⟨H, Hc⟩
  ihave H := (kit_bar c) $$ H
  ihave Hc := (cred_three c) $$ Hc
  icases H with ⟨A, T0, T1, T2⟩
  unfold GB
  isplitl [T0]; · iexact T0
  isplitl [T1]; · iexact T1
  isplitl [T2]; · iexact T2
  isplitl [Hc]; · iexact Hc
  iexact A

/-- A device's share of the protocol, sorted by what it is for. -/
theorem deal :
    iprop(recs m K ∗ Lin (F := F) c ∗ cash (F := F) c L0)
      ⊢ iprop(GB (F := F) c ∗ (GX (F := F) c 0 ∗ GX (F := F) c 1 ∗ GX (F := F) c 2 ∗ GX (F := F) c 3)
        ∗ (GL (F := F) c 0 0 ∗ GL (F := F) c 0 1 ∗ GL (F := F) c 0 2 ∗ GL (F := F) c 1 0 ∗ GL (F := F) c 1 1 ∗ GL (F := F) c 1 2 ∗ GL (F := F) c 2 0 ∗ GL (F := F) c 2 1 ∗ GL (F := F) c 2 2 ∗ GL (F := F) c 3 0 ∗ GL (F := F) c 3 1 ∗ GL (F := F) c 3 2)
        ∗ (Seed (F := F) c 0 ∗ Seed (F := F) c 1 ∗ Seed (F := F) c 2 ∗ Seed (F := F) c 3)) := by
  rw [Lin_kits, keys]
  unfold L0
  iintro ⟨#HR, ⟨k_bar, k_ps0, k_ps1, k_ps2, k_ps3, k_pr0, k_pr1, k_pr2, k_pr3, k_ss0, k_ss1, k_ss2, k_ss3, k_rr00, k_rr01, k_rr02, k_rr03, k_rr04, k_rr05, k_rr06, k_rr10, k_rr11, k_rr12, k_rr13, k_rr14, k_rr15, k_rr16, k_rr20, k_rr21, k_rr22, k_rr23, k_rr24, k_rr25, k_rr26, k_rr30, k_rr31, k_rr32, k_rr33, k_rr34, k_rr35, k_rr36, k_lo00, k_lo01, k_lo10, k_lo11, k_lo20, k_lo21, k_lo30, k_lo31, k_lo02, k_lo12, k_lo22, k_lo32⟩, Hc⟩
  ihave Hc := (cash_B c 0 _) $$ Hc
  icases Hc with ⟨cB0, Hc⟩
  ihave Hc := (cash_B c 2 _) $$ Hc
  icases Hc with ⟨cB2, Hc⟩
  ihave Hc := (cash_B c 1 _) $$ Hc
  icases Hc with ⟨cB1, Hc⟩
  ihave Hc := (cash_P c 0 _) $$ Hc
  icases Hc with ⟨cP0, Hc⟩
  ihave Hc := (cash_P c 1 _) $$ Hc
  icases Hc with ⟨cP1, Hc⟩
  ihave Hc := (cash_P c 2 _) $$ Hc
  icases Hc with ⟨cP2, Hc⟩
  ihave Hc := (cash_P c 3 _) $$ Hc
  icases Hc with ⟨cP3, Hc⟩
  ihave Hc := (cash_R c 0 0 _) $$ Hc
  icases Hc with ⟨cR00, Hc⟩
  ihave Hc := (cash_R c 2 0 _) $$ Hc
  icases Hc with ⟨cR20, Hc⟩
  ihave Hc := (cash_R c 1 0 _) $$ Hc
  icases Hc with ⟨cR10, Hc⟩
  ihave Hc := (cash_R c 3 0 _) $$ Hc
  icases Hc with ⟨cR30, Hc⟩
  ihave Hc := (cash_R c 0 1 _) $$ Hc
  icases Hc with ⟨cR01, Hc⟩
  ihave Hc := (cash_R c 1 1 _) $$ Hc
  icases Hc with ⟨cR11, Hc⟩
  ihave Hc := (cash_R c 2 1 _) $$ Hc
  icases Hc with ⟨cR21, Hc⟩
  ihave Hc := (cash_R c 3 1 _) $$ Hc
  icases Hc with ⟨cR31, Hc⟩
  ihave Hc := (cash_R c 0 2 _) $$ Hc
  icases Hc with ⟨cR02, Hc⟩
  ihave Hc := (cash_R c 1 2 _) $$ Hc
  icases Hc with ⟨cR12, Hc⟩
  ihave Hc := (cash_R c 2 2 _) $$ Hc
  icases Hc with ⟨cR22, Hc⟩
  ihave Hc := (cash_R c 3 2 _) $$ Hc
  icases Hc with ⟨cR32, Hc⟩
  ihave Hc := (cash_R c 0 3 _) $$ Hc
  icases Hc with ⟨cR03, Hc⟩
  ihave Hc := (cash_R c 1 3 _) $$ Hc
  icases Hc with ⟨cR13, Hc⟩
  ihave Hc := (cash_R c 2 3 _) $$ Hc
  icases Hc with ⟨cR23, Hc⟩
  ihave Hc := (cash_R c 3 3 _) $$ Hc
  icases Hc with ⟨cR33, Hc⟩
  ihave Hc := (cash_R c 0 4 _) $$ Hc
  icases Hc with ⟨cR04, Hc⟩
  ihave Hc := (cash_R c 1 4 _) $$ Hc
  icases Hc with ⟨cR14, Hc⟩
  ihave Hc := (cash_R c 2 4 _) $$ Hc
  icases Hc with ⟨cR24, Hc⟩
  ihave Hc := (cash_R c 3 4 _) $$ Hc
  icases Hc with ⟨cR34, Hc⟩
  ihave Hc := (cash_R c 0 5 _) $$ Hc
  icases Hc with ⟨cR05, Hc⟩
  ihave Hc := (cash_R c 1 5 _) $$ Hc
  icases Hc with ⟨cR15, Hc⟩
  ihave Hc := (cash_R c 2 5 _) $$ Hc
  icases Hc with ⟨cR25, Hc⟩
  ihave Hc := (cash_R c 3 5 _) $$ Hc
  icases Hc with ⟨cR35, Hc⟩
  ihave Hc := (cash_R c 0 6 _) $$ Hc
  icases Hc with ⟨cR06, Hc⟩
  ihave Hc := (cash_R c 1 6 _) $$ Hc
  icases Hc with ⟨cR16, Hc⟩
  ihave Hc := (cash_R c 2 6 _) $$ Hc
  icases Hc with ⟨cR26, Hc⟩
  ihave Hc := (cash_R c 3 6 _) $$ Hc
  icases Hc with ⟨cR36, Hc⟩
  isplitl [k_bar cB0 cB2 cB1]
  · iapply (gb_intro c)
    isplitl [k_bar]; · iexact k_bar
    isplitl [cB0]; · iexact cB0
    isplitl [cB2]; · iexact cB2
    iexact cB1
  isplitl [k_ps0 k_pr0 cP0 k_ps1 k_pr1 cP1 k_ps2 k_pr2 cP2 k_ps3 k_pr3 cP3]
  · isplitl [k_ps0 k_pr0 cP0]
    · iapply (gx_intro c 0)
      isplitl [k_ps0]; · iexact k_ps0
      isplitl [k_pr0]; · iexact k_pr0
      iexact cP0
    isplitl [k_ps1 k_pr1 cP1]
    · iapply (gx_intro c 1)
      isplitl [k_ps1]; · iexact k_ps1
      isplitl [k_pr1]; · iexact k_pr1
      iexact cP1
    isplitl [k_ps2 k_pr2 cP2]
    · iapply (gx_intro c 2)
      isplitl [k_ps2]; · iexact k_ps2
      isplitl [k_pr2]; · iexact k_pr2
      iexact cP2
    iapply (gx_intro c 3)
    isplitl [k_ps3]; · iexact k_ps3
    isplitl [k_pr3]; · iexact k_pr3
    iexact cP3
  isplitl [k_lo00 k_lo01 k_lo02 k_lo10 k_lo11 k_lo12 k_lo20 k_lo21 k_lo22 k_lo30 k_lo31 k_lo32]
  · isplitl [k_lo00]
    · iapply (gl_intro c 0 0); iexact k_lo00
    isplitl [k_lo01]
    · iapply (gl_intro c 0 1); iexact k_lo01
    isplitl [k_lo02]
    · iapply (gl_intro c 0 2); iexact k_lo02
    isplitl [k_lo10]
    · iapply (gl_intro c 1 0); iexact k_lo10
    isplitl [k_lo11]
    · iapply (gl_intro c 1 1); iexact k_lo11
    isplitl [k_lo12]
    · iapply (gl_intro c 1 2); iexact k_lo12
    isplitl [k_lo20]
    · iapply (gl_intro c 2 0); iexact k_lo20
    isplitl [k_lo21]
    · iapply (gl_intro c 2 1); iexact k_lo21
    isplitl [k_lo22]
    · iapply (gl_intro c 2 2); iexact k_lo22
    isplitl [k_lo30]
    · iapply (gl_intro c 3 0); iexact k_lo30
    isplitl [k_lo31]
    · iapply (gl_intro c 3 1); iexact k_lo31
    iapply (gl_intro c 3 2); iexact k_lo32
  isplitl [k_ss0 k_rr00 k_rr01 k_rr02 k_rr03 k_rr04 k_rr05 k_rr06 cR00 cR01 cR02 cR03 cR04 cR05 cR06]
  · iapply (seed_intro m K c 0)
    isplitr; · iexact HR
    isplitl [k_ss0]; · iexact k_ss0
    isplitl [k_rr00 cR00]
    · unfold hopKit; isplitl [k_rr00]; · iexact k_rr00
      iexact cR00
    isplitl [k_rr01 cR01]
    · unfold hopKit; isplitl [k_rr01]; · iexact k_rr01
      iexact cR01
    isplitl [k_rr02 cR02]
    · unfold hopKit; isplitl [k_rr02]; · iexact k_rr02
      iexact cR02
    isplitl [k_rr03 cR03]
    · unfold hopKit; isplitl [k_rr03]; · iexact k_rr03
      iexact cR03
    isplitl [k_rr04 cR04]
    · unfold hopKit; isplitl [k_rr04]; · iexact k_rr04
      iexact cR04
    isplitl [k_rr05 cR05]
    · unfold hopKit; isplitl [k_rr05]; · iexact k_rr05
      iexact cR05
    unfold hopKit; isplitl [k_rr06]; · iexact k_rr06
    iexact cR06
  isplitl [k_ss1 k_rr10 k_rr11 k_rr12 k_rr13 k_rr14 k_rr15 k_rr16 cR10 cR11 cR12 cR13 cR14 cR15 cR16]
  · iapply (seed_intro m K c 1)
    isplitr; · iexact HR
    isplitl [k_ss1]; · iexact k_ss1
    isplitl [k_rr10 cR10]
    · unfold hopKit; isplitl [k_rr10]; · iexact k_rr10
      iexact cR10
    isplitl [k_rr11 cR11]
    · unfold hopKit; isplitl [k_rr11]; · iexact k_rr11
      iexact cR11
    isplitl [k_rr12 cR12]
    · unfold hopKit; isplitl [k_rr12]; · iexact k_rr12
      iexact cR12
    isplitl [k_rr13 cR13]
    · unfold hopKit; isplitl [k_rr13]; · iexact k_rr13
      iexact cR13
    isplitl [k_rr14 cR14]
    · unfold hopKit; isplitl [k_rr14]; · iexact k_rr14
      iexact cR14
    isplitl [k_rr15 cR15]
    · unfold hopKit; isplitl [k_rr15]; · iexact k_rr15
      iexact cR15
    unfold hopKit; isplitl [k_rr16]; · iexact k_rr16
    iexact cR16
  isplitl [k_ss2 k_rr20 k_rr21 k_rr22 k_rr23 k_rr24 k_rr25 k_rr26 cR20 cR21 cR22 cR23 cR24 cR25 cR26]
  · iapply (seed_intro m K c 2)
    isplitr; · iexact HR
    isplitl [k_ss2]; · iexact k_ss2
    isplitl [k_rr20 cR20]
    · unfold hopKit; isplitl [k_rr20]; · iexact k_rr20
      iexact cR20
    isplitl [k_rr21 cR21]
    · unfold hopKit; isplitl [k_rr21]; · iexact k_rr21
      iexact cR21
    isplitl [k_rr22 cR22]
    · unfold hopKit; isplitl [k_rr22]; · iexact k_rr22
      iexact cR22
    isplitl [k_rr23 cR23]
    · unfold hopKit; isplitl [k_rr23]; · iexact k_rr23
      iexact cR23
    isplitl [k_rr24 cR24]
    · unfold hopKit; isplitl [k_rr24]; · iexact k_rr24
      iexact cR24
    isplitl [k_rr25 cR25]
    · unfold hopKit; isplitl [k_rr25]; · iexact k_rr25
      iexact cR25
    unfold hopKit; isplitl [k_rr26]; · iexact k_rr26
    iexact cR26
  iapply (seed_intro m K c 3)
  isplitr; · iexact HR
  isplitl [k_ss3]; · iexact k_ss3
  isplitl [k_rr30 cR30]
  · unfold hopKit; isplitl [k_rr30]; · iexact k_rr30
    iexact cR30
  isplitl [k_rr31 cR31]
  · unfold hopKit; isplitl [k_rr31]; · iexact k_rr31
    iexact cR31
  isplitl [k_rr32 cR32]
  · unfold hopKit; isplitl [k_rr32]; · iexact k_rr32
    iexact cR32
  isplitl [k_rr33 cR33]
  · unfold hopKit; isplitl [k_rr33]; · iexact k_rr33
    iexact cR33
  isplitl [k_rr34 cR34]
  · unfold hopKit; isplitl [k_rr34]; · iexact k_rr34
    iexact cR34
  isplitl [k_rr35 cR35]
  · unfold hopKit; isplitl [k_rr35]; · iexact k_rr35
    iexact cR35
  unfold hopKit; isplitl [k_rr36]; · iexact k_rr36
  iexact cR36

/-! ## Closing the semaphores -/

/-- The round each semaphore ends at. -/
def endR (k : Fin 53) : ℕ := match kd (sl k) with | .ss _ => 7 | _ => 1

theorem dutK_end (k : Fin 53) : ∀ r, endR k ≤ r → dutK (kd (sl k)) r = ∅ := by
  intro r hr
  unfold endR at hr
  generalize kd (sl k) = x at hr
  cases x <;> dsimp only at hr <;> unfold dutK <;> dsimp only <;> first | rfl | exact if_neg (by omega)

theorem close_one (k : Fin 53) : iprop(recs m K ∗ atPos ER (kcell (c, k)) (endR k) ∅ 0) ⊢ (|={Set.univ}=> semVal (kcell (c, k)) 0 : sProp 𝕄) := by
  have h := Rounds.cell_close ER (Rd m) (κ := K (c, k)) (g := kcell (c, k)) (Es := Set.univ) (Set.mem_univ _) (fun h => h) (R := endR k)
    (duties_later m c (sl k) (endR k) (dutK_end k))
  refine BIBase.Entails.trans ?_ h
  unfold recs
  iintro ⟨⟨#HI, -, -⟩, Ha⟩
  isplitr; · iapply (inv_at m K (c, k)); iexact HI
  iexact Ha

/-- Every position past its last round: every semaphore at zero. -/
theorem close_all : iprop(recs m K ∗ bigSep Finset.univ fun k : Fin 53 => atPos ER (kcell (c, k)) (endR k) ∅ 0)
    ⊢ (|={Set.univ}=> iprop(unscopedSems0 c ∗ Pipeline.ownSems0 (Ix := Unit) (Name := ℕ) (U := UU) (Lvl := ℕ) (Val := Elt F) (τ := τ) osem c) : sProp 𝕄) := by
  rw [← sems0_eq]
  exact (bigSep_with (R := recs m K) fun k _ => close_one m K c k).trans (bigSep_fupd _ _)

omit [FloatOps F] in
theorem end_dma (q : DmaSem sig) (h0 : q.val ≠ 0) (R : ℕ) (hR : endR (kq q) = R) :
    atPos ER (dC c q) R ∅ 0 ⊢ (atPos ER (kcell (c, kq q)) (endR (kq q)) ∅ 0 : sProp 𝕄) := by
  rw [hR, kcell_dma c q h0]

end Cert.KernelIdeal.Ring

end
-- ==== Proof.Ideal.Ends.lean ====
/-
From what the launch gives a device to what its body starts from, and from what its body ends with to what the run is read from.
-/
module

public import proofs.«01_k».proof.Proof.Ideal.Deal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

variable (c : Dev nD)

/-- What the run is read from at the end of a device's part: its semaphores at zero, its arguments as they were, its result. -/
def Left : sProp 𝕄 :=
  iprop(((c : Thread nD τ).loc main_arg0 ↦{fullShare.left} m ((c : Thread nD τ).loc main_arg0)) ∗ ((c : Thread nD τ).loc main_arg1 ↦{fullShare.left} m ((c : Thread nD τ).loc main_arg1)))

/-- From what the launch gives a device, what its body starts from. -/
theorem body_start :
    iprop(recs m K ∗ Lin (F := F) c ∗ cash (F := F) c L0 ∗ ((c : Thread nD τ).loc main_arg0 ↦{fullShare} m ((c : Thread nD τ).loc main_arg0)) ∗ ((c : Thread nD τ).loc main_arg1 ↦{fullShare} m ((c : Thread nD τ).loc main_arg1))
        ∗ ((c : Thread nD τ).loc main_v1 ↦{fullShare} m ((c : Thread nD τ).loc main_v1)) ∗ (∃ f : Buf (Elt F) ((c : Thread nD τ).loc cc0_scratch0), (c : Thread nD τ).loc cc0_scratch0 ↦{fullShare} f) ∗ (∃ f : Buf (Elt F) ((c : Thread nD τ).loc cc0_scratch1), (c : Thread nD τ).loc cc0_scratch1 ↦{fullShare} f) ∗ (∃ f : Buf (Elt F) ((c : Thread nD τ).loc cc0_scratch2), (c : Thread nD τ).loc cc0_scratch2 ↦{fullShare} f) ∗ (∃ f : Buf (Elt F) ((c : Thread nD τ).loc cc0_scratch3), (c : Thread nD τ).loc cc0_scratch3 ↦{fullShare} f)
        ∗ ownsF c (Memref.whole cc0_stg0_0 : Memref sig .tc .vmem S2048 .f32) (gV m c) ∗ ow (F := F) c (due 0))
      ⊢ iprop(Left m c ∗ dutyTok ER (barC (xp c)) 0 (0 : Fin 3) ∗ dutyTok ER (barC (rgt c)) 0 (2 : Fin 3) ∗ dutyTok ER (barC (lft c)) 0 (1 : Fin 3) ∗ lands (F := F) c ∗ outs (F := F) c 0 ∗ outs (F := F) c 1 ∗ outs (F := F) c 2 ∗ outs (F := F) c 3 ∗ cred (tallyAt (barC c) () 3) ∗ atPos ER (barC c) 0 ∅ 0 ∗ owns (c : Thread nD τ) (aM (rid c) 0) (shr 0) (pV m c 0) ∗ owns (c : Thread nD τ) (aM (rid c) 0) (shr 4) (pV m c 0) ∗ owns (c : Thread nD τ) (gM (rid c) 0) (shr 0) (rV m c 0) ∗ dutyTok ER (dC c (psS 0)) 0 (0 : Fin 3) ∗ dutyTok ER (dC (xp c) (prS 0)) 0 (0 : Fin 3) ∗ atPos ER (dC c (psS 0)) 0 ∅ 0 ∗ atPos ER (dC c (prS 0)) 0 ∅ 0 ∗ cred (tallyAt (dC c (prS 0)) () N) ∗ dutyTok ER (dC c (loS 0 0)) 0 (0 : Fin 3) ∗ atPos ER (dC c (loS 0 0)) 0 ∅ 0 ∗ dutyTok ER (dC c (loS 0 1)) 0 (0 : Fin 3) ∗ atPos ER (dC c (loS 0 1)) 0 ∅ 0 ∗ dutyTok ER (dC c (loS 0 2)) 0 (0 : Fin 3) ∗ atPos ER (dC c (loS 0 2)) 0 ∅ 0 ∗ ownsAny (F := F) c (pcM 0) ∗ ownsAny (F := F) c (rcM 0) ∗ ownsAny (F := F) c (ocM 0) ∗ ownsAny (F := F) c (oM (rid c) 0) ∗ Seed (F := F) c 0 ∗ owns (c : Thread nD τ) (aM (rid c) 2) (shr 2) (pV m c 2) ∗ owns (c : Thread nD τ) (aM (rid c) 2) (shr 6) (pV m c 2) ∗ owns (c : Thread nD τ) (gM (rid c) 2) (shr 2) (rV m c 2) ∗ dutyTok ER (dC c (psS 1)) 0 (0 : Fin 3) ∗ dutyTok ER (dC (xp c) (prS 1)) 0 (0 : Fin 3) ∗ atPos ER (dC c (psS 1)) 0 ∅ 0 ∗ atPos ER (dC c (prS 1)) 0 ∅ 0 ∗ cred (tallyAt (dC c (prS 1)) () N) ∗ dutyTok ER (dC c (loS 2 0)) 0 (0 : Fin 3) ∗ atPos ER (dC c (loS 2 0)) 0 ∅ 0 ∗ dutyTok ER (dC c (loS 2 1)) 0 (0 : Fin 3) ∗ atPos ER (dC c (loS 2 1)) 0 ∅ 0 ∗ dutyTok ER (dC c (loS 2 2)) 0 (0 : Fin 3) ∗ atPos ER (dC c (loS 2 2)) 0 ∅ 0 ∗ ownsAny (F := F) c (pcM 2) ∗ ownsAny (F := F) c (rcM 2) ∗ ownsAny (F := F) c (ocM 2) ∗ ownsAny (F := F) c (oM (rid c) 2) ∗ Seed (F := F) c 2 ∗ owns (c : Thread nD τ) (aM (rid c) 1) (shr 1) (pV m c 1) ∗ owns (c : Thread nD τ) (aM (rid c) 1) (shr 5) (pV m c 1) ∗ owns (c : Thread nD τ) (gM (rid c) 1) (shr 1) (rV m c 1) ∗ dutyTok ER (dC c (psS 2)) 0 (0 : Fin 3) ∗ dutyTok ER (dC (xp c) (prS 2)) 0 (0 : Fin 3) ∗ atPos ER (dC c (psS 2)) 0 ∅ 0 ∗ atPos ER (dC c (prS 2)) 0 ∅ 0 ∗ cred (tallyAt (dC c (prS 2)) () N) ∗ dutyTok ER (dC c (loS 1 0)) 0 (0 : Fin 3) ∗ atPos ER (dC c (loS 1 0)) 0 ∅ 0 ∗ dutyTok ER (dC c (loS 1 1)) 0 (0 : Fin 3) ∗ atPos ER (dC c (loS 1 1)) 0 ∅ 0 ∗ dutyTok ER (dC c (loS 1 2)) 0 (0 : Fin 3) ∗ atPos ER (dC c (loS 1 2)) 0 ∅ 0 ∗ ownsAny (F := F) c (pcM 1) ∗ ownsAny (F := F) c (rcM 1) ∗ ownsAny (F := F) c (ocM 1) ∗ ownsAny (F := F) c (oM (rid c) 1) ∗ Seed (F := F) c 1 ∗ owns (c : Thread nD τ) (aM (rid c) 3) (shr 3) (pV m c 3) ∗ owns (c : Thread nD τ) (aM (rid c) 3) (shr 7) (pV m c 3) ∗ owns (c : Thread nD τ) (gM (rid c) 3) (shr 3) (rV m c 3) ∗ dutyTok ER (dC c (psS 3)) 0 (0 : Fin 3) ∗ dutyTok ER (dC (xp c) (prS 3)) 0 (0 : Fin 3) ∗ atPos ER (dC c (psS 3)) 0 ∅ 0 ∗ atPos ER (dC c (prS 3)) 0 ∅ 0 ∗ cred (tallyAt (dC c (prS 3)) () N) ∗ dutyTok ER (dC c (loS 3 0)) 0 (0 : Fin 3) ∗ atPos ER (dC c (loS 3 0)) 0 ∅ 0 ∗ dutyTok ER (dC c (loS 3 1)) 0 (0 : Fin 3) ∗ atPos ER (dC c (loS 3 1)) 0 ∅ 0 ∗ dutyTok ER (dC c (loS 3 2)) 0 (0 : Fin 3) ∗ atPos ER (dC c (loS 3 2)) 0 ∅ 0 ∗ ownsAny (F := F) c (pcM 3) ∗ ownsAny (F := F) c (rcM 3) ∗ ownsAny (F := F) c (ocM 3) ∗ ownsAny (F := F) c (oM (rid c) 3) ∗ Seed (F := F) c 3 ∗ ownsF c (Memref.whole cc0_stg0_0 : Memref sig .tc .vmem S2048 .f32) (gV m c) ∗ ow (F := F) c (due 0)) := by
  iintro ⟨#HR, Hlin, Hcash, Ha0, Ha1, Hv, Hs0, Hs1, Hs2, Hs3, Hg, HO⟩
  ihave Hd := (deal m K c) $$ [Hlin Hcash]
  · isplitr; · iexact HR
    isplitl [Hlin]; · iexact Hlin
    iexact Hcash
  unfold GB GX GL
  icases Hd with ⟨HB, ⟨HX0, HX1, HX2, HX3⟩, ⟨⟨Htlo00, Halo00⟩, ⟨Htlo01, Halo01⟩, ⟨Htlo02, Halo02⟩, ⟨Htlo10, Halo10⟩, ⟨Htlo11, Halo11⟩, ⟨Htlo12, Halo12⟩, ⟨Htlo20, Halo20⟩, ⟨Htlo21, Halo21⟩, ⟨Htlo22, Halo22⟩, ⟨Htlo30, Halo30⟩, ⟨Htlo31, Halo31⟩, ⟨Htlo32, Halo32⟩⟩, ⟨Hst0, Hst1, Hst2, Hst3⟩⟩
  icases HB with ⟨Htb0, Htb1, Htb2, Hcb, Hab⟩
  icases HX0 with ⟨Htps0, Htpr0, Haps0, Hapr0, Hcpr0⟩
  icases HX1 with ⟨Htps1, Htpr1, Haps1, Hapr1, Hcpr1⟩
  icases HX2 with ⟨Htps2, Htpr2, Haps2, Hapr2, Hcpr2⟩
  icases HX3 with ⟨Htps3, Htpr3, Haps3, Hapr3, Hcpr3⟩
  ihave Ha0 := (arg0_cut m c) $$ Ha0
  icases Ha0 with ⟨Ha0, HaX0, HaX1, HaX2, HaX3, HaP0, HaP1, HaP2, HaP3⟩
  ihave Ha1 := (arg1_cut m c) $$ Ha1
  icases Ha1 with ⟨Ha1, HgR0, HgR1, HgR2, HgR3⟩
  ihave Hv := (show ((c : Thread nD τ).loc main_v1 ↦{fullShare} m ((c : Thread nD τ).loc main_v1) : sProp 𝕄) ⊢ bigSep Finset.univ fun s : Fin 4 => iprop(ownsAny (F := F) c (oM (rid c) s) ∗ outs (F := F) c s) from by
    refine BIBase.Entails.trans ?_ ((any_whole c main_v1).trans (out_cut c))
    iintro H; iexists _; iexact H) $$ Hv
  ihave Hv := (Entails.of_eq (four _)) $$ Hv
  icases Hv with ⟨⟨Hor0, Hou0⟩, ⟨Hor1, Hou1⟩, ⟨Hor2, Hou2⟩, ⟨Hor3, Hou3⟩⟩
  ihave Hld := ((any_whole c cc0_scratch0).trans (lands_cut c)) $$ Hs0
  ihave Hs1 := ((any_whole c cc0_scratch1).trans ((chunks_cut c (Memref.whole cc0_scratch1)).trans (Entails.of_eq (four _)))) $$ Hs1
  icases Hs1 with ⟨Hpc0, Hpc1, Hpc2, Hpc3⟩
  ihave Hs2 := ((any_whole c cc0_scratch2).trans ((chunks_cut c (Memref.whole cc0_scratch2)).trans (Entails.of_eq (four _)))) $$ Hs2
  icases Hs2 with ⟨Hrc0, Hrc1, Hrc2, Hrc3⟩
  ihave Hs3 := ((any_whole c cc0_scratch3).trans ((chunks_cut c (Memref.whole cc0_scratch3)).trans (Entails.of_eq (four _)))) $$ Hs3
  icases Hs3 with ⟨Hoc0, Hoc1, Hoc2, Hoc3⟩
  isplitl [Ha0 Ha1]
  · unfold Left
    isplitl [Ha0]; · iexact Ha0
    iexact Ha1
  isplitl [Htb0]; · iexact Htb0
  isplitl [Htb1]; · iexact Htb1
  isplitl [Htb2]; · iexact Htb2
  isplitl [Hld]; · iexact Hld
  isplitl [Hou0]; · iexact Hou0
  isplitl [Hou1]; · iexact Hou1
  isplitl [Hou2]; · iexact Hou2
  isplitl [Hou3]; · iexact Hou3
  isplitl [Hcb]; · iexact Hcb
  isplitl [Hab]; · iexact Hab
  isplitl [HaX0]; · iexact HaX0
  isplitl [HaP0]; · iexact HaP0
  isplitl [HgR0]; · iexact HgR0
  isplitl [Htps0]; · iexact Htps0
  isplitl [Htpr0]; · iexact Htpr0
  isplitl [Haps0]; · iexact Haps0
  isplitl [Hapr0]; · iexact Hapr0
  isplitl [Hcpr0]; · iexact Hcpr0
  isplitl [Htlo00]; · iexact Htlo00
  isplitl [Halo00]; · iexact Halo00
  isplitl [Htlo01]; · iexact Htlo01
  isplitl [Halo01]; · iexact Halo01
  isplitl [Htlo02]; · iexact Htlo02
  isplitl [Halo02]; · iexact Halo02
  isplitl [Hpc0]; · iexact Hpc0
  isplitl [Hrc0]; · iexact Hrc0
  isplitl [Hoc0]; · iexact Hoc0
  isplitl [Hor0]; · iexact Hor0
  isplitl [Hst0]; · iexact Hst0
  isplitl [HaX2]; · iexact HaX2
  isplitl [HaP2]; · iexact HaP2
  isplitl [HgR2]; · iexact HgR2
  isplitl [Htps1]; · iexact Htps1
  isplitl [Htpr1]; · iexact Htpr1
  isplitl [Haps1]; · iexact Haps1
  isplitl [Hapr1]; · iexact Hapr1
  isplitl [Hcpr1]; · iexact Hcpr1
  isplitl [Htlo20]; · iexact Htlo20
  isplitl [Halo20]; · iexact Halo20
  isplitl [Htlo21]; · iexact Htlo21
  isplitl [Halo21]; · iexact Halo21
  isplitl [Htlo22]; · iexact Htlo22
  isplitl [Halo22]; · iexact Halo22
  isplitl [Hpc2]; · iexact Hpc2
  isplitl [Hrc2]; · iexact Hrc2
  isplitl [Hoc2]; · iexact Hoc2
  isplitl [Hor2]; · iexact Hor2
  isplitl [Hst2]; · iexact Hst2
  isplitl [HaX1]; · iexact HaX1
  isplitl [HaP1]; · iexact HaP1
  isplitl [HgR1]; · iexact HgR1
  isplitl [Htps2]; · iexact Htps2
  isplitl [Htpr2]; · iexact Htpr2
  isplitl [Haps2]; · iexact Haps2
  isplitl [Hapr2]; · iexact Hapr2
  isplitl [Hcpr2]; · iexact Hcpr2
  isplitl [Htlo10]; · iexact Htlo10
  isplitl [Halo10]; · iexact Halo10
  isplitl [Htlo11]; · iexact Htlo11
  isplitl [Halo11]; · iexact Halo11
  isplitl [Htlo12]; · iexact Htlo12
  isplitl [Halo12]; · iexact Halo12
  isplitl [Hpc1]; · iexact Hpc1
  isplitl [Hrc1]; · iexact Hrc1
  isplitl [Hoc1]; · iexact Hoc1
  isplitl [Hor1]; · iexact Hor1
  isplitl [Hst1]; · iexact Hst1
  isplitl [HaX3]; · iexact HaX3
  isplitl [HaP3]; · iexact HaP3
  isplitl [HgR3]; · iexact HgR3
  isplitl [Htps3]; · iexact Htps3
  isplitl [Htpr3]; · iexact Htpr3
  isplitl [Haps3]; · iexact Haps3
  isplitl [Hapr3]; · iexact Hapr3
  isplitl [Hcpr3]; · iexact Hcpr3
  isplitl [Htlo30]; · iexact Htlo30
  isplitl [Halo30]; · iexact Halo30
  isplitl [Htlo31]; · iexact Htlo31
  isplitl [Halo31]; · iexact Halo31
  isplitl [Htlo32]; · iexact Htlo32
  isplitl [Halo32]; · iexact Halo32
  isplitl [Hpc3]; · iexact Hpc3
  isplitl [Hrc3]; · iexact Hrc3
  isplitl [Hoc3]; · iexact Hoc3
  isplitl [Hor3]; · iexact Hor3
  isplitl [Hst3]; · iexact Hst3
  isplitl [Hg]; · iexact Hg
  iexact HO

/-- What a device's body leaves when it has run. -/
def Done : sProp 𝕄 :=
  iprop(unscopedSems0 c ∗ Pipeline.ownSems0 (Ix := Unit) (Name := ℕ) (U := UU) (Lvl := ℕ) (Val := Elt F) (τ := τ) osem c ∗ Left m c
    ∗ (∃ f : Buf (Elt F) ((c : Thread nD τ).loc main_v1), ⌜Good m c f⌝ ∗ (c : Thread nD τ).loc main_v1 ↦{fullShare} f) ∗ (∃ f : Buf (Elt F) ((c : Thread nD τ).loc cc0_scratch0), (c : Thread nD τ).loc cc0_scratch0 ↦{fullShare} f) ∗ (∃ f : Buf (Elt F) ((c : Thread nD τ).loc cc0_scratch1), (c : Thread nD τ).loc cc0_scratch1 ↦{fullShare} f) ∗ (∃ f : Buf (Elt F) ((c : Thread nD τ).loc cc0_scratch2), (c : Thread nD τ).loc cc0_scratch2 ↦{fullShare} f) ∗ (∃ f : Buf (Elt F) ((c : Thread nD τ).loc cc0_scratch3), (c : Thread nD τ).loc cc0_scratch3 ↦{fullShare} f))

/-- A device's positions at the end, gathered. -/
theorem positions :
    iprop(atPos ER (barC c) 1 ∅ 0 ∗ atPos ER (dC c (psS 0)) 1 ∅ 0 ∗ atPos ER (dC c (psS 1)) 1 ∅ 0 ∗ atPos ER (dC c (psS 2)) 1 ∅ 0 ∗ atPos ER (dC c (psS 3)) 1 ∅ 0 ∗ atPos ER (dC c (prS 0)) 1 ∅ 0 ∗ atPos ER (dC c (prS 1)) 1 ∅ 0 ∗ atPos ER (dC c (prS 2)) 1 ∅ 0 ∗ atPos ER (dC c (prS 3)) 1 ∅ 0 ∗ atPos ER (dC c (ssS 0)) 7 ∅ 0 ∗ atPos ER (dC c (ssS 1)) 7 ∅ 0 ∗ atPos ER (dC c (ssS 2)) 7 ∅ 0 ∗ atPos ER (dC c (ssS 3)) 7 ∅ 0 ∗ atPos ER (dC c (rrS 0 0)) 1 ∅ 0 ∗ atPos ER (dC c (rrS 0 1)) 1 ∅ 0 ∗ atPos ER (dC c (rrS 0 2)) 1 ∅ 0 ∗ atPos ER (dC c (rrS 0 3)) 1 ∅ 0 ∗ atPos ER (dC c (rrS 0 4)) 1 ∅ 0 ∗ atPos ER (dC c (rrS 0 5)) 1 ∅ 0 ∗ atPos ER (dC c (rrS 0 6)) 1 ∅ 0 ∗ atPos ER (dC c (rrS 1 0)) 1 ∅ 0 ∗ atPos ER (dC c (rrS 1 1)) 1 ∅ 0 ∗ atPos ER (dC c (rrS 1 2)) 1 ∅ 0 ∗ atPos ER (dC c (rrS 1 3)) 1 ∅ 0 ∗ atPos ER (dC c (rrS 1 4)) 1 ∅ 0 ∗ atPos ER (dC c (rrS 1 5)) 1 ∅ 0 ∗ atPos ER (dC c (rrS 1 6)) 1 ∅ 0 ∗ atPos ER (dC c (rrS 2 0)) 1 ∅ 0 ∗ atPos ER (dC c (rrS 2 1)) 1 ∅ 0 ∗ atPos ER (dC c (rrS 2 2)) 1 ∅ 0 ∗ atPos ER (dC c (rrS 2 3)) 1 ∅ 0 ∗ atPos ER (dC c (rrS 2 4)) 1 ∅ 0 ∗ atPos ER (dC c (rrS 2 5)) 1 ∅ 0 ∗ atPos ER (dC c (rrS 2 6)) 1 ∅ 0 ∗ atPos ER (dC c (rrS 3 0)) 1 ∅ 0 ∗ atPos ER (dC c (rrS 3 1)) 1 ∅ 0 ∗ atPos ER (dC c (rrS 3 2)) 1 ∅ 0 ∗ atPos ER (dC c (rrS 3 3)) 1 ∅ 0 ∗ atPos ER (dC c (rrS 3 4)) 1 ∅ 0 ∗ atPos ER (dC c (rrS 3 5)) 1 ∅ 0 ∗ atPos ER (dC c (rrS 3 6)) 1 ∅ 0 ∗ atPos ER (dC c (loS 0 0)) 1 ∅ 0 ∗ atPos ER (dC c (loS 0 1)) 1 ∅ 0 ∗ atPos ER (dC c (loS 1 0)) 1 ∅ 0 ∗ atPos ER (dC c (loS 1 1)) 1 ∅ 0 ∗ atPos ER (dC c (loS 2 0)) 1 ∅ 0 ∗ atPos ER (dC c (loS 2 1)) 1 ∅ 0 ∗ atPos ER (dC c (loS 3 0)) 1 ∅ 0 ∗ atPos ER (dC c (loS 3 1)) 1 ∅ 0 ∗ atPos ER (dC c (loS 0 2)) 1 ∅ 0 ∗ atPos ER (dC c (loS 1 2)) 1 ∅ 0 ∗ atPos ER (dC c (loS 2 2)) 1 ∅ 0 ∗ atPos ER (dC c (loS 3 2)) 1 ∅ 0) ⊢ (bigSep Finset.univ fun k : Fin 53 => atPos ER (kcell (c, k)) (endR k) ∅ 0 : sProp 𝕄) := by
  rw [keys]
  iintro ⟨Hab, Haps0, Haps1, Haps2, Haps3, Hapr0, Hapr1, Hapr2, Hapr3, Hss0, Hss1, Hss2, Hss3, Hrr00, Hrr01, Hrr02, Hrr03, Hrr04, Hrr05, Hrr06, Hrr10, Hrr11, Hrr12, Hrr13, Hrr14, Hrr15, Hrr16, Hrr20, Hrr21, Hrr22, Hrr23, Hrr24, Hrr25, Hrr26, Hrr30, Hrr31, Hrr32, Hrr33, Hrr34, Hrr35, Hrr36, Halo00, Halo01, Halo10, Halo11, Halo20, Halo21, Halo30, Halo31, Halo02, Halo12, Halo22, Halo32⟩
  isplitl [Hab]; · iexact Hab
  isplitl [Haps0]; · iapply (end_dma c (psS 0) (psS_ne 0) 1 rfl); iexact Haps0
  isplitl [Haps1]; · iapply (end_dma c (psS 1) (psS_ne 1) 1 rfl); iexact Haps1
  isplitl [Haps2]; · iapply (end_dma c (psS 2) (psS_ne 2) 1 rfl); iexact Haps2
  isplitl [Haps3]; · iapply (end_dma c (psS 3) (psS_ne 3) 1 rfl); iexact Haps3
  isplitl [Hapr0]; · iapply (end_dma c (prS 0) (prS_ne 0) 1 rfl); iexact Hapr0
  isplitl [Hapr1]; · iapply (end_dma c (prS 1) (prS_ne 1) 1 rfl); iexact Hapr1
  isplitl [Hapr2]; · iapply (end_dma c (prS 2) (prS_ne 2) 1 rfl); iexact Hapr2
  isplitl [Hapr3]; · iapply (end_dma c (prS 3) (prS_ne 3) 1 rfl); iexact Hapr3
  isplitl [Hss0]; · iapply (end_dma c (ssS 0) (ssS_ne 0) 7 rfl); iexact Hss0
  isplitl [Hss1]; · iapply (end_dma c (ssS 1) (ssS_ne 1) 7 rfl); iexact Hss1
  isplitl [Hss2]; · iapply (end_dma c (ssS 2) (ssS_ne 2) 7 rfl); iexact Hss2
  isplitl [Hss3]; · iapply (end_dma c (ssS 3) (ssS_ne 3) 7 rfl); iexact Hss3
  isplitl [Hrr00]; · iapply (end_dma c (rrS 0 0) (rrS_ne 0 0) 1 rfl); iexact Hrr00
  isplitl [Hrr01]; · iapply (end_dma c (rrS 0 1) (rrS_ne 0 1) 1 rfl); iexact Hrr01
  isplitl [Hrr02]; · iapply (end_dma c (rrS 0 2) (rrS_ne 0 2) 1 rfl); iexact Hrr02
  isplitl [Hrr03]; · iapply (end_dma c (rrS 0 3) (rrS_ne 0 3) 1 rfl); iexact Hrr03
  isplitl [Hrr04]; · iapply (end_dma c (rrS 0 4) (rrS_ne 0 4) 1 rfl); iexact Hrr04
  isplitl [Hrr05]; · iapply (end_dma c (rrS 0 5) (rrS_ne 0 5) 1 rfl); iexact Hrr05
  isplitl [Hrr06]; · iapply (end_dma c (rrS 0 6) (rrS_ne 0 6) 1 rfl); iexact Hrr06
  isplitl [Hrr10]; · iapply (end_dma c (rrS 1 0) (rrS_ne 1 0) 1 rfl); iexact Hrr10
  isplitl [Hrr11]; · iapply (end_dma c (rrS 1 1) (rrS_ne 1 1) 1 rfl); iexact Hrr11
  isplitl [Hrr12]; · iapply (end_dma c (rrS 1 2) (rrS_ne 1 2) 1 rfl); iexact Hrr12
  isplitl [Hrr13]; · iapply (end_dma c (rrS 1 3) (rrS_ne 1 3) 1 rfl); iexact Hrr13
  isplitl [Hrr14]; · iapply (end_dma c (rrS 1 4) (rrS_ne 1 4) 1 rfl); iexact Hrr14
  isplitl [Hrr15]; · iapply (end_dma c (rrS 1 5) (rrS_ne 1 5) 1 rfl); iexact Hrr15
  isplitl [Hrr16]; · iapply (end_dma c (rrS 1 6) (rrS_ne 1 6) 1 rfl); iexact Hrr16
  isplitl [Hrr20]; · iapply (end_dma c (rrS 2 0) (rrS_ne 2 0) 1 rfl); iexact Hrr20
  isplitl [Hrr21]; · iapply (end_dma c (rrS 2 1) (rrS_ne 2 1) 1 rfl); iexact Hrr21
  isplitl [Hrr22]; · iapply (end_dma c (rrS 2 2) (rrS_ne 2 2) 1 rfl); iexact Hrr22
  isplitl [Hrr23]; · iapply (end_dma c (rrS 2 3) (rrS_ne 2 3) 1 rfl); iexact Hrr23
  isplitl [Hrr24]; · iapply (end_dma c (rrS 2 4) (rrS_ne 2 4) 1 rfl); iexact Hrr24
  isplitl [Hrr25]; · iapply (end_dma c (rrS 2 5) (rrS_ne 2 5) 1 rfl); iexact Hrr25
  isplitl [Hrr26]; · iapply (end_dma c (rrS 2 6) (rrS_ne 2 6) 1 rfl); iexact Hrr26
  isplitl [Hrr30]; · iapply (end_dma c (rrS 3 0) (rrS_ne 3 0) 1 rfl); iexact Hrr30
  isplitl [Hrr31]; · iapply (end_dma c (rrS 3 1) (rrS_ne 3 1) 1 rfl); iexact Hrr31
  isplitl [Hrr32]; · iapply (end_dma c (rrS 3 2) (rrS_ne 3 2) 1 rfl); iexact Hrr32
  isplitl [Hrr33]; · iapply (end_dma c (rrS 3 3) (rrS_ne 3 3) 1 rfl); iexact Hrr33
  isplitl [Hrr34]; · iapply (end_dma c (rrS 3 4) (rrS_ne 3 4) 1 rfl); iexact Hrr34
  isplitl [Hrr35]; · iapply (end_dma c (rrS 3 5) (rrS_ne 3 5) 1 rfl); iexact Hrr35
  isplitl [Hrr36]; · iapply (end_dma c (rrS 3 6) (rrS_ne 3 6) 1 rfl); iexact Hrr36
  isplitl [Halo00]; · iapply (end_dma c (loS 0 0) (loS_ne 0 0) 1 rfl); iexact Halo00
  isplitl [Halo01]; · iapply (end_dma c (loS 0 1) (loS_ne 0 1) 1 rfl); iexact Halo01
  isplitl [Halo10]; · iapply (end_dma c (loS 1 0) (loS_ne 1 0) 1 rfl); iexact Halo10
  isplitl [Halo11]; · iapply (end_dma c (loS 1 1) (loS_ne 1 1) 1 rfl); iexact Halo11
  isplitl [Halo20]; · iapply (end_dma c (loS 2 0) (loS_ne 2 0) 1 rfl); iexact Halo20
  isplitl [Halo21]; · iapply (end_dma c (loS 2 1) (loS_ne 2 1) 1 rfl); iexact Halo21
  isplitl [Halo30]; · iapply (end_dma c (loS 3 0) (loS_ne 3 0) 1 rfl); iexact Halo30
  isplitl [Halo31]; · iapply (end_dma c (loS 3 1) (loS_ne 3 1) 1 rfl); iexact Halo31
  isplitl [Halo02]; · iapply (end_dma c (loS 0 2) (loS_ne 0 2) 1 rfl); iexact Halo02
  isplitl [Halo12]; · iapply (end_dma c (loS 1 2) (loS_ne 1 2) 1 rfl); iexact Halo12
  isplitl [Halo22]; · iapply (end_dma c (loS 2 2) (loS_ne 2 2) 1 rfl); iexact Halo22
  iapply (end_dma c (loS 3 2) (loS_ne 3 2) 1 rfl); iexact Halo32

/-- From what the body ends with, the semaphores closed and the buffers joined. -/
theorem body_end :
    iprop(recs m K ∗ Left m c ∗ atPos ER (barC c) 1 ∅ 0 ∗ atPos ER (dC c (psS 0)) 1 ∅ 0 ∗ atPos ER (dC c (prS 0)) 1 ∅ 0 ∗ atPos ER (dC c (loS 0 0)) 1 ∅ 0 ∗ atPos ER (dC c (loS 0 1)) 1 ∅ 0 ∗ ownsF c (pcM 0) (pV m c 0) ∗ ownsF c (prM 0) (pV m (xp c) 0) ∗ ownsF c (rcM 0) (rV m c 0) ∗ atPos ER (dC c (loS 0 2)) 1 ∅ 0 ∗ ownsAny (F := F) c (ocM 0) ∗ atPos ER (dC c (psS 1)) 1 ∅ 0 ∗ atPos ER (dC c (prS 1)) 1 ∅ 0 ∗ atPos ER (dC c (loS 2 0)) 1 ∅ 0 ∗ atPos ER (dC c (loS 2 1)) 1 ∅ 0 ∗ ownsF c (pcM 2) (pV m c 2) ∗ ownsF c (prM 2) (pV m (xp c) 2) ∗ ownsF c (rcM 2) (rV m c 2) ∗ atPos ER (dC c (loS 2 2)) 1 ∅ 0 ∗ ownsAny (F := F) c (ocM 2) ∗ atPos ER (dC c (psS 2)) 1 ∅ 0 ∗ atPos ER (dC c (prS 2)) 1 ∅ 0 ∗ atPos ER (dC c (loS 1 0)) 1 ∅ 0 ∗ atPos ER (dC c (loS 1 1)) 1 ∅ 0 ∗ ownsF c (pcM 1) (pV m c 1) ∗ ownsF c (prM 1) (pV m (xp c) 1) ∗ ownsF c (rcM 1) (rV m c 1) ∗ atPos ER (dC c (loS 1 2)) 1 ∅ 0 ∗ ownsAny (F := F) c (ocM 1) ∗ atPos ER (dC c (psS 3)) 1 ∅ 0 ∗ atPos ER (dC c (prS 3)) 1 ∅ 0 ∗ atPos ER (dC c (loS 3 0)) 1 ∅ 0 ∗ atPos ER (dC c (loS 3 1)) 1 ∅ 0 ∗ ownsF c (pcM 3) (pV m c 3) ∗ ownsF c (prM 3) (pV m (xp c) 3) ∗ ownsF c (rcM 3) (rV m c 3) ∗ ownsF c (Memref.whole cc0_stg0_0 : Memref sig .tc .vmem S2048 .f32) (gV m c) ∗ atPos ER (dC c (loS 3 2)) 1 ∅ 0 ∗ ownsAny (F := F) c (ocM 3) ∗ Rdy m c 0 7 ∗ Rdy m c 1 7 ∗ Rdy m c 2 7 ∗ Rdy m c 3 7 ∗ ow (F := F) c (due 35))
      ⊢ (|={Set.univ}=> iprop(Done m c ∗ ownsF c (Memref.whole cc0_stg0_0 : Memref sig .tc .vmem S2048 .f32) (gV m c) ∗ ow (F := F) c (due 35)) : sProp 𝕄) := by
  iintro ⟨#HR, HL, Hab, Haps0, Hapr0, Halo00, Halo01, Hpc0, Hpr0, Hrc0, Halo02, Hoc0, Haps1, Hapr1, Halo20, Halo21, Hpc2, Hpr2, Hrc2, Halo22, Hoc2, Haps2, Hapr2, Halo10, Halo11, Hpc1, Hpr1, Hrc1, Halo12, Hoc1, Haps3, Hapr3, Halo30, Halo31, Hpc3, Hpr3, Hrc3, Hg, Halo32, Hoc3, Hst0, Hst1, Hst2, Hst3, HO⟩
  ihave Hst0 := (stream_end m c 0) $$ Hst0
  icases Hst0 with ⟨HW0, Hss0, Hrr00, Hrr01, Hrr02, Hrr03, Hrr04, Hrr05, Hrr06⟩
  ihave Hst1 := (stream_end m c 1) $$ Hst1
  icases Hst1 with ⟨HW1, Hss1, Hrr10, Hrr11, Hrr12, Hrr13, Hrr14, Hrr15, Hrr16⟩
  ihave Hst2 := (stream_end m c 2) $$ Hst2
  icases Hst2 with ⟨HW2, Hss2, Hrr20, Hrr21, Hrr22, Hrr23, Hrr24, Hrr25, Hrr26⟩
  ihave Hst3 := (stream_end m c 3) $$ Hst3
  icases Hst3 with ⟨HW3, Hss3, Hrr30, Hrr31, Hrr32, Hrr33, Hrr34, Hrr35, Hrr36⟩
  ihave Hp := (positions (F := F) c) $$ [Hab Haps0 Haps1 Haps2 Haps3 Hapr0 Hapr1 Hapr2 Hapr3 Hss0 Hss1 Hss2 Hss3 Hrr00 Hrr01 Hrr02 Hrr03 Hrr04 Hrr05 Hrr06 Hrr10 Hrr11 Hrr12 Hrr13 Hrr14 Hrr15 Hrr16 Hrr20 Hrr21 Hrr22 Hrr23 Hrr24 Hrr25 Hrr26 Hrr30 Hrr31 Hrr32 Hrr33 Hrr34 Hrr35 Hrr36 Halo00 Halo01 Halo10 Halo11 Halo20 Halo21 Halo30 Halo31 Halo02 Halo12 Halo22 Halo32]
  · isplitl [Hab]; · iexact Hab
    isplitl [Haps0]; · iexact Haps0
    isplitl [Haps1]; · iexact Haps1
    isplitl [Haps2]; · iexact Haps2
    isplitl [Haps3]; · iexact Haps3
    isplitl [Hapr0]; · iexact Hapr0
    isplitl [Hapr1]; · iexact Hapr1
    isplitl [Hapr2]; · iexact Hapr2
    isplitl [Hapr3]; · iexact Hapr3
    isplitl [Hss0]; · iexact Hss0
    isplitl [Hss1]; · iexact Hss1
    isplitl [Hss2]; · iexact Hss2
    isplitl [Hss3]; · iexact Hss3
    isplitl [Hrr00]; · iexact Hrr00
    isplitl [Hrr01]; · iexact Hrr01
    isplitl [Hrr02]; · iexact Hrr02
    isplitl [Hrr03]; · iexact Hrr03
    isplitl [Hrr04]; · iexact Hrr04
    isplitl [Hrr05]; · iexact Hrr05
    isplitl [Hrr06]; · iexact Hrr06
    isplitl [Hrr10]; · iexact Hrr10
    isplitl [Hrr11]; · iexact Hrr11
    isplitl [Hrr12]; · iexact Hrr12
    isplitl [Hrr13]; · iexact Hrr13
    isplitl [Hrr14]; · iexact Hrr14
    isplitl [Hrr15]; · iexact Hrr15
    isplitl [Hrr16]; · iexact Hrr16
    isplitl [Hrr20]; · iexact Hrr20
    isplitl [Hrr21]; · iexact Hrr21
    isplitl [Hrr22]; · iexact Hrr22
    isplitl [Hrr23]; · iexact Hrr23
    isplitl [Hrr24]; · iexact Hrr24
    isplitl [Hrr25]; · iexact Hrr25
    isplitl [Hrr26]; · iexact Hrr26
    isplitl [Hrr30]; · iexact Hrr30
    isplitl [Hrr31]; · iexact Hrr31
    isplitl [Hrr32]; · iexact Hrr32
    isplitl [Hrr33]; · iexact Hrr33
    isplitl [Hrr34]; · iexact Hrr34
    isplitl [Hrr35]; · iexact Hrr35
    isplitl [Hrr36]; · iexact Hrr36
    isplitl [Halo00]; · iexact Halo00
    isplitl [Halo01]; · iexact Halo01
    isplitl [Halo10]; · iexact Halo10
    isplitl [Halo11]; · iexact Halo11
    isplitl [Halo20]; · iexact Halo20
    isplitl [Halo21]; · iexact Halo21
    isplitl [Halo30]; · iexact Halo30
    isplitl [Halo31]; · iexact Halo31
    isplitl [Halo02]; · iexact Halo02
    isplitl [Halo12]; · iexact Halo12
    isplitl [Halo22]; · iexact Halo22
    iexact Halo32
  imod (close_all m K c) $$ [Hp] with Hz
  · isplitr; · iexact HR
    iexact Hp
  icases Hz with ⟨Hu, Hown⟩
  imodintro
  unfold Done
  isplitr [Hg HO]
  · isplitl [Hu]; · iexact Hu
    isplitl [Hown]; · iexact Hown
    isplitl [HL]; · iexact HL
    isplitl [HW0 HW1 HW2 HW3]
    · iapply (out_join m c)
      rw [four]
      isplitl [HW0]; · iexact HW0
      isplitl [HW1]; · iexact HW1
      isplitl [HW2]; · iexact HW2
      iexact HW3
    isplitl [Hpr0 Hpr1 Hpr2 Hpr3]
    · iapply ((lands_join c).trans (whole_any c cc0_scratch0))
      unfold lands
      isplitl [Hpr0]; · iapply (ownsAny_intro c (prM 0)); iexact Hpr0
      isplitl [Hpr1]; · iapply (ownsAny_intro c (prM 1)); iexact Hpr1
      isplitl [Hpr2]; · iapply (ownsAny_intro c (prM 2)); iexact Hpr2
      iapply (ownsAny_intro c (prM 3)); iexact Hpr3
    isplitl [Hpc0 Hpc1 Hpc2 Hpc3]
    · iapply ((chunks_join c (Memref.whole cc0_scratch1)).trans (whole_any c cc0_scratch1))
      rw [four]
      isplitl [Hpc0]; · iapply (ownsAny_intro c (pcM 0)); iexact Hpc0
      isplitl [Hpc1]; · iapply (ownsAny_intro c (pcM 1)); iexact Hpc1
      isplitl [Hpc2]; · iapply (ownsAny_intro c (pcM 2)); iexact Hpc2
      iapply (ownsAny_intro c (pcM 3)); iexact Hpc3
    isplitl [Hrc0 Hrc1 Hrc2 Hrc3]
    · iapply ((chunks_join c (Memref.whole cc0_scratch2)).trans (whole_any c cc0_scratch2))
      rw [four]
      isplitl [Hrc0]; · iapply (ownsAny_intro c (rcM 0)); iexact Hrc0
      isplitl [Hrc1]; · iapply (ownsAny_intro c (rcM 1)); iexact Hrc1
      isplitl [Hrc2]; · iapply (ownsAny_intro c (rcM 2)); iexact Hrc2
      iapply (ownsAny_intro c (rcM 3)); iexact Hrc3
    · iapply ((chunks_join c (Memref.whole cc0_scratch3)).trans (whole_any c cc0_scratch3))
      rw [four]
      isplitl [Hoc0]; · iexact Hoc0
      isplitl [Hoc1]; · iexact Hoc1
      isplitl [Hoc2]; · iexact Hoc2
      iexact Hoc3
  isplitl [Hg]; · iexact Hg
  iexact HO

end Cert.KernelIdeal.Ring

end
-- ==== Proof.Ideal.Launch.lean ====
/-
The launch: the proof data of the kernel's one region, its body's obligation, and the run of the whole program.
-/
module

public import proofs.«01_k».proof.Proof.Ideal.Ends
public import Idealize.ShloMosaic.Lib.Quiescent
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 53 → ℕ)

/-! ## The proof data -/

abbrev O₀ (c : Dev nD) : CellTallies nD τ sig Unit := owe c L0

/-- A device's buffers outside the pipeline, as launched. -/
def Args (c : Dev nD) : sProp 𝕄 :=
  iprop(((c : Thread nD τ).loc main_arg0 ↦{fullShare} m ((c : Thread nD τ).loc main_arg0)) ∗ ((c : Thread nD τ).loc main_arg1 ↦{fullShare} m ((c : Thread nD τ).loc main_arg1)) ∗ ((c : Thread nD τ).loc main_v1 ↦{fullShare} m ((c : Thread nD τ).loc main_v1)))

/-- What a device's body starts from, but for the scratch buffers; with them. -/
def start (c : Dev nD) : sProp 𝕄 := iprop((∃ K, recs m K ∗ Lin (F := F) c) ∗ cash (F := F) c L0 ∗ Args m c)
def Φ₀ (c : Dev nD) : sProp 𝕄 := iprop(start m c ∗ (∃ f : Buf (Elt F) ((c : Thread nD τ).loc cc0_scratch0), (c : Thread nD τ).loc cc0_scratch0 ↦{fullShare} f) ∗ (∃ f : Buf (Elt F) ((c : Thread nD τ).loc cc0_scratch1), (c : Thread nD τ).loc cc0_scratch1 ↦{fullShare} f) ∗ (∃ f : Buf (Elt F) ((c : Thread nD τ).loc cc0_scratch2), (c : Thread nD τ).loc cc0_scratch2 ↦{fullShare} f) ∗ (∃ f : Buf (Elt F) ((c : Thread nD τ).loc cc0_scratch3), (c : Thread nD τ).loc cc0_scratch3 ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gV m c
  Φ t := match t with
    | ⟨0, _⟩ => Φ₀ m c
    | ⟨_ + 1, _⟩ => Done m c
  q _ := fullShare
  owed t := match t with
    | ⟨0, _⟩ => O₀ c
    | ⟨_ + 1, _⟩ => 0

theorem fetch_0 (t : Fin cfg0.N) : (cfg0.win (0 : Fin 1)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = ((c : Thread nD τ).loc b ↦{fullShare} X) := owns_whole _ _ _ _

/-! ## The body -/

def bodyPre' (c : Dev nD) : sProp 𝕄 :=
  iprop(Φ₀ m c ∗ (dats m ρ 0 c).owesAt () t0_0.castSucc
    ∗ (∃ d, ownsF (F := F) c (Memref.whole cc0_stg0_0) ((dats m ρ 0 c).before (0 : Fin 1) t0_0 d)))
def bodyPost (c : Dev nD) : sProp 𝕄 :=
  iprop(Done m c ∗ (dats m ρ 0 c).owesAt () t0_0.succ ∗ ownsF (F := F) c (Memref.whole cc0_stg0_0) (gV m c))

/-- The body, from what the pipeline hands it to what it hands back. -/
theorem body_run (c : Dev nD) :
    bodyPre' m ρ c ⊢ WP (F := F) c (cc0_body (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14) (fun _ => bodyPost m ρ c) := by
  unfold bodyPre' Φ₀ start Args
  iintro ⟨⟨⟨⟨%K, #HR, Hlin⟩, Hcash, Ha0, Ha1, Hv⟩, Hs0, Hs1, Hs2, Hs3⟩, Ho, ⟨%d, Hg⟩⟩
  unfold Dat.owesAt Pipeline.owesWithin
  icases Ho with ⟨%W, %hW, HO⟩
  rw [show (dats m ρ 0 c).owed t0_0.castSucc = O₀ c from rfl,
    show (dats m ρ 0 c).before (0 : Fin 1) t0_0 d = gV m c from by unfold Dat.before; rw [if_pos (fetch_0 t0_0)]; rfl]
  ihave Hb := (body_start m K c) $$ [Hlin Hcash Ha0 Ha1 Hv Hs0 Hs1 Hs2 Hs3 Hg HO]
  · isplitr; · iexact HR
    isplitl [Hlin]; · iexact Hlin
    isplitl [Hcash]; · iexact Hcash
    isplitl [Ha0]; · iexact Ha0
    isplitl [Ha1]; · iexact Ha1
    isplitl [Hv]; · iexact Hv
    isplitl [Hs0]; · iexact Hs0
    isplitl [Hs1]; · iexact Hs1
    isplitl [Hs2]; · iexact Hs2
    isplitl [Hs3]; · iexact Hs3
    isplitl [Hg]; · iexact Hg
    unfold ow
    iexists W
    iexact HO
  icases Hb with ⟨HL, Hinit⟩
  iapply (wp_fupd (frame (nD := nD) (τ := τ) (sig := sig) (Ix := Unit) (Val := Elt F) (Name := ℕ) (U := UU) (Lvl := ℕ)) _ Set.univ)
  iapply (body m K c) $$ [Hinit]
  · isplitr; · iexact HR
    iexact Hinit
  iintro Hfin
  imod (body_end m K c) $$ [HL Hfin] with ⟨HD, Hg, HO⟩
  · isplitr; · iexact HR
    isplitl [HL]; · iexact HL
    iexact Hfin
  imodintro
  unfold bodyPost Dat.owesAt Pipeline.owesWithin
  rw [show (dats m ρ 0 c).owed t0_0.succ = 0 from rfl]
  isplitl [HD]; · iexact HD
  isplitl [HO]
  · unfold ow
    icases HO with ⟨%W', HO⟩
    iexists W'
    isplitr
    · ipureintro; exact fun _ _ => Or.inl trivial
    iexact HO
  iexact Hg

set_option maxRecDepth 40000 in
/-- The body meets what the pipeline asks of it. -/
theorem body_obligation (c : Dev nD) : BodyObligation (dats (F := F) m ρ 0 c) (defs₀ (F := F)) 𝒱₀ () Set.univ := fun t => by
  rw [fin_N0 t]
  rw [bigSep_W0, bigSep_W0]
  exact body_run m ρ c

/-! ## The side conditions of the launch -/

omit [FloatOps F] in
theorem SI_reads {ℓ : Loc nD τ sig} {q : PosShare TreeShare} {f : Buf (Elt F) ℓ} (s' : Phys nD τ sig (Elt F)) :
    iprop((ℓ ↦{q} f) ∗ SI s') ⊢ (⌜s'.mem.mem ℓ = f⌝ : sProp 𝕄) := by
  iintro ⟨H, HS⟩
  ihave %h := (SI_pointsTo_agree) $$ [H HS]
  · isplitl [HS] <;> iassumption
  ipureintro
  exact Buf.eq_of_forall_mem_univ h

theorem ownSemFacts : Pipeline.OwnSemFacts cfg0.spec osem := by decide

theorem share_eq (c : Dev nD) (w : Fin cfg0.W) : (dats m ρ 0 c).share w = fullShare := by
  unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' recs0 recs Args
  iintro ⟨Hargs, Hlev, Hcr, -, ⟨%K, ⟨HI, HR⟩, HL⟩⟩
  ihave Hc := (launch_cash (F := F) c L0) $$ Hcr
  imodintro
  isplitl
  · isplitl [HI HR HL Hlev]
    · iexists K
      isplitl [HI HR Hlev]
      · isplitl [HI]; · iexact HI
        isplitl [HR]; · iexact HR
        iexact Hlev
      iexact HL
    isplitl [Hc]; · iexact Hc
    iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- What a device holds after the run beyond its semaphores and scratch buffers. -/
def kept (c : Dev nD) : sProp 𝕄 :=
  iprop(unscopedSems0 c ∗ Left m c ∗ (∃ f : Buf (Elt F) ((c : Thread nD τ).loc main_v1), ⌜Good m c f⌝ ∗ (c : Thread nD τ).loc main_v1 ↦{fullShare} f))

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Done m c from rfl, scopedRest0_eq]
  unfold Done kept
  iintro ⟨Hu, Ho, HL, Hv, Hs⟩
  isplitl [Hu HL Hv]
  · isplitl [Hu]; · iexact Hu
    isplitl [HL]; · iexact HL
    iexact Hv
  isplitl [Ho]; · iexact Ho
  iexact Hs

theorem waits (c : Dev nD) : (levAts L lv : sProp 𝕄) ⊢ Pipeline.cellsWaits cfgs (dats m ρ) () 0 c :=
  Pipeline.cellsWaits_intro cfgs (dats m ρ) () 0 c fun w s t => by
    fin_cases w; fin_cases s
    rcases t with ⟨_ | _, ht⟩
    · exact mayWait c _ L0 (by decide)
    · exact mayWait c _ [] (by decide)

/-! ## The run -/

/-- What is read of a device's memory at the end: its two unstaged arguments as they were, its result block by block, its barrier counter at zero. -/
def Read (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ Good m c (s.mem ((c : Thread nD τ).loc main_v1)) ∧ ∀ sm : SemLoc sig, sm.isScoped .tc = false → s.sem ((c : Thread nD τ), sm) = 0

theorem kept_read (c : Dev nD) (s' : Phys nD τ sig (Elt F)) :
    iprop(kept m c ∗ emp ∗ SI s') ⊢ |={Set.univ}=> iprop(⌜Read m c s'.mem⌝ ∗ SI s') := by
  unfold kept Left
  iintro ⟨⟨Hu, ⟨H0, H1⟩, ⟨%f, %hf, Hv⟩⟩, -, HS⟩
  ihave %h0 := (SI_reads s') $$ [H0 HS]
  · isplitl [H0] <;> iassumption
  ihave %h1 := (SI_reads s') $$ [H1 HS]
  · isplitl [H1] <;> iassumption
  ihave %hv := (SI_reads s') $$ [Hv HS]
  · isplitl [Hv] <;> iassumption
  imod (Pipeline.unscopedSems0_read (X := unscopedSems0 c) (c := c) fupd_intro s') $$ [Hu HS] with ⟨%hs, HS⟩
  · isplitl [Hu] <;> iassumption
  imodintro
  isplitr
  · ipureintro; exact ⟨h0, h1, hv ▸ hf, hs⟩
  iexact HS

set_option maxRecDepth 8000 in
/-- From any memory with all counters zero, every weakly fair run of the whole program ends, with nothing faulting; at the end every
    device's arguments are as they were, its result holds block by block what the devices computed, and every counter is zero. -/
theorem run_main : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ Good m c (r.2.mem ((c : Thread nD τ).loc main_v1))) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := Read m) (hY := kept_read m)
    (hQ := fun _ h hs => ⟨fun c => ⟨(h c).2.2.1, (h c).2.2.2.1, ((h c).1 0).trans ((dats m ρ 0 c).arrAt_in 0 rfl _), (h c).2.2.2.2.1⟩,
      sem_eq_zero hs fun c => (h c).2.2.2.2.2⟩)

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Same
public import proofs.«01_k».proof.Proof.Ref
public import proofs.«01_k».proof.Proof.Value
public import proofs.«01_k».proof.Proof.Ideal.Launch
public import Idealize.ShloMosaic.Adequacy
public import Idealize.ShloMosaic.Init

@[expose] public section

noncomputable section

namespace Cert.Proof

open Idealize.ShloMosaic Idealize.SL.Sem Cert.Kernel

/-- The kernel runs, its arguments unchanged and every counter back at zero. -/
theorem kernel_frame : Cert.quiescent_Kernel (hKernel := Cert.Kernel.Gen.facts) := by
  intro m g _
  refine Cert.Same.run m g _ ?_
  exact (θ_run _ _ _).mono (fun r h => ⟨fun c => ⟨(h.1 c).1, (h.1 c).2.1, (h.1 c).2.2.1⟩, h.2⟩)
    (Cert.KernelIdeal.Ring.run_main (F := Bits) m g)

/-- So does the kernel over exact numbers. -/
theorem ideal_frame : Cert.quiescent_KernelIdeal (hKernelIdeal := Cert.KernelIdeal.Gen.facts) := by
  intro m g _
  exact (θ_run _ _ _).mono (fun r h => ⟨fun c => ⟨(h.1 c).1, (h.1 c).2.1, (h.1 c).2.2.1⟩, h.2⟩)
    (Cert.KernelIdeal.Ring.run_main (F := Ideal) m g)

/-- So does the reference. -/
theorem reference_frame : Cert.quiescent_ReferenceIdeal (hReferenceIdeal := Cert.ReferenceIdeal.Gen.facts) := by
  intro m g _
  exact (θ_run _ _ _).mono (fun r h => ⟨fun c => (h.1 c).2, h.2⟩)
    (Cert.ReferenceIdeal.Line.run_main (F := Ideal) m g)

/-- Over exact numbers every device ends with the reference's result. -/
theorem value : Cert.algebraic_KernelIdeal_ReferenceIdeal (hKernelIdeal := Cert.KernelIdeal.Gen.facts)
    (hReferenceIdeal := Cert.ReferenceIdeal.Gen.facts) := by
  intro m g m' g' _ hm
  refine ⟨_, (θ_run _ _ _).mono (fun r h c => ⟨?_, (h.1 c).1, (h.1 c).2.1, (h.1 c).2.2.1⟩)
      (Cert.KernelIdeal.Ring.run_main (F := Ideal) m g),
    (θ_run _ _ _).mono (fun r h => h.1 0) (Cert.ReferenceIdeal.Line.run_main (F := Ideal) m' g')⟩
  exact Cert.Value.good_value m _ _ _ hm c _ (h.1 c).2.2.2

theorem claim : Cert.Claim := ⟨Cert.Kernel.Gen.facts, Cert.KernelIdeal.Gen.facts, Cert.ReferenceIdeal.Gen.facts,
  kernel_frame, ideal_frame, reference_frame, trivial, value⟩

end Cert.Proof

end
